-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_real_inputs [hPre_real_inputs : Cert.Pre_real_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_real_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_real_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_real_inputs [hPre_real_inputs : Cert.Pre_real_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_real_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_real_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_real_inputs [hKernel4Ideal : Cert.Kernel4Ideal.Facts] [hPre_real_inputs : Cert.Pre_real_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_real_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_real_inputs [hReference4Ideal : Cert.Reference4Ideal.Facts] [hPre_real_inputs : Cert.Pre_real_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_real_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "inv_log2" .f32 0x3FB8AA3B#32 (((Real.log 2)⁻¹ : ℝ) : EReal)

def algebraic_Kernel4Ideal_Reference4Ideal_pre_real_inputs [hKernel4Ideal : Cert.Kernel4Ideal.Facts] [hReference4Ideal : Cert.Reference4Ideal.Facts] [hPre_real_inputs : Cert.Pre_real_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_real_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_real_inputs : Cert.Pre_real_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_real_inputs (hKernel4Ideal := hKernel4Ideal) (hPre_real_inputs := hPre_real_inputs)
    ∧ quiescent_Reference4Ideal (hReference4Ideal := hReference4Ideal)
    ∧ quiescent_Reference4Ideal_pre_real_inputs (hReference4Ideal := hReference4Ideal) (hPre_real_inputs := hPre_real_inputs)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_real_inputs (hKernel4Ideal := hKernel4Ideal) (hReference4Ideal := hReference4Ideal) (hPre_real_inputs := hPre_real_inputs)
-- ==== Pre_real_inputs.lean ====
abbrev S32768x1024 : Shape := ⟨2, ![32768, 1024]⟩
abbrev S1024x4096 : Shape := ⟨2, ![1024, 4096]⟩
abbrev S1024 : Shape := ⟨1, ![1024]⟩
abbrev S1024x1024 : Shape := ⟨2, ![1024, 1024]⟩
abbrev S4x1024 : Shape := ⟨2, ![4, 1024]⟩
abbrev S_ : Shape := ⟨0, ![]⟩

class Facts : Prop where
  bcast_S_S32768x1024 : S_.BroadcastsInDim S32768x1024 (![] : Fin 0 → Fin S32768x1024.rank)
  bcast_S_S1024x4096 : S_.BroadcastsInDim S1024x4096 (![] : Fin 0 → Fin S1024x4096.rank)

variable [Facts]

def fn {F : FTy → Type} [FloatOps F] (main_arg0 : FVec F S32768x1024 .f32) (main_arg1 : FVec F S1024x4096 .f32) (main_arg2 : FVec F S1024 .f32) (main_arg3 : FVec F S1024x1024 .f32) (main_arg4 : FVec F S1024 .f32) (main_arg5 : FVec F S1024 .f32) (main_arg6 : FVec F S4x1024 .f32) : IVec S32768x1024 1 × IVec S1024x4096 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  (main_v2, main_v5)
-- ==== Kernel.lean ====
abbrev S2048x16384 : Shape := ⟨2, ![2048, 16384]⟩
abbrev S1024x2048 : Shape := ⟨2, ![1024, 2048]⟩
abbrev S1024x64 : Shape := ⟨2, ![1024, 64]⟩
abbrev S64x16x64 : Shape := ⟨3, ![64, 16, 64]⟩
abbrev S1024 : Shape := ⟨1, ![1024]⟩
abbrev S1024x1024 : Shape := ⟨2, ![1024, 1024]⟩
abbrev S16x16 : Shape := ⟨2, ![16, 16]⟩
abbrev S_ : Shape := ⟨0, ![]⟩
abbrev S4x16x16x64 : Shape := ⟨4, ![4, 16, 16, 64]⟩
abbrev S4x16x16x1x64 : Shape := ⟨5, ![4, 16, 16, 1, 64]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S4x256x2048 : Shape := ⟨3, ![4, 256, 2048]⟩
abbrev S4x64x16x16 : Shape := ⟨4, ![4, 64, 16, 16]⟩
abbrev S4x1x64x16x16 : Shape := ⟨5, ![4, 1, 64, 16, 16]⟩
abbrev S4x16x64x16x16 : Shape := ⟨5, ![4, 16, 64, 16, 16]⟩
abbrev S4x1024x256 : Shape := ⟨3, ![4, 1024, 256]⟩
abbrev S4x2048x256 : Shape := ⟨3, ![4, 2048, 256]⟩
abbrev S64x64 : Shape := ⟨2, ![64, 64]⟩
abbrev S4x1024 : Shape := ⟨2, ![4, 1024]⟩
abbrev S4x1x1024 : Shape := ⟨3, ![4, 1, 1024]⟩
abbrev S4x2x1024 : Shape := ⟨3, ![4, 2, 1024]⟩
abbrev S1x1024 : Shape := ⟨2, ![1, 1024]⟩
abbrev S32x16384 : Shape := ⟨2, ![32, 16384]⟩
abbrev S4x2x16x1024 : Shape := ⟨4, ![4, 2, 16, 1024]⟩
abbrev S512x2048 : Shape := ⟨2, ![512, 2048]⟩
abbrev S512x1024 : Shape := ⟨2, ![512, 1024]⟩
abbrev S8x512x128 : Shape := ⟨3, ![8, 512, 128]⟩
abbrev S16x128 : Shape := ⟨2, ![16, 128]⟩
abbrev S1x16x128 : Shape := ⟨3, ![1, 16, 128]⟩
abbrev S1x256x128 : Shape := ⟨3, ![1, 256, 128]⟩
abbrev S256x128 : Shape := ⟨2, ![256, 128]⟩
abbrev S256x1024 : Shape := ⟨2, ![256, 1024]⟩
abbrev S256x2048 : Shape := ⟨2, ![256, 2048]⟩
abbrev S512x256 : Shape := ⟨2, ![512, 256]⟩
abbrev S1x256x2048 : Shape := ⟨3, ![1, 256, 2048]⟩
abbrev S1x1x1024 : Shape := ⟨3, ![1, 1, 1024]⟩
abbrev S16x1024 : Shape := ⟨2, ![16, 1024]⟩
abbrev S1x1x16x1024 : Shape := ⟨4, ![1, 1, 16, 1024]⟩
abbrev S1x2048x256 : Shape := ⟨3, ![1, 2048, 256]⟩
abbrev S2048x256 : Shape := ⟨2, ![2048, 256]⟩
abbrev S256 : Shape := ⟨1, ![256]⟩
abbrev S256x1 : Shape := ⟨2, ![256, 1]⟩

abbrev nBuf : Space → Nat
  | .hbm => 71
  | .vmem => 20
  | .smem => 0
  | _ => 0

abbrev bufTy : (tb : Table) → Fin (tcTables nBuf tb) → BufTy
  | .hbm, ⟨0, _⟩ => ⟨S2048x16384, .f32⟩
  | .hbm, ⟨1, _⟩ => ⟨S1024x2048, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S64x16x64, .f32⟩
  | .hbm, ⟨7, _⟩ => ⟨S64x16x64, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x16, .f32⟩
  | .hbm, ⟨21, _⟩ => ⟨S4x16x16x64, .f32⟩
  | .hbm, ⟨22, _⟩ => ⟨S4x16x16x1x64, .f32⟩
  | .hbm, ⟨23, _⟩ => ⟨S1x16x1x16x1, .f32⟩
  | .hbm, ⟨24, _⟩ => ⟨S4x16x16x16x64, .f32⟩
  | .hbm, ⟨25, _⟩ => ⟨S4x16x16x16x64, .f32⟩
  | .hbm, ⟨26, _⟩ => ⟨S4x16x16x16x64, .f32⟩
  | .hbm, ⟨27, _⟩ => ⟨S4x256x1024, .f32⟩
  | .hbm, ⟨28, _⟩ => ⟨S4x16x16x64, .f32⟩
  | .hbm, ⟨29, _⟩ => ⟨S4x16x16x1x64, .f32⟩
  | .hbm, ⟨30, _⟩ => ⟨S1x16x1x16x1, .f32⟩
  | .hbm, ⟨31, _⟩ => ⟨S4x16x16x16x64, .f32⟩
  | .hbm, ⟨32, _⟩ => ⟨S4x16x16x16x64, .f32⟩
  | .hbm, ⟨33, _⟩ => ⟨S4x16x16x16x64, .f32⟩
  | .hbm, ⟨34, _⟩ => ⟨S4x256x1024, .f32⟩
  | .hbm, ⟨35, _⟩ => ⟨S4x256x2048, .f32⟩
  | .hbm, ⟨36, _⟩ => ⟨S4x256x2048, .bf16⟩
  | .hbm, ⟨37, _⟩ => ⟨S4x16x16x64, .f32⟩
  | .hbm, ⟨38, _⟩ => ⟨S4x64x16x16, .f32⟩
  | .hbm, ⟨39, _⟩ => ⟨S4x1x64x16x16, .f32⟩
  | .hbm, ⟨40, _⟩ => ⟨S1x16x1x16x1, .f32⟩
  | .hbm, ⟨41, _⟩ => ⟨S4x16x64x16x16, .f32⟩
  | .hbm, ⟨42, _⟩ => ⟨S4x16x64x16x16, .f32⟩
  | .hbm, ⟨43, _⟩ => ⟨S4x16x64x16x16, .f32⟩
  | .hbm, ⟨44, _⟩ => ⟨S4x1024x256, .f32⟩
  | .hbm, ⟨45, _⟩ => ⟨S4x16x16x64, .f32⟩
  | .hbm, ⟨46, _⟩ => ⟨S4x64x16x16, .f32⟩
  | .hbm, ⟨47, _⟩ => ⟨S4x1x64x16x16, .f32⟩
  | .hbm, ⟨48, _⟩ => ⟨S1x16x1x16x1, .f32⟩
  | .hbm, ⟨49, _⟩ => ⟨S4x16x64x16x16, .f32⟩
  | .hbm, ⟨50, _⟩ => ⟨S4x16x64x16x16, .f32⟩
  | .hbm, ⟨51, _⟩ => ⟨S4x16x64x16x16, .f32⟩
  | .hbm, ⟨52, _⟩ => ⟨S4x1024x256, .f32⟩
  | .hbm, ⟨53, _⟩ => ⟨S4x1024x256, .f32⟩
  | .hbm, ⟨54, _⟩ => ⟨S4x2048x256, .f32⟩
  | .hbm, ⟨55, _⟩ => ⟨S4x2048x256, .bf16⟩
  | .hbm, ⟨56, _⟩ => ⟨S64x64, .f32⟩
  | .hbm, ⟨57, _⟩ => ⟨S4x1024, .f32⟩
  | .hbm, ⟨58, _⟩ => ⟨S64x64, .f32⟩
  | .hbm, ⟨59, _⟩ => ⟨S4x1024, .f32⟩
  | .hbm, ⟨60, _⟩ => ⟨S4x1x1024, .f32⟩
  | .hbm, ⟨61, _⟩ => ⟨S4x1x1024, .f32⟩
  | .hbm, ⟨62, _⟩ => ⟨S4x2x1024, .f32⟩
  | .hbm, ⟨63, _⟩ => ⟨S1024x2048, .bf16⟩
  | .hbm, ⟨64, _⟩ => ⟨S1x1024, .f32⟩
  | .hbm, ⟨65, _⟩ => ⟨S1024x1024, .bf16⟩
  | .hbm, ⟨66, _⟩ => ⟨S1x1024, .f32⟩
  | .hbm, ⟨67, _⟩ => ⟨S1024x1024, .bf16⟩
  | .hbm, ⟨68, _⟩ => ⟨S1x1024, .f32⟩
  | .hbm, ⟨69, _⟩ => ⟨S1x1024, .f32⟩
  | .hbm, ⟨70, _⟩ => ⟨S2048x16384, .f32⟩
  | .local _ .vmem, ⟨0, _⟩ => ⟨S32x16384, .f32⟩
  | .local _ .vmem, ⟨1, _⟩ => ⟨S32x16384, .f32⟩
  | .local _ .vmem, ⟨2, _⟩ => ⟨S1024x2048, .bf16⟩
  | .local _ .vmem, ⟨3, _⟩ => ⟨S4x256x2048, .bf16⟩
  | .local _ .vmem, ⟨4, _⟩ => ⟨S4x2x1024, .f32⟩
  | .local _ .vmem, ⟨5, _⟩ => ⟨S4x2048x256, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S32x16384, .f32⟩
  | .local _ .vmem, ⟨13, _⟩ => ⟨S32x16384, .f32⟩
  | .local _ .vmem, ⟨14, _⟩ => ⟨S4x2x16x1024, .f32⟩
  | .local _ .vmem, ⟨15, _⟩ => ⟨S512x2048, .f32⟩
  | .local _ .vmem, ⟨16, _⟩ => ⟨S512x2048, .bf16⟩
  | .local _ .vmem, ⟨17, _⟩ => ⟨S512x1024, .f32⟩
  | .local _ .vmem, ⟨18, _⟩ => ⟨S8x512x128, .f32⟩
  | .local _ .vmem, ⟨19, _⟩ => ⟨S8x512x128, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def k0_mult1 : BitVec 32 :=
  let c0_i32_1195 : BitVec 32 := 0#32
  let c16_i32 : BitVec 32 := 16#32
  let v1092 : BitVec 32 := Scalar.muli c0_i32_1195 c16_i32
  v1092
def k0_off1 (c0_i32_1195 : BitVec 32) : Fin 2 → Nat :=
  let c16_i32 : BitVec 32 := 16#32
  let v1092 : BitVec 32 := Scalar.muli c0_i32_1195 c16_i32
  let v1093 : BitVec 32 := v1092
  let v1094 : Index := Scalar.indexCast v1093
  let c0_1196 : Index := 0#32
  ![v1094.toNat, 0]
def k0_off2 (c0_i32_1195 : BitVec 32) : Fin 2 → Nat :=
  let c16_i32 : BitVec 32 := 16#32
  let v1092 : BitVec 32 := Scalar.muli c0_i32_1195 c16_i32
  let v1093 : BitVec 32 := v1092
  let v1096 : Index := Scalar.indexCast v1093
  let c1024_1197 : Index := 1024#32
  ![v1096.toNat, 1024]
def k0_mult2 : BitVec 32 :=
  let c1_i32 : BitVec 32 := 1#32
  let c16_i32_1200 : BitVec 32 := 16#32
  let v1116 : BitVec 32 := Scalar.muli c1_i32 c16_i32_1200
  v1116
def k0_mult3 : BitVec 32 :=
  let c2_i32 : BitVec 32 := 2#32
  let c16_i32_1205 : BitVec 32 := 16#32
  let v1140 : BitVec 32 := Scalar.muli c2_i32 c16_i32_1205
  v1140
def k0_mult4 : BitVec 32 :=
  let c3_i32 : BitVec 32 := 3#32
  let c16_i32_1210 : BitVec 32 := 16#32
  let v1164 : BitVec 32 := Scalar.muli c3_i32 c16_i32_1210
  v1164
def k0_mult5 : BitVec 32 :=
  let c4_i32 : BitVec 32 := 4#32
  let c16_i32_1215 : BitVec 32 := 16#32
  let v1188 : BitVec 32 := Scalar.muli c4_i32 c16_i32_1215
  v1188
def k0_mult6 : BitVec 32 :=
  let c5_i32 : BitVec 32 := 5#32
  let c16_i32_1220 : BitVec 32 := 16#32
  let v1212 : BitVec 32 := Scalar.muli c5_i32 c16_i32_1220
  v1212
def k0_mult7 : BitVec 32 :=
  let c6_i32 : BitVec 32 := 6#32
  let c16_i32_1225 : BitVec 32 := 16#32
  let v1236 : BitVec 32 := Scalar.muli c6_i32 c16_i32_1225
  v1236
def k0_mult8 : BitVec 32 :=
  let c7_i32 : BitVec 32 := 7#32
  let c16_i32_1230 : BitVec 32 := 16#32
  let v1260 : BitVec 32 := Scalar.muli c7_i32 c16_i32_1230
  v1260
def k0_mult9 : BitVec 32 :=
  let c8_i32 : BitVec 32 := 8#32
  let c16_i32_1235 : BitVec 32 := 16#32
  let v1284 : BitVec 32 := Scalar.muli c8_i32 c16_i32_1235
  v1284
def k0_mult10 : BitVec 32 :=
  let c9_i32 : BitVec 32 := 9#32
  let c16_i32_1240 : BitVec 32 := 16#32
  let v1308 : BitVec 32 := Scalar.muli c9_i32 c16_i32_1240
  v1308
def k0_mult11 : BitVec 32 :=
  let c10_i32 : BitVec 32 := 10#32
  let c16_i32_1245 : BitVec 32 := 16#32
  let v1332 : BitVec 32 := Scalar.muli c10_i32 c16_i32_1245
  v1332
def k0_mult12 : BitVec 32 :=
  let c11_i32 : BitVec 32 := 11#32
  let c16_i32_1250 : BitVec 32 := 16#32
  let v1356 : BitVec 32 := Scalar.muli c11_i32 c16_i32_1250
  v1356
def k0_mult13 : BitVec 32 :=
  let c12_i32 : BitVec 32 := 12#32
  let c16_i32_1255 : BitVec 32 := 16#32
  let v1380 : BitVec 32 := Scalar.muli c12_i32 c16_i32_1255
  v1380
def k0_mult14 : BitVec 32 :=
  let c13_i32 : BitVec 32 := 13#32
  let c16_i32_1260 : BitVec 32 := 16#32
  let v1404 : BitVec 32 := Scalar.muli c13_i32 c16_i32_1260
  v1404
def k0_mult15 : BitVec 32 :=
  let c14_i32 : BitVec 32 := 14#32
  let c16_i32_1265 : BitVec 32 := 16#32
  let v1428 : BitVec 32 := Scalar.muli c14_i32 c16_i32_1265
  v1428
def k0_mult16 : BitVec 32 :=
  let c15_i32 : BitVec 32 := 15#32
  let c16_i32_1270 : BitVec 32 := 16#32
  let v1452 : BitVec 32 := Scalar.muli c15_i32 c16_i32_1270
  v1452
def k0_mult17 : BitVec 32 :=
  let c16_i32_1275 : BitVec 32 := 16#32
  let c16_i32_1276 : BitVec 32 := 16#32
  let v1476 : BitVec 32 := Scalar.muli c16_i32_1275 c16_i32_1276
  v1476
def k0_mult18 : BitVec 32 :=
  let c17_i32 : BitVec 32 := 17#32
  let c16_i32_1281 : BitVec 32 := 16#32
  let v1500 : BitVec 32 := Scalar.muli c17_i32 c16_i32_1281
  v1500
def k0_mult19 : BitVec 32 :=
  let c18_i32 : BitVec 32 := 18#32
  let c16_i32_1286 : BitVec 32 := 16#32
  let v1524 : BitVec 32 := Scalar.muli c18_i32 c16_i32_1286
  v1524
def k0_mult20 : BitVec 32 :=
  let c19_i32 : BitVec 32 := 19#32
  let c16_i32_1291 : BitVec 32 := 16#32
  let v1548 : BitVec 32 := Scalar.muli c19_i32 c16_i32_1291
  v1548
def k0_mult21 : BitVec 32 :=
  let c20_i32 : BitVec 32 := 20#32
  let c16_i32_1296 : BitVec 32 := 16#32
  let v1572 : BitVec 32 := Scalar.muli c20_i32 c16_i32_1296
  v1572
def k0_mult22 : BitVec 32 :=
  let c21_i32 : BitVec 32 := 21#32
  let c16_i32_1301 : BitVec 32 := 16#32
  let v1596 : BitVec 32 := Scalar.muli c21_i32 c16_i32_1301
  v1596
def k0_mult23 : BitVec 32 :=
  let c22_i32 : BitVec 32 := 22#32
  let c16_i32_1306 : BitVec 32 := 16#32
  let v1620 : BitVec 32 := Scalar.muli c22_i32 c16_i32_1306
  v1620
def k0_mult24 : BitVec 32 :=
  let c23_i32 : BitVec 32 := 23#32
  let c16_i32_1311 : BitVec 32 := 16#32
  let v1644 : BitVec 32 := Scalar.muli c23_i32 c16_i32_1311
  v1644
def k0_mult25 : BitVec 32 :=
  let c24_i32 : BitVec 32 := 24#32
  let c16_i32_1316 : BitVec 32 := 16#32
  let v1668 : BitVec 32 := Scalar.muli c24_i32 c16_i32_1316
  v1668
def k0_mult26 : BitVec 32 :=
  let c25_i32 : BitVec 32 := 25#32
  let c16_i32_1321 : BitVec 32 := 16#32
  let v1692 : BitVec 32 := Scalar.muli c25_i32 c16_i32_1321
  v1692
def k0_mult27 : BitVec 32 :=
  let c26_i32 : BitVec 32 := 26#32
  let c16_i32_1326 : BitVec 32 := 16#32
  let v1716 : BitVec 32 := Scalar.muli c26_i32 c16_i32_1326
  v1716
def k0_mult28 : BitVec 32 :=
  let c27_i32 : BitVec 32 := 27#32
  let c16_i32_1331 : BitVec 32 := 16#32
  let v1740 : BitVec 32 := Scalar.muli c27_i32 c16_i32_1331
  v1740
def k0_mult29 : BitVec 32 :=
  let c28_i32 : BitVec 32 := 28#32
  let c16_i32_1336 : BitVec 32 := 16#32
  let v1764 : BitVec 32 := Scalar.muli c28_i32 c16_i32_1336
  v1764
def k0_mult30 : BitVec 32 :=
  let c29_i32 : BitVec 32 := 29#32
  let c16_i32_1341 : BitVec 32 := 16#32
  let v1788 : BitVec 32 := Scalar.muli c29_i32 c16_i32_1341
  v1788
def k0_mult31 : BitVec 32 :=
  let c30_i32 : BitVec 32 := 30#32
  let c16_i32_1346 : BitVec 32 := 16#32
  let v1812 : BitVec 32 := Scalar.muli c30_i32 c16_i32_1346
  v1812
def k0_mult32 : BitVec 32 :=
  let c31_i32 : BitVec 32 := 31#32
  let c16_i32_1351 : BitVec 32 := 16#32
  let v1836 : BitVec 32 := Scalar.muli c31_i32 c16_i32_1351
  v1836
def k0_mult33 : BitVec 32 :=
  let c0_i32_1392 : BitVec 32 := 0#32
  let c16_i32_1393 : BitVec 32 := 16#32
  let v1892 : BitVec 32 := Scalar.muli c0_i32_1392 c16_i32_1393
  v1892
def k0_mult34 : BitVec 32 :=
  let c1_i32_1398 : BitVec 32 := 1#32
  let c16_i32_1399 : BitVec 32 := 16#32
  let v1916 : BitVec 32 := Scalar.muli c1_i32_1398 c16_i32_1399
  v1916
def k0_mult35 : BitVec 32 :=
  let c2_i32_1404 : BitVec 32 := 2#32
  let c16_i32_1405 : BitVec 32 := 16#32
  let v1940 : BitVec 32 := Scalar.muli c2_i32_1404 c16_i32_1405
  v1940
def k0_mult36 : BitVec 32 :=
  let c3_i32_1410 : BitVec 32 := 3#32
  let c16_i32_1411 : BitVec 32 := 16#32
  let v1964 : BitVec 32 := Scalar.muli c3_i32_1410 c16_i32_1411
  v1964
def k0_mult37 : BitVec 32 :=
  let c4_i32_1416 : BitVec 32 := 4#32
  let c16_i32_1417 : BitVec 32 := 16#32
  let v1988 : BitVec 32 := Scalar.muli c4_i32_1416 c16_i32_1417
  v1988
def k0_mult38 : BitVec 32 :=
  let c5_i32_1422 : BitVec 32 := 5#32
  let c16_i32_1423 : BitVec 32 := 16#32
  let v2012 : BitVec 32 := Scalar.muli c5_i32_1422 c16_i32_1423
  v2012
def k0_mult39 : BitVec 32 :=
  let c6_i32_1428 : BitVec 32 := 6#32
  let c16_i32_1429 : BitVec 32 := 16#32
  let v2036 : BitVec 32 := Scalar.muli c6_i32_1428 c16_i32_1429
  v2036
def k0_mult40 : BitVec 32 :=
  let c7_i32_1434 : BitVec 32 := 7#32
  let c16_i32_1435 : BitVec 32 := 16#32
  let v2060 : BitVec 32 := Scalar.muli c7_i32_1434 c16_i32_1435
  v2060
def k0_mult41 : BitVec 32 :=
  let c8_i32_1440 : BitVec 32 := 8#32
  let c16_i32_1441 : BitVec 32 := 16#32
  let v2084 : BitVec 32 := Scalar.muli c8_i32_1440 c16_i32_1441
  v2084
def k0_mult42 : BitVec 32 :=
  let c9_i32_1446 : BitVec 32 := 9#32
  let c16_i32_1447 : BitVec 32 := 16#32
  let v2108 : BitVec 32 := Scalar.muli c9_i32_1446 c16_i32_1447
  v2108
def k0_mult43 : BitVec 32 :=
  let c10_i32_1452 : BitVec 32 := 10#32
  let c16_i32_1453 : BitVec 32 := 16#32
  let v2132 : BitVec 32 := Scalar.muli c10_i32_1452 c16_i32_1453
  v2132
def k0_mult44 : BitVec 32 :=
  let c11_i32_1458 : BitVec 32 := 11#32
  let c16_i32_1459 : BitVec 32 := 16#32
  let v2156 : BitVec 32 := Scalar.muli c11_i32_1458 c16_i32_1459
  v2156
def k0_mult45 : BitVec 32 :=
  let c12_i32_1464 : BitVec 32 := 12#32
  let c16_i32_1465 : BitVec 32 := 16#32
  let v2180 : BitVec 32 := Scalar.muli c12_i32_1464 c16_i32_1465
  v2180
def k0_mult46 : BitVec 32 :=
  let c13_i32_1470 : BitVec 32 := 13#32
  let c16_i32_1471 : BitVec 32 := 16#32
  let v2204 : BitVec 32 := Scalar.muli c13_i32_1470 c16_i32_1471
  v2204
def k0_mult47 : BitVec 32 :=
  let c14_i32_1476 : BitVec 32 := 14#32
  let c16_i32_1477 : BitVec 32 := 16#32
  let v2228 : BitVec 32 := Scalar.muli c14_i32_1476 c16_i32_1477
  v2228
def k0_mult48 : BitVec 32 :=
  let c15_i32_1482 : BitVec 32 := 15#32
  let c16_i32_1483 : BitVec 32 := 16#32
  let v2252 : BitVec 32 := Scalar.muli c15_i32_1482 c16_i32_1483
  v2252
def k0_mult49 : BitVec 32 :=
  let c16_i32_1488 : BitVec 32 := 16#32
  let c16_i32_1489 : BitVec 32 := 16#32
  let v2276 : BitVec 32 := Scalar.muli c16_i32_1488 c16_i32_1489
  v2276
def k0_mult50 : BitVec 32 :=
  let c17_i32_1494 : BitVec 32 := 17#32
  let c16_i32_1495 : BitVec 32 := 16#32
  let v2300 : BitVec 32 := Scalar.muli c17_i32_1494 c16_i32_1495
  v2300
def k0_mult51 : BitVec 32 :=
  let c18_i32_1500 : BitVec 32 := 18#32
  let c16_i32_1501 : BitVec 32 := 16#32
  let v2324 : BitVec 32 := Scalar.muli c18_i32_1500 c16_i32_1501
  v2324
def k0_mult52 : BitVec 32 :=
  let c19_i32_1506 : BitVec 32 := 19#32
  let c16_i32_1507 : BitVec 32 := 16#32
  let v2348 : BitVec 32 := Scalar.muli c19_i32_1506 c16_i32_1507
  v2348
def k0_mult53 : BitVec 32 :=
  let c20_i32_1512 : BitVec 32 := 20#32
  let c16_i32_1513 : BitVec 32 := 16#32
  let v2372 : BitVec 32 := Scalar.muli c20_i32_1512 c16_i32_1513
  v2372
def k0_mult54 : BitVec 32 :=
  let c21_i32_1518 : BitVec 32 := 21#32
  let c16_i32_1519 : BitVec 32 := 16#32
  let v2396 : BitVec 32 := Scalar.muli c21_i32_1518 c16_i32_1519
  v2396
def k0_mult55 : BitVec 32 :=
  let c22_i32_1524 : BitVec 32 := 22#32
  let c16_i32_1525 : BitVec 32 := 16#32
  let v2420 : BitVec 32 := Scalar.muli c22_i32_1524 c16_i32_1525
  v2420
def k0_mult56 : BitVec 32 :=
  let c23_i32_1530 : BitVec 32 := 23#32
  let c16_i32_1531 : BitVec 32 := 16#32
  let v2444 : BitVec 32 := Scalar.muli c23_i32_1530 c16_i32_1531
  v2444
def k0_mult57 : BitVec 32 :=
  let c24_i32_1536 : BitVec 32 := 24#32
  let c16_i32_1537 : BitVec 32 := 16#32
  let v2468 : BitVec 32 := Scalar.muli c24_i32_1536 c16_i32_1537
  v2468
def k0_mult58 : BitVec 32 :=
  let c25_i32_1542 : BitVec 32 := 25#32
  let c16_i32_1543 : BitVec 32 := 16#32
  let v2492 : BitVec 32 := Scalar.muli c25_i32_1542 c16_i32_1543
  v2492
def k0_mult59 : BitVec 32 :=
  let c26_i32_1548 : BitVec 32 := 26#32
  let c16_i32_1549 : BitVec 32 := 16#32
  let v2516 : BitVec 32 := Scalar.muli c26_i32_1548 c16_i32_1549
  v2516
def k0_mult60 : BitVec 32 :=
  let c27_i32_1554 : BitVec 32 := 27#32
  let c16_i32_1555 : BitVec 32 := 16#32
  let v2540 : BitVec 32 := Scalar.muli c27_i32_1554 c16_i32_1555
  v2540
def k0_mult61 : BitVec 32 :=
  let c28_i32_1560 : BitVec 32 := 28#32
  let c16_i32_1561 : BitVec 32 := 16#32
  let v2564 : BitVec 32 := Scalar.muli c28_i32_1560 c16_i32_1561
  v2564
def k0_mult62 : BitVec 32 :=
  let c29_i32_1566 : BitVec 32 := 29#32
  let c16_i32_1567 : BitVec 32 := 16#32
  let v2588 : BitVec 32 := Scalar.muli c29_i32_1566 c16_i32_1567
  v2588
def k0_mult63 : BitVec 32 :=
  let c30_i32_1572 : BitVec 32 := 30#32
  let c16_i32_1573 : BitVec 32 := 16#32
  let v2612 : BitVec 32 := Scalar.muli c30_i32_1572 c16_i32_1573
  v2612
def k0_mult64 : BitVec 32 :=
  let c31_i32_1578 : BitVec 32 := 31#32
  let c16_i32_1579 : BitVec 32 := 16#32
  let v2636 : BitVec 32 := Scalar.muli c31_i32_1578 c16_i32_1579
  v2636
def k0_mult65 : BitVec 32 :=
  let c0_i32_1621 : BitVec 32 := 0#32
  let c16_i32_1622 : BitVec 32 := 16#32
  let v2692 : BitVec 32 := Scalar.muli c0_i32_1621 c16_i32_1622
  v2692
def k0_mult66 : BitVec 32 :=
  let c1_i32_1627 : BitVec 32 := 1#32
  let c16_i32_1628 : BitVec 32 := 16#32
  let v2716 : BitVec 32 := Scalar.muli c1_i32_1627 c16_i32_1628
  v2716
def k0_mult67 : BitVec 32 :=
  let c2_i32_1633 : BitVec 32 := 2#32
  let c16_i32_1634 : BitVec 32 := 16#32
  let v2740 : BitVec 32 := Scalar.muli c2_i32_1633 c16_i32_1634
  v2740
def k0_mult68 : BitVec 32 :=
  let c3_i32_1639 : BitVec 32 := 3#32
  let c16_i32_1640 : BitVec 32 := 16#32
  let v2764 : BitVec 32 := Scalar.muli c3_i32_1639 c16_i32_1640
  v2764
def k0_mult69 : BitVec 32 :=
  let c4_i32_1645 : BitVec 32 := 4#32
  let c16_i32_1646 : BitVec 32 := 16#32
  let v2788 : BitVec 32 := Scalar.muli c4_i32_1645 c16_i32_1646
  v2788
def k0_mult70 : BitVec 32 :=
  let c5_i32_1651 : BitVec 32 := 5#32
  let c16_i32_1652 : BitVec 32 := 16#32
  let v2812 : BitVec 32 := Scalar.muli c5_i32_1651 c16_i32_1652
  v2812
def k0_mult71 : BitVec 32 :=
  let c6_i32_1657 : BitVec 32 := 6#32
  let c16_i32_1658 : BitVec 32 := 16#32
  let v2836 : BitVec 32 := Scalar.muli c6_i32_1657 c16_i32_1658
  v2836
def k0_mult72 : BitVec 32 :=
  let c7_i32_1663 : BitVec 32 := 7#32
  let c16_i32_1664 : BitVec 32 := 16#32
  let v2860 : BitVec 32 := Scalar.muli c7_i32_1663 c16_i32_1664
  v2860
def k0_mult73 : BitVec 32 :=
  let c8_i32_1669 : BitVec 32 := 8#32
  let c16_i32_1670 : BitVec 32 := 16#32
  let v2884 : BitVec 32 := Scalar.muli c8_i32_1669 c16_i32_1670
  v2884
def k0_mult74 : BitVec 32 :=
  let c9_i32_1675 : BitVec 32 := 9#32
  let c16_i32_1676 : BitVec 32 := 16#32
  let v2908 : BitVec 32 := Scalar.muli c9_i32_1675 c16_i32_1676
  v2908
def k0_mult75 : BitVec 32 :=
  let c10_i32_1681 : BitVec 32 := 10#32
  let c16_i32_1682 : BitVec 32 := 16#32
  let v2932 : BitVec 32 := Scalar.muli c10_i32_1681 c16_i32_1682
  v2932
def k0_mult76 : BitVec 32 :=
  let c11_i32_1687 : BitVec 32 := 11#32
  let c16_i32_1688 : BitVec 32 := 16#32
  let v2956 : BitVec 32 := Scalar.muli c11_i32_1687 c16_i32_1688
  v2956
def k0_mult77 : BitVec 32 :=
  let c12_i32_1693 : BitVec 32 := 12#32
  let c16_i32_1694 : BitVec 32 := 16#32
  let v2980 : BitVec 32 := Scalar.muli c12_i32_1693 c16_i32_1694
  v2980
def k0_mult78 : BitVec 32 :=
  let c13_i32_1699 : BitVec 32 := 13#32
  let c16_i32_1700 : BitVec 32 := 16#32
  let v3004 : BitVec 32 := Scalar.muli c13_i32_1699 c16_i32_1700
  v3004
def k0_mult79 : BitVec 32 :=
  let c14_i32_1705 : BitVec 32 := 14#32
  let c16_i32_1706 : BitVec 32 := 16#32
  let v3028 : BitVec 32 := Scalar.muli c14_i32_1705 c16_i32_1706
  v3028
def k0_mult80 : BitVec 32 :=
  let c15_i32_1711 : BitVec 32 := 15#32
  let c16_i32_1712 : BitVec 32 := 16#32
  let v3052 : BitVec 32 := Scalar.muli c15_i32_1711 c16_i32_1712
  v3052
def k0_mult81 : BitVec 32 :=
  let c16_i32_1717 : BitVec 32 := 16#32
  let c16_i32_1718 : BitVec 32 := 16#32
  let v3076 : BitVec 32 := Scalar.muli c16_i32_1717 c16_i32_1718
  v3076
def k0_mult82 : BitVec 32 :=
  let c17_i32_1723 : BitVec 32 := 17#32
  let c16_i32_1724 : BitVec 32 := 16#32
  let v3100 : BitVec 32 := Scalar.muli c17_i32_1723 c16_i32_1724
  v3100
def k0_mult83 : BitVec 32 :=
  let c18_i32_1729 : BitVec 32 := 18#32
  let c16_i32_1730 : BitVec 32 := 16#32
  let v3124 : BitVec 32 := Scalar.muli c18_i32_1729 c16_i32_1730
  v3124
def k0_mult84 : BitVec 32 :=
  let c19_i32_1735 : BitVec 32 := 19#32
  let c16_i32_1736 : BitVec 32 := 16#32
  let v3148 : BitVec 32 := Scalar.muli c19_i32_1735 c16_i32_1736
  v3148
def k0_mult85 : BitVec 32 :=
  let c20_i32_1741 : BitVec 32 := 20#32
  let c16_i32_1742 : BitVec 32 := 16#32
  let v3172 : BitVec 32 := Scalar.muli c20_i32_1741 c16_i32_1742
  v3172
def k0_mult86 : BitVec 32 :=
  let c21_i32_1747 : BitVec 32 := 21#32
  let c16_i32_1748 : BitVec 32 := 16#32
  let v3196 : BitVec 32 := Scalar.muli c21_i32_1747 c16_i32_1748
  v3196
def k0_mult87 : BitVec 32 :=
  let c22_i32_1753 : BitVec 32 := 22#32
  let c16_i32_1754 : BitVec 32 := 16#32
  let v3220 : BitVec 32 := Scalar.muli c22_i32_1753 c16_i32_1754
  v3220
def k0_mult88 : BitVec 32 :=
  let c23_i32_1759 : BitVec 32 := 23#32
  let c16_i32_1760 : BitVec 32 := 16#32
  let v3244 : BitVec 32 := Scalar.muli c23_i32_1759 c16_i32_1760
  v3244
def k0_mult89 : BitVec 32 :=
  let c24_i32_1765 : BitVec 32 := 24#32
  let c16_i32_1766 : BitVec 32 := 16#32
  let v3268 : BitVec 32 := Scalar.muli c24_i32_1765 c16_i32_1766
  v3268
def k0_mult90 : BitVec 32 :=
  let c25_i32_1771 : BitVec 32 := 25#32
  let c16_i32_1772 : BitVec 32 := 16#32
  let v3292 : BitVec 32 := Scalar.muli c25_i32_1771 c16_i32_1772
  v3292
def k0_mult91 : BitVec 32 :=
  let c26_i32_1777 : BitVec 32 := 26#32
  let c16_i32_1778 : BitVec 32 := 16#32
  let v3316 : BitVec 32 := Scalar.muli c26_i32_1777 c16_i32_1778
  v3316
def k0_mult92 : BitVec 32 :=
  let c27_i32_1783 : BitVec 32 := 27#32
  let c16_i32_1784 : BitVec 32 := 16#32
  let v3340 : BitVec 32 := Scalar.muli c27_i32_1783 c16_i32_1784
  v3340
def k0_mult93 : BitVec 32 :=
  let c28_i32_1789 : BitVec 32 := 28#32
  let c16_i32_1790 : BitVec 32 := 16#32
  let v3364 : BitVec 32 := Scalar.muli c28_i32_1789 c16_i32_1790
  v3364
def k0_mult94 : BitVec 32 :=
  let c29_i32_1795 : BitVec 32 := 29#32
  let c16_i32_1796 : BitVec 32 := 16#32
  let v3388 : BitVec 32 := Scalar.muli c29_i32_1795 c16_i32_1796
  v3388
def k0_mult95 : BitVec 32 :=
  let c30_i32_1801 : BitVec 32 := 30#32
  let c16_i32_1802 : BitVec 32 := 16#32
  let v3412 : BitVec 32 := Scalar.muli c30_i32_1801 c16_i32_1802
  v3412
def k0_mult96 : BitVec 32 :=
  let c31_i32_1807 : BitVec 32 := 31#32
  let c16_i32_1808 : BitVec 32 := 16#32
  let v3436 : BitVec 32 := Scalar.muli c31_i32_1807 c16_i32_1808
  v3436
def k0_mult97 : BitVec 32 :=
  let c0_i32_1850 : BitVec 32 := 0#32
  let c16_i32_1851 : BitVec 32 := 16#32
  let v3492 : BitVec 32 := Scalar.muli c0_i32_1850 c16_i32_1851
  v3492
def k0_mult98 : BitVec 32 :=
  let c1_i32_1856 : BitVec 32 := 1#32
  let c16_i32_1857 : BitVec 32 := 16#32
  let v3516 : BitVec 32 := Scalar.muli c1_i32_1856 c16_i32_1857
  v3516
def k0_mult99 : BitVec 32 :=
  let c2_i32_1862 : BitVec 32 := 2#32
  let c16_i32_1863 : BitVec 32 := 16#32
  let v3540 : BitVec 32 := Scalar.muli c2_i32_1862 c16_i32_1863
  v3540
def k0_mult100 : BitVec 32 :=
  let c3_i32_1868 : BitVec 32 := 3#32
  let c16_i32_1869 : BitVec 32 := 16#32
  let v3564 : BitVec 32 := Scalar.muli c3_i32_1868 c16_i32_1869
  v3564
def k0_mult101 : BitVec 32 :=
  let c4_i32_1874 : BitVec 32 := 4#32
  let c16_i32_1875 : BitVec 32 := 16#32
  let v3588 : BitVec 32 := Scalar.muli c4_i32_1874 c16_i32_1875
  v3588
def k0_mult102 : BitVec 32 :=
  let c5_i32_1880 : BitVec 32 := 5#32
  let c16_i32_1881 : BitVec 32 := 16#32
  let v3612 : BitVec 32 := Scalar.muli c5_i32_1880 c16_i32_1881
  v3612
def k0_mult103 : BitVec 32 :=
  let c6_i32_1886 : BitVec 32 := 6#32
  let c16_i32_1887 : BitVec 32 := 16#32
  let v3636 : BitVec 32 := Scalar.muli c6_i32_1886 c16_i32_1887
  v3636
def k0_mult104 : BitVec 32 :=
  let c7_i32_1892 : BitVec 32 := 7#32
  let c16_i32_1893 : BitVec 32 := 16#32
  let v3660 : BitVec 32 := Scalar.muli c7_i32_1892 c16_i32_1893
  v3660
def k0_mult105 : BitVec 32 :=
  let c8_i32_1898 : BitVec 32 := 8#32
  let c16_i32_1899 : BitVec 32 := 16#32
  let v3684 : BitVec 32 := Scalar.muli c8_i32_1898 c16_i32_1899
  v3684
def k0_mult106 : BitVec 32 :=
  let c9_i32_1904 : BitVec 32 := 9#32
  let c16_i32_1905 : BitVec 32 := 16#32
  let v3708 : BitVec 32 := Scalar.muli c9_i32_1904 c16_i32_1905
  v3708
def k0_mult107 : BitVec 32 :=
  let c10_i32_1910 : BitVec 32 := 10#32
  let c16_i32_1911 : BitVec 32 := 16#32
  let v3732 : BitVec 32 := Scalar.muli c10_i32_1910 c16_i32_1911
  v3732
def k0_mult108 : BitVec 32 :=
  let c11_i32_1916 : BitVec 32 := 11#32
  let c16_i32_1917 : BitVec 32 := 16#32
  let v3756 : BitVec 32 := Scalar.muli c11_i32_1916 c16_i32_1917
  v3756
def k0_mult109 : BitVec 32 :=
  let c12_i32_1922 : BitVec 32 := 12#32
  let c16_i32_1923 : BitVec 32 := 16#32
  let v3780 : BitVec 32 := Scalar.muli c12_i32_1922 c16_i32_1923
  v3780
def k0_mult110 : BitVec 32 :=
  let c13_i32_1928 : BitVec 32 := 13#32
  let c16_i32_1929 : BitVec 32 := 16#32
  let v3804 : BitVec 32 := Scalar.muli c13_i32_1928 c16_i32_1929
  v3804
def k0_mult111 : BitVec 32 :=
  let c14_i32_1934 : BitVec 32 := 14#32
  let c16_i32_1935 : BitVec 32 := 16#32
  let v3828 : BitVec 32 := Scalar.muli c14_i32_1934 c16_i32_1935
  v3828
def k0_mult112 : BitVec 32 :=
  let c15_i32_1940 : BitVec 32 := 15#32
  let c16_i32_1941 : BitVec 32 := 16#32
  let v3852 : BitVec 32 := Scalar.muli c15_i32_1940 c16_i32_1941
  v3852
def k0_mult113 : BitVec 32 :=
  let c16_i32_1946 : BitVec 32 := 16#32
  let c16_i32_1947 : BitVec 32 := 16#32
  let v3876 : BitVec 32 := Scalar.muli c16_i32_1946 c16_i32_1947
  v3876
def k0_mult114 : BitVec 32 :=
  let c17_i32_1952 : BitVec 32 := 17#32
  let c16_i32_1953 : BitVec 32 := 16#32
  let v3900 : BitVec 32 := Scalar.muli c17_i32_1952 c16_i32_1953
  v3900
def k0_mult115 : BitVec 32 :=
  let c18_i32_1958 : BitVec 32 := 18#32
  let c16_i32_1959 : BitVec 32 := 16#32
  let v3924 : BitVec 32 := Scalar.muli c18_i32_1958 c16_i32_1959
  v3924
def k0_mult116 : BitVec 32 :=
  let c19_i32_1964 : BitVec 32 := 19#32
  let c16_i32_1965 : BitVec 32 := 16#32
  let v3948 : BitVec 32 := Scalar.muli c19_i32_1964 c16_i32_1965
  v3948
def k0_mult117 : BitVec 32 :=
  let c20_i32_1970 : BitVec 32 := 20#32
  let c16_i32_1971 : BitVec 32 := 16#32
  let v3972 : BitVec 32 := Scalar.muli c20_i32_1970 c16_i32_1971
  v3972
def k0_mult118 : BitVec 32 :=
  let c21_i32_1976 : BitVec 32 := 21#32
  let c16_i32_1977 : BitVec 32 := 16#32
  let v3996 : BitVec 32 := Scalar.muli c21_i32_1976 c16_i32_1977
  v3996
def k0_mult119 : BitVec 32 :=
  let c22_i32_1982 : BitVec 32 := 22#32
  let c16_i32_1983 : BitVec 32 := 16#32
  let v4020 : BitVec 32 := Scalar.muli c22_i32_1982 c16_i32_1983
  v4020
def k0_mult120 : BitVec 32 :=
  let c23_i32_1988 : BitVec 32 := 23#32
  let c16_i32_1989 : BitVec 32 := 16#32
  let v4044 : BitVec 32 := Scalar.muli c23_i32_1988 c16_i32_1989
  v4044
def k0_mult121 : BitVec 32 :=
  let c24_i32_1994 : BitVec 32 := 24#32
  let c16_i32_1995 : BitVec 32 := 16#32
  let v4068 : BitVec 32 := Scalar.muli c24_i32_1994 c16_i32_1995
  v4068
def k0_mult122 : BitVec 32 :=
  let c25_i32_2000 : BitVec 32 := 25#32
  let c16_i32_2001 : BitVec 32 := 16#32
  let v4092 : BitVec 32 := Scalar.muli c25_i32_2000 c16_i32_2001
  v4092
def k0_mult123 : BitVec 32 :=
  let c26_i32_2006 : BitVec 32 := 26#32
  let c16_i32_2007 : BitVec 32 := 16#32
  let v4116 : BitVec 32 := Scalar.muli c26_i32_2006 c16_i32_2007
  v4116
def k0_mult124 : BitVec 32 :=
  let c27_i32_2012 : BitVec 32 := 27#32
  let c16_i32_2013 : BitVec 32 := 16#32
  let v4140 : BitVec 32 := Scalar.muli c27_i32_2012 c16_i32_2013
  v4140
def k0_mult125 : BitVec 32 :=
  let c28_i32_2018 : BitVec 32 := 28#32
  let c16_i32_2019 : BitVec 32 := 16#32
  let v4164 : BitVec 32 := Scalar.muli c28_i32_2018 c16_i32_2019
  v4164
def k0_mult126 : BitVec 32 :=
  let c29_i32_2024 : BitVec 32 := 29#32
  let c16_i32_2025 : BitVec 32 := 16#32
  let v4188 : BitVec 32 := Scalar.muli c29_i32_2024 c16_i32_2025
  v4188
def k0_mult127 : BitVec 32 :=
  let c30_i32_2030 : BitVec 32 := 30#32
  let c16_i32_2031 : BitVec 32 := 16#32
  let v4212 : BitVec 32 := Scalar.muli c30_i32_2030 c16_i32_2031
  v4212
def k0_mult128 : BitVec 32 :=
  let c31_i32_2036 : BitVec 32 := 31#32
  let c16_i32_2037 : BitVec 32 := 16#32
  let v4236 : BitVec 32 := Scalar.muli c31_i32_2036 c16_i32_2037
  v4236
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x16384 : Shape := ⟨2, ![2048, 16384]⟩
abbrev S1024x2048 : Shape := ⟨2, ![1024, 2048]⟩
abbrev S1024x64 : Shape := ⟨2, ![1024, 64]⟩
abbrev S64x16x64 : Shape := ⟨3, ![64, 16, 64]⟩
abbrev S1024 : Shape := ⟨1, ![1024]⟩
abbrev S1024x1024 : Shape := ⟨2, ![1024, 1024]⟩
abbrev S64x1x64 : Shape := ⟨3, ![64, 1, 64]⟩
abbrev S64x64 : Shape := ⟨2, ![64, 64]⟩
abbrev S_ : Shape := ⟨0, ![]⟩
abbrev S16x64x64 : Shape := ⟨3, ![16, 64, 64]⟩
abbrev S2048x16x1024 : Shape := ⟨3, ![2048, 16, 1024]⟩
abbrev S1x16x1024 : Shape := ⟨3, ![1, 16, 1024]⟩
abbrev S16x1024 : Shape := ⟨2, ![16, 1024]⟩
abbrev S16x2048 : Shape := ⟨2, ![16, 2048]⟩
abbrev S16x64x16 : Shape := ⟨3, ![16, 64, 16]⟩
abbrev S1x64x64 : Shape := ⟨3, ![1, 64, 64]⟩
abbrev S64x64x16 : Shape := ⟨3, ![64, 64, 16]⟩
abbrev S16x64x1x64 : Shape := ⟨4, ![16, 64, 1, 64]⟩
abbrev S1x64x16x64 : Shape := ⟨4, ![1, 64, 16, 64]⟩
abbrev S16x64x16x64 : Shape := ⟨4, ![16, 64, 16, 64]⟩
abbrev S1x1024 : Shape := ⟨2, ![1, 1024]⟩
abbrev S16 : Shape := ⟨1, ![16]⟩
abbrev S16x1 : Shape := ⟨2, ![16, 1]⟩

abbrev nBuf : Space → Nat
  | .hbm => 175
  | .vmem => 0
  | .smem => 0
  | _ => 0

abbrev hbmTy0_0 (i : Nat) : BufTy := match i % 128 with
  | 0 => ⟨S2048x16384, .f32⟩
  | 1 => ⟨S1024x2048, .f32⟩
  | 2 => ⟨S1024x64, .f32⟩
  | 3 => ⟨S1024x64, .f32⟩
  | 4 => ⟨S1024x64, .f32⟩
  | 5 => ⟨S1024x64, .f32⟩
  | 6 => ⟨S64x16x64, .f32⟩
  | 7 => ⟨S64x16x64, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024, .f32⟩
  | 14 => ⟨S64x16x64, .f32⟩
  | 15 => ⟨S64x1x64, .f32⟩
  | 16 => ⟨S64x64, .f32⟩
  | 17 => ⟨S64x16x64, .f32⟩
  | 18 => ⟨S64x1x64, .f32⟩
  | 19 => ⟨S64x64, .f32⟩
  | 20 => ⟨S64x16x64, .f32⟩
  | 21 => ⟨S64x16x64, .f32⟩
  | 22 => ⟨S_, .f32⟩
  | 23 => ⟨S16x64x64, .f32⟩
  | 24 => ⟨S2048x16x1024, .f32⟩
  | 25 => ⟨S_, .f32⟩
  | 26 => ⟨S2048x16x1024, .f32⟩
  | 27 => ⟨S_, .i32⟩
  | 28 => ⟨S2048x16x1024, .f32⟩
  | 29 => ⟨S1024x2048, .f32⟩
  | 30 => ⟨S64x64, .f32⟩
  | 31 => ⟨S64x64, .f32⟩
  | 32 => ⟨S64x16x64, .f32⟩
  | 33 => ⟨S64x16x64, .f32⟩
  | 34 => ⟨S64x16x64, .f32⟩
  | 35 => ⟨S64x16x64, .f32⟩
  | 36 => ⟨S1024, .f32⟩
  | 37 => ⟨S1024x1024, .f32⟩
  | 38 => ⟨S1024, .f32⟩
  | 39 => ⟨S1024x1024, .f32⟩
  | 40 => ⟨S1024, .f32⟩
  | 41 => ⟨S1024, .f32⟩
  | 42 => ⟨S_, .i32⟩
  | 43 => ⟨S16x64x64, .f32⟩
  | 44 => ⟨S16x64x64, .f32⟩
  | 45 => ⟨S2048x16x1024, .f32⟩
  | 46 => ⟨S_, .i32⟩
  | 47 => ⟨S_, .i1⟩
  | 48 => ⟨S_, .i32⟩
  | 49 => ⟨S_, .i32⟩
  | 50 => ⟨S1x16x1024, .f32⟩
  | 51 => ⟨S16x1024, .f32⟩
  | 52 => ⟨S16x2048, .f32⟩
  | 53 => ⟨S16x1024, .f32⟩
  | 54 => ⟨S16x1024, .f32⟩
  | 55 => ⟨S16x64x16, .f32⟩
  | 56 => ⟨S1x64x64, .f32⟩
  | 57 => ⟨S16x64x64, .f32⟩
  | 58 => ⟨S16x64x64, .f32⟩
  | 59 => ⟨S1x64x64, .f32⟩
  | 60 => ⟨S16x64x64, .f32⟩
  | 61 => ⟨S16x64x64, .f32⟩
  | 62 => ⟨S16x64x64, .f32⟩
  | 63 => ⟨S64x64x16, .f32⟩
  | 64 => ⟨S16x64x64, .f32⟩
  | 65 => ⟨S16x64x64, .f32⟩
  | 66 => ⟨S1x64x64, .f32⟩
  | 67 => ⟨S16x64x64, .f32⟩
  | 68 => ⟨S16x64x64, .f32⟩
  | 69 => ⟨S1x64x64, .f32⟩
  | 70 => ⟨S16x64x64, .f32⟩
  | 71 => ⟨S16x64x64, .f32⟩
  | 72 => ⟨S16x64x64, .f32⟩
  | 73 => ⟨S64x64x16, .f32⟩
  | 74 => ⟨S16x64x64, .f32⟩
  | 75 => ⟨S16x64x64, .f32⟩
  | 76 => ⟨S16x64x1x64, .f32⟩
  | 77 => ⟨S1x64x16x64, .f32⟩
  | 78 => ⟨S16x64x16x64, .f32⟩
  | 79 => ⟨S16x64x16x64, .f32⟩
  | 80 => ⟨S16x64x16x64, .f32⟩
  | 81 => ⟨S16x64x1x64, .f32⟩
  | 82 => ⟨S1x64x16x64, .f32⟩
  | 83 => ⟨S16x64x16x64, .f32⟩
  | 84 => ⟨S16x64x16x64, .f32⟩
  | 85 => ⟨S16x64x16x64, .f32⟩
  | 86 => ⟨S16x64x16x64, .f32⟩
  | 87 => ⟨S_, .f32⟩
  | 88 => ⟨S16x64x16, .f32⟩
  | 89 => ⟨S16x1024, .f32⟩
  | 90 => ⟨S1x1024, .f32⟩
  | 91 => ⟨S16x1024, .f32⟩
  | 92 => ⟨S16x1024, .f32⟩
  | 93 => ⟨S16x1024, .f32⟩
  | 94 => ⟨S16x1024, .f32⟩
  | 95 => ⟨S16x1024, .f32⟩
  | 96 => ⟨S_, .f32⟩
  | 97 => ⟨S16x1024, .f32⟩
  | 98 => ⟨S16x1024, .f32⟩
  | 99 => ⟨S16x1024, .f32⟩
  | 100 => ⟨S_, .f32⟩
  | 101 => ⟨S16x1024, .f32⟩
  | 102 => ⟨S16x1024, .f32⟩
  | 103 => ⟨S16x1024, .f32⟩
  | 104 => ⟨S_, .f32⟩
  | 105 => ⟨S16x1024, .f32⟩
  | 106 => ⟨S16x1024, .f32⟩
  | 107 => ⟨S_, .f32⟩
  | 108 => ⟨S16x1024, .f32⟩
  | 109 => ⟨S16x1024, .f32⟩
  | 110 => ⟨S16x1024, .f32⟩
  | 111 => ⟨S16x1024, .f32⟩
  | 112 => ⟨S1x1024, .f32⟩
  | 113 => ⟨S16x1024, .f32⟩
  | 114 => ⟨S16x1024, .f32⟩
  | 115 => ⟨S16x1024, .f32⟩
  | 116 => ⟨S16x1024, .f32⟩
  | 117 => ⟨S_, .f32⟩
  | 118 => ⟨S16x1024, .f32⟩
  | 119 => ⟨S16x1024, .f32⟩
  | 120 => ⟨S_, .f32⟩
  | 121 => ⟨S16x1024, .f32⟩
  | 122 => ⟨S16x1024, .f32⟩
  | 123 => ⟨S16x1024, .f32⟩
  | 124 => ⟨S16x1024, .f32⟩
  | 125 => ⟨S16x1024, .f32⟩
  | 126 => ⟨S_, .f32⟩
  | 127 => ⟨S16x1024, .f32⟩
  | _ => ⟨S2048x16384, .f32⟩

abbrev hbmTy0_1 (i : Nat) : BufTy := match i % 128 with
  | 0 => ⟨S16x1024, .f32⟩
  | 1 => ⟨S_, .f32⟩
  | 2 => ⟨S16x1024, .f32⟩
  | 3 => ⟨S16x1024, .f32⟩
  | 4 => ⟨S16x1024, .f32⟩
  | 5 => ⟨S16x1024, .f32⟩
  | 6 => ⟨S_, .f32⟩
  | 7 => ⟨S16x1024, .f32⟩
  | 8 => ⟨S16x1024, .f32⟩
  | 9 => ⟨S16x1024, .f32⟩
  | 10 => ⟨S16x1024, .f32⟩
  | 11 => ⟨S_, .f32⟩
  | 12 => ⟨S16, .f32⟩
  | 13 => ⟨S16x1, .f32⟩
  | 14 => ⟨S_, .f32⟩
  | 15 => ⟨S16x1, .f32⟩
  | 16 => ⟨S16x1, .f32⟩
  | 17 => ⟨S16x1024, .f32⟩
  | 18 => ⟨S16x1024, .f32⟩
  | 19 => ⟨S16x1024, .f32⟩
  | 20 => ⟨S_, .f32⟩
  | 21 => ⟨S16, .f32⟩
  | 22 => ⟨S16x1, .f32⟩
  | 23 => ⟨S_, .f32⟩
  | 24 => ⟨S16x1, .f32⟩
  | 25 => ⟨S16x1, .f32⟩
  | 26 => ⟨S16x1024, .f32⟩
  | 27 => ⟨S16x1024, .f32⟩
  | 28 => ⟨S_, .f32⟩
  | 29 => ⟨S16x1, .f32⟩
  | 30 => ⟨S16x1, .f32⟩
  | 31 => ⟨S16x1, .f32⟩
  | 32 => ⟨S16x1024, .f32⟩
  | 33 => ⟨S16x1024, .f32⟩
  | 34 => ⟨S1x1024, .f32⟩
  | 35 => ⟨S16x1024, .f32⟩
  | 36 => ⟨S16x1024, .f32⟩
  | 37 => ⟨S1x1024, .f32⟩
  | 38 => ⟨S16x1024, .f32⟩
  | 39 => ⟨S16x1024, .f32⟩
  | 40 => ⟨S1x16x1024, .f32⟩
  | 41 => ⟨S_, .i32⟩
  | 42 => ⟨S_, .i32⟩
  | 43 => ⟨S2048x16x1024, .f32⟩
  | 44 => ⟨S_, .i32⟩
  | 45 => ⟨S_, .i32⟩
  | 46 => ⟨S2048x16384, .f32⟩
  | _ => ⟨S2048x16384, .f32⟩

abbrev hbmTy (i : Nat) : BufTy := match i / 128 with
  | 0 => hbmTy0_0 i
  | 1 => hbmTy0_1 i
  | _ => ⟨S2048x16384, .f32⟩

abbrev bufTy : (tb : Table) → Fin (tcTables nBuf tb) → BufTy
  | .hbm, ⟨i, _⟩ => hbmTy i
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_c : Ref sig .tc := ⟨.hbm, 27, rfl⟩
abbrev main_v11_0 : Ref sig .tc := ⟨.hbm, 28, rfl⟩
abbrev main_v11_1 : Ref sig .tc := ⟨.hbm, 29, rfl⟩
abbrev main_v11_2 : Ref sig .tc := ⟨.hbm, 30, rfl⟩
abbrev main_v11_3 : Ref sig .tc := ⟨.hbm, 31, rfl⟩
abbrev main_v11_4 : Ref sig .tc := ⟨.hbm, 32, rfl⟩
abbrev main_v11_5 : Ref sig .tc := ⟨.hbm, 33, rfl⟩
abbrev main_v11_6 : Ref sig .tc := ⟨.hbm, 34, rfl⟩
abbrev main_v11_7 : Ref sig .tc := ⟨.hbm, 35, rfl⟩
abbrev main_v11_8 : Ref sig .tc := ⟨.hbm, 36, rfl⟩
abbrev main_v11_9 : Ref sig .tc := ⟨.hbm, 37, rfl⟩
abbrev main_v11_10 : Ref sig .tc := ⟨.hbm, 38, rfl⟩
abbrev main_v11_11 : Ref sig .tc := ⟨.hbm, 39, rfl⟩
abbrev main_v11_12 : Ref sig .tc := ⟨.hbm, 40, rfl⟩
abbrev main_v11_13 : Ref sig .tc := ⟨.hbm, 41, rfl⟩
abbrev main_v11_14 : Ref sig .tc := ⟨.hbm, 42, rfl⟩
abbrev main_v11_15 : Ref sig .tc := ⟨.hbm, 43, rfl⟩
abbrev main_v11_16 : Ref sig .tc := ⟨.hbm, 44, rfl⟩
abbrev main_v11_17 : Ref sig .tc := ⟨.hbm, 45, rfl⟩
abbrev main_while0c_c_18 : Ref sig .tc := ⟨.hbm, 46, rfl⟩
abbrev main_while0c_v13 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_v0 : Ref sig .tc := ⟨.hbm, 50, rfl⟩
abbrev main_while0b_v13 : Ref sig .tc := ⟨.hbm, 51, rfl⟩
abbrev main_while0b_v14 : Ref sig .tc := ⟨.hbm, 52, rfl⟩
abbrev main_while0b_v15 : Ref sig .tc := ⟨.hbm, 53, rfl⟩
abbrev main_while0b_v16 : Ref sig .tc := ⟨.hbm, 54, rfl⟩
abbrev main_while0b_v17 : Ref sig .tc := ⟨.hbm, 55, rfl⟩
abbrev main_while0b_v18 : Ref sig .tc := ⟨.hbm, 56, rfl⟩
abbrev main_while0b_v19 : Ref sig .tc := ⟨.hbm, 57, rfl⟩
abbrev main_while0b_v20 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_cst_18 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_cst_19 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_cst_20 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_cst_21 : Ref sig .tc := ⟨.hbm, 104, rfl⟩
abbrev main_while0b_v63 : Ref sig .tc := ⟨.hbm, 105, rfl⟩
abbrev main_while0b_v64 : Ref sig .tc := ⟨.hbm, 106, rfl⟩
abbrev main_while0b_cst_22 : Ref sig .tc := ⟨.hbm, 107, rfl⟩
abbrev main_while0b_v65 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_cst_23 : Ref sig .tc := ⟨.hbm, 117, rfl⟩
abbrev main_while0b_v74 : Ref sig .tc := ⟨.hbm, 118, rfl⟩
abbrev main_while0b_v75 : Ref sig .tc := ⟨.hbm, 119, rfl⟩
abbrev main_while0b_cst_24 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_call1_v0 : Ref sig .tc := ⟨.hbm, 124, rfl⟩
abbrev main_while0b_call1_v1 : Ref sig .tc := ⟨.hbm, 125, rfl⟩
abbrev main_while0b_call1_cst : Ref sig .tc := ⟨.hbm, 126, rfl⟩
abbrev main_while0b_call1_v2 : Ref sig .tc := ⟨.hbm, 127, rfl⟩
abbrev main_while0b_call1_v3 : Ref sig .tc := ⟨.hbm, 128, rfl⟩
abbrev main_while0b_call1_cst_0 : Ref sig .tc := ⟨.hbm, 129, rfl⟩
abbrev main_while0b_call1_v4 : Ref sig .tc := ⟨.hbm, 130, rfl⟩
abbrev main_while0b_call1_v5 : Ref sig .tc := ⟨.hbm, 131, rfl⟩
abbrev main_while0b_v79 : Ref sig .tc := ⟨.hbm, 132, rfl⟩
abbrev main_while0b_v80 : Ref sig .tc := ⟨.hbm, 133, rfl⟩
abbrev main_while0b_cst_25 : Ref sig .tc := ⟨.hbm, 134, rfl⟩
abbrev main_while0b_v81 : Ref sig .tc := ⟨.hbm, 135, rfl⟩
abbrev main_while0b_v82 : Ref sig .tc := ⟨.hbm, 136, rfl⟩
abbrev main_while0b_v83 : Ref sig .tc := ⟨.hbm, 137, rfl⟩
abbrev main_while0b_v84 : Ref sig .tc := ⟨.hbm, 138, rfl⟩
abbrev main_while0b_cst_26 : Ref sig .tc := ⟨.hbm, 139, rfl⟩
abbrev main_while0b_v85 : Ref sig .tc := ⟨.hbm, 140, rfl⟩
abbrev main_while0b_v86 : Ref sig .tc := ⟨.hbm, 141, rfl⟩
abbrev main_while0b_cst_27 : Ref sig .tc := ⟨.hbm, 142, rfl⟩
abbrev main_while0b_v87 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_cst_28 : Ref sig .tc := ⟨.hbm, 148, rfl⟩
abbrev main_while0b_v92 : Ref sig .tc := ⟨.hbm, 149, rfl⟩
abbrev main_while0b_v93 : Ref sig .tc := ⟨.hbm, 150, rfl⟩
abbrev main_while0b_cst_29 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_cst_30 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_call2_v0 : Ref sig .tc := ⟨.hbm, 168, rfl⟩
abbrev main_while0b_call2_c : Ref sig .tc := ⟨.hbm, 169, rfl⟩
abbrev main_while0b_call2_c_0 : Ref sig .tc := ⟨.hbm, 170, rfl⟩
abbrev main_while0b_v109 : Ref sig .tc := ⟨.hbm, 171, rfl⟩
abbrev main_while0b_c_31 : Ref sig .tc := ⟨.hbm, 172, rfl⟩
abbrev main_while0b_v110 : Ref sig .tc := ⟨.hbm, 173, rfl⟩
abbrev main_v12 : Ref sig .tc := ⟨.hbm, 174, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S32768x1024 : Shape := ⟨2, ![32768, 1024]⟩
abbrev S1024x4096 : Shape := ⟨2, ![1024, 4096]⟩
abbrev S2048x64 : Shape := ⟨2, ![2048, 64]⟩
abbrev S2048x128 : Shape := ⟨2, ![2048, 128]⟩
abbrev S_ : Shape := ⟨0, ![]⟩
abbrev S16x8x2048x128 : Shape := ⟨4, ![16, 8, 2048, 128]⟩
abbrev S16x8x128x2048 : Shape := ⟨4, ![16, 8, 128, 2048]⟩
abbrev S512x1024 : Shape := ⟨2, ![512, 1024]⟩
abbrev S512x128 : Shape := ⟨2, ![512, 128]⟩
abbrev S1x8x512x128 : Shape := ⟨4, ![1, 8, 512, 128]⟩
abbrev S1x8x128x512 : Shape := ⟨4, ![1, 8, 128, 512]⟩
abbrev S512x4096 : Shape := ⟨2, ![512, 4096]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 18
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S2048x64, .f32⟩
  | .hbm, ⟨3, _⟩ => ⟨S2048x64, .f32⟩
  | .hbm, ⟨4, _⟩ => ⟨S2048x128, .f32⟩
  | .hbm, ⟨5, _⟩ => ⟨S2048x64, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S1024x4096, .bf16⟩
  | .hbm, ⟨14, _⟩ => ⟨S16x8x2048x128, .bf16⟩
  | .hbm, ⟨15, _⟩ => ⟨S16x8x2048x128, .bf16⟩
  | .hbm, ⟨16, _⟩ => ⟨S16x8x128x2048, .bf16⟩
  | .hbm, ⟨17, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x128x512, .bf16⟩
  | .local _ .vmem, ⟨16, _⟩ => ⟨S1x8x128x512, .bf16⟩
  | .local _ .vmem, ⟨17, _⟩ => ⟨S512x1024, .bf16⟩
  | .local _ .vmem, ⟨18, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S1024x4096 : Shape := ⟨2, ![1024, 4096]⟩
abbrev S2048x64 : Shape := ⟨2, ![2048, 64]⟩
abbrev S32768x4096 : Shape := ⟨2, ![32768, 4096]⟩
abbrev S16x2048x8x128 : Shape := ⟨4, ![16, 2048, 8, 128]⟩
abbrev S16x2048x8x64 : Shape := ⟨4, ![16, 2048, 8, 64]⟩
abbrev S2048x1x64 : Shape := ⟨3, ![2048, 1, 64]⟩
abbrev S1x2048x1x64 : Shape := ⟨4, ![1, 2048, 1, 64]⟩
abbrev S_ : Shape := ⟨0, ![]⟩
abbrev S16x8x2048x128 : Shape := ⟨4, ![16, 8, 2048, 128]⟩
abbrev S16x8x128x2048 : Shape := ⟨4, ![16, 8, 128, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S2048x64, .f32⟩
  | .hbm, ⟨3, _⟩ => ⟨S2048x64, .f32⟩
  | .hbm, ⟨4, _⟩ => ⟨S32768x4096, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S16x2048x8x128, .f32⟩
  | .hbm, ⟨10, _⟩ => ⟨S16x2048x8x128, .f32⟩
  | .hbm, ⟨11, _⟩ => ⟨S16x2048x8x128, .f32⟩
  | .hbm, ⟨12, _⟩ => ⟨S16x2048x8x64, .f32⟩
  | .hbm, ⟨13, _⟩ => ⟨S16x2048x8x64, .f32⟩
  | .hbm, ⟨14, _⟩ => ⟨S2048x1x64, .f32⟩
  | .hbm, ⟨15, _⟩ => ⟨S2048x1x64, .f32⟩
  | .hbm, ⟨16, _⟩ => ⟨S1x2048x1x64, .f32⟩
  | .hbm, ⟨17, _⟩ => ⟨S16x2048x8x64, .f32⟩
  | .hbm, ⟨18, _⟩ => ⟨S16x2048x8x64, .f32⟩
  | .hbm, ⟨19, _⟩ => ⟨S1x2048x1x64, .f32⟩
  | .hbm, ⟨20, _⟩ => ⟨S16x2048x8x64, .f32⟩
  | .hbm, ⟨21, _⟩ => ⟨S16x2048x8x64, .f32⟩
  | .hbm, ⟨22, _⟩ => ⟨S16x2048x8x64, .f32⟩
  | .hbm, ⟨23, _⟩ => ⟨S1x2048x1x64, .f32⟩
  | .hbm, ⟨24, _⟩ => ⟨S16x2048x8x64, .f32⟩
  | .hbm, ⟨25, _⟩ => ⟨S16x2048x8x64, .f32⟩
  | .hbm, ⟨26, _⟩ => ⟨S1x2048x1x64, .f32⟩
  | .hbm, ⟨27, _⟩ => ⟨S16x2048x8x64, .f32⟩
  | .hbm, ⟨28, _⟩ => ⟨S16x2048x8x64, .f32⟩
  | .hbm, ⟨29, _⟩ => ⟨S16x2048x8x64, .f32⟩
  | .hbm, ⟨30, _⟩ => ⟨S16x2048x8x128, .f32⟩
  | .hbm, ⟨31, _⟩ => ⟨S_, .f32⟩
  | .hbm, ⟨32, _⟩ => ⟨S16x2048x8x128, .f32⟩
  | .hbm, ⟨33, _⟩ => ⟨S16x2048x8x128, .f32⟩
  | .hbm, ⟨34, _⟩ => ⟨S16x2048x8x64, .f32⟩
  | .hbm, ⟨35, _⟩ => ⟨S16x2048x8x64, .f32⟩
  | .hbm, ⟨36, _⟩ => ⟨S2048x1x64, .f32⟩
  | .hbm, ⟨37, _⟩ => ⟨S2048x1x64, .f32⟩
  | .hbm, ⟨38, _⟩ => ⟨S1x2048x1x64, .f32⟩
  | .hbm, ⟨39, _⟩ => ⟨S16x2048x8x64, .f32⟩
  | .hbm, ⟨40, _⟩ => ⟨S16x2048x8x64, .f32⟩
  | .hbm, ⟨41, _⟩ => ⟨S1x2048x1x64, .f32⟩
  | .hbm, ⟨42, _⟩ => ⟨S16x2048x8x64, .f32⟩
  | .hbm, ⟨43, _⟩ => ⟨S16x2048x8x64, .f32⟩
  | .hbm, ⟨44, _⟩ => ⟨S16x2048x8x64, .f32⟩
  | .hbm, ⟨45, _⟩ => ⟨S1x2048x1x64, .f32⟩
  | .hbm, ⟨46, _⟩ => ⟨S16x2048x8x64, .f32⟩
  | .hbm, ⟨47, _⟩ => ⟨S16x2048x8x64, .f32⟩
  | .hbm, ⟨48, _⟩ => ⟨S1x2048x1x64, .f32⟩
  | .hbm, ⟨49, _⟩ => ⟨S16x2048x8x64, .f32⟩
  | .hbm, ⟨50, _⟩ => ⟨S16x2048x8x64, .f32⟩
  | .hbm, ⟨51, _⟩ => ⟨S16x2048x8x64, .f32⟩
  | .hbm, ⟨52, _⟩ => ⟨S16x2048x8x128, .f32⟩
  | .hbm, ⟨53, _⟩ => ⟨S16x8x2048x128, .f32⟩
  | .hbm, ⟨54, _⟩ => ⟨S16x8x2048x128, .bf16⟩
  | .hbm, ⟨55, _⟩ => ⟨S16x8x2048x128, .f32⟩
  | .hbm, ⟨56, _⟩ => ⟨S16x8x2048x128, .bf16⟩
  | .hbm, ⟨57, _⟩ => ⟨S16x8x128x2048, .f32⟩
  | .hbm, ⟨58, _⟩ => ⟨S16x8x128x2048, .bf16⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Kernel3.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024x64 : Shape := ⟨2, ![1024, 64]⟩
abbrev S64x1 : Shape := ⟨2, ![64, 1]⟩

abbrev nBuf : Space → Nat
  | .hbm => 21
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S1024x64, .f32⟩
  | .hbm, ⟨7, _⟩ => ⟨S64x16x64, .f32⟩
  | .hbm, ⟨8, _⟩ => ⟨S1024x64, .f32⟩
  | .hbm, ⟨9, _⟩ => ⟨S64x1, .f32⟩
  | .hbm, ⟨10, _⟩ => ⟨S64x64, .f32⟩
  | .hbm, ⟨11, _⟩ => ⟨S64x16x64, .f32⟩
  | .hbm, ⟨12, _⟩ => ⟨S1024x64, .f32⟩
  | .hbm, ⟨13, _⟩ => ⟨S64x16x64, .f32⟩
  | .hbm, ⟨14, _⟩ => ⟨S1024x64, .f32⟩
  | .hbm, ⟨15, _⟩ => ⟨S64x16x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference3Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1x64 : Shape := ⟨3, ![64, 1, 64]⟩
abbrev S64x16x64 : Shape := ⟨3, ![64, 16, 64]⟩
abbrev S1024x64 : Shape := ⟨2, ![1024, 64]⟩

abbrev nBuf : Space → Nat
  | .hbm => 56
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x1x64, .f32⟩
  | .hbm, ⟨47, _⟩ => ⟨S64x16x64, .f32⟩
  | .hbm, ⟨48, _⟩ => ⟨S1024x64, .f32⟩
  | .hbm, ⟨49, _⟩ => ⟨S64x1x64, .f32⟩
  | .hbm, ⟨50, _⟩ => ⟨S64x16x64, .f32⟩
  | .hbm, ⟨51, _⟩ => ⟨S1024x64, .f32⟩
  | .hbm, ⟨52, _⟩ => ⟨S64x16x64, .f32⟩
  | .hbm, ⟨53, _⟩ => ⟨S1024x64, .f32⟩
  | .hbm, ⟨54, _⟩ => ⟨S64x16x64, .f32⟩
  | .hbm, ⟨55, _⟩ => ⟨S1024x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]
-- ==== Kernel4.lean ====
abbrev S32768x1024 : Shape := ⟨2, ![32768, 1024]⟩
abbrev S1024x4096 : Shape := ⟨2, ![1024, 4096]⟩
abbrev S1024 : Shape := ⟨1, ![1024]⟩
abbrev S1024x1024 : Shape := ⟨2, ![1024, 1024]⟩
abbrev S4x1024 : Shape := ⟨2, ![4, 1024]⟩
abbrev S128x256 : Shape := ⟨2, ![128, 256]⟩
abbrev S1x1024 : Shape := ⟨2, ![1, 1024]⟩
abbrev S512x1024 : Shape := ⟨2, ![512, 1024]⟩
abbrev S256x1024 : Shape := ⟨2, ![256, 1024]⟩
abbrev S128x1024 : Shape := ⟨2, ![128, 1024]⟩
abbrev S2x256x1024 : Shape := ⟨3, ![2, 256, 1024]⟩
abbrev S256x4096 : Shape := ⟨2, ![256, 4096]⟩
abbrev S1x256x1024 : Shape := ⟨3, ![1, 256, 1024]⟩
abbrev S1024x256 : Shape := ⟨2, ![1024, 256]⟩
abbrev S256x256 : Shape := ⟨2, ![256, 256]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S128x128 : Shape := ⟨2, ![128, 128]⟩
abbrev S1x256 : Shape := ⟨2, ![1, 256]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 15
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4x1024, .f32⟩
  | .hbm, ⟨7, _⟩ => ⟨S128x256, .i32⟩
  | .hbm, ⟨8, _⟩ => ⟨S128x256, .bf16⟩
  | .hbm, ⟨9, _⟩ => ⟨S1024x4096, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S128x256, .i32⟩
  | .local _ .vmem, ⟨6, _⟩ => ⟨S128x256, .bf16⟩
  | .local _ .vmem, ⟨7, _⟩ => ⟨S1024x4096, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S128x1024, .f32⟩
  | .local _ .vmem, ⟨15, _⟩ => ⟨S2x256x1024, .bf16⟩
  | .local _ .vmem, ⟨16, _⟩ => ⟨S2x256x1024, .bf16⟩
  | .local _ .vmem, ⟨17, _⟩ => ⟨S256x4096, .f32⟩
  | .local _ .vmem, ⟨18, _⟩ => ⟨S256x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c127_i32 : BitVec 32 := 127#32
  let v4 : BitVec 32 := Scalar.minsi v3 c127_i32
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "inv_log2" => some (((Real.log 2)⁻¹ : ℝ) : EReal)
  | _ => none
-- ==== Reference4Ideal.lean ====
abbrev S32768x1024 : Shape := ⟨2, ![32768, 1024]⟩
abbrev S1024x4096 : Shape := ⟨2, ![1024, 4096]⟩
abbrev S1024 : Shape := ⟨1, ![1024]⟩
abbrev S1024x1024 : Shape := ⟨2, ![1024, 1024]⟩
abbrev S4x1024 : Shape := ⟨2, ![4, 1024]⟩
abbrev S_ : Shape := ⟨0, ![]⟩
abbrev S16x8x128x128 : Shape := ⟨4, ![16, 8, 128, 128]⟩
abbrev S16x2048x1024 : Shape := ⟨3, ![16, 2048, 1024]⟩
abbrev S2048x16x1024 : Shape := ⟨3, ![2048, 16, 1024]⟩
abbrev S1x16x1024 : Shape := ⟨3, ![1, 16, 1024]⟩
abbrev S16x1024 : Shape := ⟨2, ![16, 1024]⟩
abbrev S16x4096 : Shape := ⟨2, ![16, 4096]⟩
abbrev S16x8x128 : Shape := ⟨3, ![16, 8, 128]⟩
abbrev S16x8x128x1 : Shape := ⟨4, ![16, 8, 128, 1]⟩
abbrev S16x8x1x128 : Shape := ⟨4, ![16, 8, 1, 128]⟩
abbrev S16x8 : Shape := ⟨2, ![16, 8]⟩
abbrev S16x8x1 : Shape := ⟨3, ![16, 8, 1]⟩
abbrev S8x128 : Shape := ⟨2, ![8, 128]⟩
abbrev S1x8x128 : Shape := ⟨3, ![1, 8, 128]⟩
abbrev S16 : Shape := ⟨1, ![16]⟩
abbrev S16x1 : Shape := ⟨2, ![16, 1]⟩
abbrev S1x1024 : Shape := ⟨2, ![1, 1024]⟩

abbrev nBuf : Space → Nat
  | .hbm => 141
  | .vmem => 0
  | .smem => 0
  | _ => 0

abbrev hbmTy0_0 (i : Nat) : BufTy := match i % 128 with
  | 0 => ⟨S32768x1024, .f32⟩
  | 1 => ⟨S1024x4096, .f32⟩
  | 2 => ⟨S1024, .f32⟩
  | 3 => ⟨S1024x1024, .f32⟩
  | 4 => ⟨S1024, .f32⟩
  | 5 => ⟨S1024, .f32⟩
  | 6 => ⟨S4x1024, .f32⟩
  | 7 => ⟨S_, .f32⟩
  | 8 => ⟨S16x8x128x128, .f32⟩
  | 9 => ⟨S16x2048x1024, .f32⟩
  | 10 => ⟨S2048x16x1024, .f32⟩
  | 11 => ⟨S_, .f32⟩
  | 12 => ⟨S2048x16x1024, .f32⟩
  | 13 => ⟨S_, .i32⟩
  | 14 => ⟨S2048x16x1024, .f32⟩
  | 15 => ⟨S1024x4096, .f32⟩
  | 16 => ⟨S1024, .f32⟩
  | 17 => ⟨S1024x1024, .f32⟩
  | 18 => ⟨S1024, .f32⟩
  | 19 => ⟨S1024, .f32⟩
  | 20 => ⟨S_, .i32⟩
  | 21 => ⟨S16x8x128x128, .f32⟩
  | 22 => ⟨S2048x16x1024, .f32⟩
  | 23 => ⟨S_, .i32⟩
  | 24 => ⟨S_, .i1⟩
  | 25 => ⟨S_, .i32⟩
  | 26 => ⟨S_, .i32⟩
  | 27 => ⟨S1x16x1024, .f32⟩
  | 28 => ⟨S16x1024, .f32⟩
  | 29 => ⟨S16x4096, .f32⟩
  | 30 => ⟨S16x1024, .f32⟩
  | 31 => ⟨S16x1024, .f32⟩
  | 32 => ⟨S16x1024, .f32⟩
  | 33 => ⟨S16x1024, .f32⟩
  | 34 => ⟨S16x8x128, .f32⟩
  | 35 => ⟨S16x8x128, .f32⟩
  | 36 => ⟨S16x8x128, .f32⟩
  | 37 => ⟨S_, .f32⟩
  | 38 => ⟨S16x8x128, .f32⟩
  | 39 => ⟨S16x8x128, .f32⟩
  | 40 => ⟨S_, .f32⟩
  | 41 => ⟨S16x8x128, .f32⟩
  | 42 => ⟨S16x8x128, .f32⟩
  | 43 => ⟨S16x8x128, .f32⟩
  | 44 => ⟨S16x8x128, .f32⟩
  | 45 => ⟨S16x8x128, .f32⟩
  | 46 => ⟨S_, .f32⟩
  | 47 => ⟨S16x8x128, .f32⟩
  | 48 => ⟨S16x8x128, .f32⟩
  | 49 => ⟨S_, .f32⟩
  | 50 => ⟨S16x8x128, .f32⟩
  | 51 => ⟨S16x8x128, .f32⟩
  | 52 => ⟨S16x8x128, .f32⟩
  | 53 => ⟨S_, .f32⟩
  | 54 => ⟨S16x8x128, .f32⟩
  | 55 => ⟨S16x8x128, .f32⟩
  | 56 => ⟨S16x8x128, .f32⟩
  | 57 => ⟨S16x8x128x1, .f32⟩
  | 58 => ⟨S16x8x128x128, .f32⟩
  | 59 => ⟨S16x8x128x128, .f32⟩
  | 60 => ⟨S16x8x128x1, .f32⟩
  | 61 => ⟨S16x8x1x128, .f32⟩
  | 62 => ⟨S16x8x128x128, .f32⟩
  | 63 => ⟨S16x8x128x128, .f32⟩
  | 64 => ⟨S16x8x128x128, .f32⟩
  | 65 => ⟨S16x8x128x128, .f32⟩
  | 66 => ⟨S16x8x128x1, .f32⟩
  | 67 => ⟨S16x8x128x128, .f32⟩
  | 68 => ⟨S16x8x128x128, .f32⟩
  | 69 => ⟨S_, .f32⟩
  | 70 => ⟨S16x8x128, .f32⟩
  | 71 => ⟨S16x8x128, .f32⟩
  | 72 => ⟨S_, .f32⟩
  | 73 => ⟨S16x8, .f32⟩
  | 74 => ⟨S16x8x1, .f32⟩
  | 75 => ⟨S_, .f32⟩
  | 76 => ⟨S16x8x1, .f32⟩
  | 77 => ⟨S16x8x1, .f32⟩
  | 78 => ⟨S_, .f32⟩
  | 79 => ⟨S16x8x1, .f32⟩
  | 80 => ⟨S16x8x1, .f32⟩
  | 81 => ⟨S16x8x1, .f32⟩
  | 82 => ⟨S16x8x128, .f32⟩
  | 83 => ⟨S16x8x128, .f32⟩
  | 84 => ⟨S8x128, .f32⟩
  | 85 => ⟨S1x8x128, .f32⟩
  | 86 => ⟨S16x8x128, .f32⟩
  | 87 => ⟨S16x8x128, .f32⟩
  | 88 => ⟨S16x1024, .f32⟩
  | 89 => ⟨S16x1024, .f32⟩
  | 90 => ⟨S16x1024, .f32⟩
  | 91 => ⟨S_, .f32⟩
  | 92 => ⟨S16x1024, .f32⟩
  | 93 => ⟨S16x1024, .f32⟩
  | 94 => ⟨S_, .f32⟩
  | 95 => ⟨S16x1024, .f32⟩
  | 96 => ⟨S16x1024, .f32⟩
  | 97 => ⟨S16x1024, .f32⟩
  | 98 => ⟨S16x1024, .f32⟩
  | 99 => ⟨S_, .f32⟩
  | 100 => ⟨S16x1024, .f32⟩
  | 101 => ⟨S16x1024, .f32⟩
  | 102 => ⟨S16x1024, .f32⟩
  | 103 => ⟨S16x1024, .f32⟩
  | 104 => ⟨S_, .f32⟩
  | 105 => ⟨S16, .f32⟩
  | 106 => ⟨S16x1, .f32⟩
  | 107 => ⟨S_, .f32⟩
  | 108 => ⟨S16x1, .f32⟩
  | 109 => ⟨S16x1, .f32⟩
  | 110 => ⟨S16x1024, .f32⟩
  | 111 => ⟨S16x1024, .f32⟩
  | 112 => ⟨S16x1024, .f32⟩
  | 113 => ⟨S_, .f32⟩
  | 114 => ⟨S16, .f32⟩
  | 115 => ⟨S16x1, .f32⟩
  | 116 => ⟨S_, .f32⟩
  | 117 => ⟨S16x1, .f32⟩
  | 118 => ⟨S16x1, .f32⟩
  | 119 => ⟨S16x1024, .f32⟩
  | 120 => ⟨S16x1024, .f32⟩
  | 121 => ⟨S_, .f32⟩
  | 122 => ⟨S16x1, .f32⟩
  | 123 => ⟨S16x1, .f32⟩
  | 124 => ⟨S16x1, .f32⟩
  | 125 => ⟨S16x1024, .f32⟩
  | 126 => ⟨S16x1024, .f32⟩
  | 127 => ⟨S1x1024, .f32⟩
  | _ => ⟨S32768x1024, .f32⟩

abbrev hbmTy0_1 (i : Nat) : BufTy := match i % 128 with
  | 0 => ⟨S16x1024, .f32⟩
  | 1 => ⟨S16x1024, .f32⟩
  | 2 => ⟨S1x1024, .f32⟩
  | 3 => ⟨S16x1024, .f32⟩
  | 4 => ⟨S16x1024, .f32⟩
  | 5 => ⟨S1x16x1024, .f32⟩
  | 6 => ⟨S_, .i32⟩
  | 7 => ⟨S_, .i32⟩
  | 8 => ⟨S2048x16x1024, .f32⟩
  | 9 => ⟨S_, .i32⟩
  | 10 => ⟨S_, .i32⟩
  | 11 => ⟨S16x2048x1024, .f32⟩
  | 12 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev main_while0c_c_9 : Ref sig .tc := ⟨.hbm, 23, rfl⟩
abbrev main_while0c_v7 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v7 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_v11 : Ref sig .tc := ⟨.hbm, 32, rfl⟩
abbrev main_while0b_v12 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_cst_9 : Ref sig .tc := ⟨.hbm, 37, rfl⟩
abbrev main_while0b_v16 : Ref sig .tc := ⟨.hbm, 38, rfl⟩
abbrev main_while0b_v17 : Ref sig .tc := ⟨.hbm, 39, rfl⟩
abbrev main_while0b_cst_10 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_call1_v0 : Ref sig .tc := ⟨.hbm, 44, rfl⟩
abbrev main_while0b_call1_v1 : Ref sig .tc := ⟨.hbm, 45, rfl⟩
abbrev main_while0b_call1_cst : Ref sig .tc := ⟨.hbm, 46, rfl⟩
abbrev main_while0b_call1_v2 : Ref sig .tc := ⟨.hbm, 47, rfl⟩
abbrev main_while0b_call1_v3 : Ref sig .tc := ⟨.hbm, 48, rfl⟩
abbrev main_while0b_call1_cst_0 : Ref sig .tc := ⟨.hbm, 49, rfl⟩
abbrev main_while0b_call1_v4 : Ref sig .tc := ⟨.hbm, 50, rfl⟩
abbrev main_while0b_call1_v5 : Ref sig .tc := ⟨.hbm, 51, rfl⟩
abbrev main_while0b_v21 : Ref sig .tc := ⟨.hbm, 52, rfl⟩
abbrev main_while0b_cst_11 : Ref sig .tc := ⟨.hbm, 53, rfl⟩
abbrev main_while0b_v22 : Ref sig .tc := ⟨.hbm, 54, rfl⟩
abbrev main_while0b_v23 : Ref sig .tc := ⟨.hbm, 55, rfl⟩
abbrev main_while0b_v24 : Ref sig .tc := ⟨.hbm, 56, rfl⟩
abbrev main_while0b_v25 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_cst_12 : Ref sig .tc := ⟨.hbm, 69, rfl⟩
abbrev main_while0b_v37 : Ref sig .tc := ⟨.hbm, 70, rfl⟩
abbrev main_while0b_v38 : Ref sig .tc := ⟨.hbm, 71, rfl⟩
abbrev main_while0b_cst_13 : Ref sig .tc := ⟨.hbm, 72, rfl⟩
abbrev main_while0b_v39 : Ref sig .tc := ⟨.hbm, 73, rfl⟩
abbrev main_while0b_v40 : Ref sig .tc := ⟨.hbm, 74, rfl⟩
abbrev main_while0b_cst_14 : Ref sig .tc := ⟨.hbm, 75, rfl⟩
abbrev main_while0b_v41 : Ref sig .tc := ⟨.hbm, 76, rfl⟩
abbrev main_while0b_v42 : Ref sig .tc := ⟨.hbm, 77, rfl⟩
abbrev main_while0b_cst_15 : Ref sig .tc := ⟨.hbm, 78, rfl⟩
abbrev main_while0b_v43 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_v48 : Ref sig .tc := ⟨.hbm, 84, rfl⟩
abbrev main_while0b_v49 : Ref sig .tc := ⟨.hbm, 85, rfl⟩
abbrev main_while0b_v50 : Ref sig .tc := ⟨.hbm, 86, rfl⟩
abbrev main_while0b_v51 : Ref sig .tc := ⟨.hbm, 87, rfl⟩
abbrev main_while0b_v52 : Ref sig .tc := ⟨.hbm, 88, rfl⟩
abbrev main_while0b_call2_v0 : Ref sig .tc := ⟨.hbm, 89, rfl⟩
abbrev main_while0b_call2_v1 : Ref sig .tc := ⟨.hbm, 90, rfl⟩
abbrev main_while0b_call2_cst : Ref sig .tc := ⟨.hbm, 91, rfl⟩
abbrev main_while0b_call2_v2 : Ref sig .tc := ⟨.hbm, 92, rfl⟩
abbrev main_while0b_call2_v3 : Ref sig .tc := ⟨.hbm, 93, rfl⟩
abbrev main_while0b_call2_cst_0 : Ref sig .tc := ⟨.hbm, 94, rfl⟩
abbrev main_while0b_call2_v4 : Ref sig .tc := ⟨.hbm, 95, rfl⟩
abbrev main_while0b_call2_v5 : Ref sig .tc := ⟨.hbm, 96, rfl⟩
abbrev main_while0b_v53 : Ref sig .tc := ⟨.hbm, 97, rfl⟩
abbrev main_while0b_v54 : Ref sig .tc := ⟨.hbm, 98, rfl⟩
abbrev main_while0b_cst_16 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_cst_17 : Ref sig .tc := ⟨.hbm, 104, rfl⟩
abbrev main_while0b_v59 : Ref sig .tc := ⟨.hbm, 105, rfl⟩
abbrev main_while0b_v60 : Ref sig .tc := ⟨.hbm, 106, rfl⟩
abbrev main_while0b_cst_18 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_cst_19 : Ref sig .tc := ⟨.hbm, 113, rfl⟩
abbrev main_while0b_v66 : Ref sig .tc := ⟨.hbm, 114, rfl⟩
abbrev main_while0b_v67 : Ref sig .tc := ⟨.hbm, 115, rfl⟩
abbrev main_while0b_cst_20 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_cst_21 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_call3_v0 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_v83 : Ref sig .tc := ⟨.hbm, 136, rfl⟩
abbrev main_while0b_c_22 : Ref sig .tc := ⟨.hbm, 137, rfl⟩
abbrev main_while0b_v84 : Ref sig .tc := ⟨.hbm, 138, rfl⟩
abbrev main_v5 : Ref sig .tc := ⟨.hbm, 139, rfl⟩
abbrev main_v6 : Ref sig .tc := ⟨.hbm, 140, rfl⟩

abbrev nD : Nat := 1
abbrev τ : Topo := Topo.v7x

variable {F : FTy → Type} [FloatOps F]

abbrev main_while0_count : Scf.Loop 32 := ⟨0#32, 2048#32, 1#32⟩
-- ==== Proof.GateRefRun.lean ====
module

public import proofs.«01_k».proof.Proof.Gen.Reference4Ideal.Run
public import proofs.«01_k».proof.Proof.Gen.Reference4Ideal.Step

/-! # The gated recurrence's reference: its run as its trip iterated -/

@[expose] public section

set_option maxRecDepth 8192

noncomputable section

namespace Cert.Proof.GateRef

open Idealize.ShloMosaic Idealize.ShloMosaic.TcCoe Idealize.SL.Sem Idealize.ShloMosaic.StableHlo
open Cert.Reference4Ideal Cert.Reference4Ideal.Gen Cert.Reference4Ideal.Value
open Cert.Reference4Ideal.Step (State step init)

variable {F : FTy → Type} [FloatOps F]

/-- The state a valuation of the loop's buffers holds. -/
def held (V0 : Valuation τ sig (Elt F)) : State F where
  main_v4_7 := V0 (Proc.devRef .tc main_v4_7)
  main_v4_8 := V0 (Proc.devRef .tc main_v4_8)
  main_v4_0 := V0 (Proc.devRef .tc main_v4_0)
  main_v4_1 := V0 (Proc.devRef .tc main_v4_1)
  main_v4_2 := V0 (Proc.devRef .tc main_v4_2)
  main_v4_3 := V0 (Proc.devRef .tc main_v4_3)
  main_v4_4 := V0 (Proc.devRef .tc main_v4_4)
  main_v4_5 := V0 (Proc.devRef .tc main_v4_5)

/-- A state is its components. -/
theorem state_ext {s t : State F} (h7 : s.main_v4_7 = t.main_v4_7)
    (h8 : s.main_v4_8 = t.main_v4_8)
    (h0 : s.main_v4_0 = t.main_v4_0)
    (h1 : s.main_v4_1 = t.main_v4_1)
    (h2 : s.main_v4_2 = t.main_v4_2)
    (h3 : s.main_v4_3 = t.main_v4_3)
    (h4 : s.main_v4_4 = t.main_v4_4)
    (h5 : s.main_v4_5 = t.main_v4_5) : s = t := by
  cases s; cases t; dsimp only at *; subst_vars; rfl

variable {V0 : Valuation τ sig (Elt F)} {j : ℕ}

/-! The values of one trip that the run names, each the step's. -/

/-- A trip's value: a time step's row. -/
theorem row (hn : V0 (Proc.devRef .tc main_v4_6) = constantI S_ 32 (BitVec.ofNat 32 j)) :
    res_main_while0b_v7 V0 = Step.b3 j (held V0) := by
  unfold res_main_while0b_v7
  rw [hn]
  rfl

/-- A trip's value: its projections. -/
theorem proj (hn : V0 (Proc.devRef .tc main_v4_6) = constantI S_ 32 (BitVec.ofNat 32 j)) :
    res_main_while0b_v8 V0 = Step.b4 j (held V0) := by
  unfold res_main_while0b_v8
  rw [row hn]
  rfl

/-- A trip's value: the output gates before their function. -/
theorem gate_in (hn : V0 (Proc.devRef .tc main_v4_6) = constantI S_ 32 (BitVec.ofNat 32 j)) :
    res_main_while0b_v12 V0 = Step.b8 j (held V0) := by
  unfold res_main_while0b_v12
  rw [proj hn]
  rfl

/-- A trip's value: the forget gates. -/
theorem forget (hn : V0 (Proc.devRef .tc main_v4_6) = constantI S_ 32 (BitVec.ofNat 32 j)) :
    res_main_while0b_v19 V0 = Step.b17 j (held V0) := by
  unfold res_main_while0b_v19
  rw [proj hn]
  rfl

/-- A trip's value: the queries before their function. -/
theorem query_in (hn : V0 (Proc.devRef .tc main_v4_6) = constantI S_ 32 (BitVec.ofNat 32 j)) :
    res_main_while0b_v20 V0 = Step.b18 j (held V0) := by
  unfold res_main_while0b_v20
  rw [proj hn]
  rfl

/-- A trip's value: the new state. -/
theorem trip_state (hn : V0 (Proc.devRef .tc main_v4_6) = constantI S_ 32 (BitVec.ofNat 32 j)) :
    res_main_while0b_v33 V0 = Step.b40 j (held V0) := by
  unfold res_main_while0b_v33
  rw [forget hn, proj hn]
  rfl

/-- A trip's value: the read-out of the state. -/
theorem trip_sum (hn : V0 (Proc.devRef .tc main_v4_6) = constantI S_ 32 (BitVec.ofNat 32 j)) :
    res_main_while0b_v37 V0 = Step.b45 j (held V0) := by
  unfold res_main_while0b_v37
  rw [trip_state hn, query_in hn]
  rfl

/-- A trip's value: the residual sum. -/
theorem trip_res (hn : V0 (Proc.devRef .tc main_v4_6) = constantI S_ 32 (BitVec.ofNat 32 j)) :
    res_main_while0b_v58 V0 = Step.b78 j (held V0) := by
  unfold res_main_while0b_v58
  rw [row hn, trip_sum hn, gate_in hn]
  rfl

/-- A trip's value: its mean. -/
theorem trip_mean (hn : V0 (Proc.devRef .tc main_v4_6) = constantI S_ 32 (BitVec.ofNat 32 j)) :
    res_main_while0b_v62 V0 = Step.b84 j (held V0) := by
  unfold res_main_while0b_v62
  rw [trip_res hn]
  rfl

/-- A trip's value: its centred value. -/
theorem trip_centred (hn : V0 (Proc.devRef .tc main_v4_6) = constantI S_ 32 (BitVec.ofNat 32 j)) :
    res_main_while0b_v64 V0 = Step.b86 j (held V0) := by
  unfold res_main_while0b_v64
  rw [trip_res hn, trip_mean hn]
  rfl

/-- A trip writes its row of the result. -/
theorem trip_out (hn : V0 (Proc.devRef .tc main_v4_6) = constantI S_ 32 (BitVec.ofNat 32 j)) :
    step_main_v4_8 V0 = Step.b111 j (held V0) := by
  unfold step_main_v4_8
  rw [hn, trip_res hn, trip_mean hn, trip_centred hn]
  rfl

/-- One trip of the loop is one `step` of the state it holds. -/
theorem held_step (hn : V0 (Proc.devRef .tc main_v4_6) = constantI S_ 32 (BitVec.ofNat 32 j)) :
    held (STEP V0) = step j (held V0) :=
  state_ext ((STEP_main_v4_7 V0).trans (trip_state hn)) ((STEP_main_v4_8 V0).trans (trip_out hn)) (STEP_main_v4_0 V0)
    (STEP_main_v4_1 V0) (STEP_main_v4_2 V0) (STEP_main_v4_3 V0) (STEP_main_v4_4 V0) (STEP_main_v4_5 V0)

/-- The trip counter counts. -/
theorem counter_step (hn : V0 (Proc.devRef .tc main_v4_6) = constantI S_ 32 (BitVec.ofNat 32 j)) :
    STEP V0 (Proc.devRef .tc main_v4_6) = constantI S_ 32 (BitVec.ofNat 32 (j + 1)) := by
  rw [STEP_main_v4_6]
  unfold step_main_v4_6
  rw [hn]
  funext i
  show BitVec.ofNat 32 j + 1#32 = BitVec.ofNat 32 (j + 1)
  simp only [BitVec.ofNat_add]

variable (m : (ℓ : Loc nD τ sig) → Buf (Elt F) ℓ) (ρ : Dev nD → PrngReg)

/-- The state before the first trip, of the memory the run starts from. -/
def start (c : Dev nD) : State F :=
  init (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg0))

set_option maxRecDepth 65536 in
/-- The loop starts from the first state. -/
theorem entry_held (c : Dev nD) : held (entryContents preI m c) = start m c := by
  apply state_ext <;> unfold held start <;> (simp only [entryContents, afterL_cons, afterL_nil]; after_reads_simp) <;> rfl

set_option maxRecDepth 65536 in
/-- The trip counter starts from zero. -/
theorem entry_counter (c : Dev nD) : entryContents preI m c (Proc.devRef .tc main_v4_6) = constantI S_ 32 (BitVec.ofNat 32 0) := by
  simp only [entryContents, afterL_cons, afterL_nil]
  after_reads_simp
  rfl

/-- The result is a function of the last state. -/
theorem result_held (V0 : Valuation τ sig (Elt F)) : out_main_v6 V0 = Step.R_main_v6 (held V0) := rfl

/-- The states the trips go through. -/
def states (c : Dev nD) (n : ℕ) : State F := Nat.rec (start m c) (fun n s => step n s) n

/-- Every run ends with the result that the trips leave, and every argument unchanged. -/
theorem reference_run (it : Dev nD → ℕ → State F) (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v6) = Step.R_main_v6 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Value.run m ρ)
  have hk : ∀ k, held (STEP^[k] (entryContents preI m c)) = it c k
      ∧ (STEP^[k] (entryContents preI m c)) (Proc.devRef .tc main_v4_6) = constantI S_ 32 (BitVec.ofNat 32 k) := by
    intro k
    induction k with
    | zero => exact ⟨(entry_held m c).trans (h0 c).symm, entry_counter m c⟩
    | succ k ih =>
      rw [Function.iterate_succ_apply', hs c k, ← ih.1]
      exact ⟨held_step ih.2, counter_step ih.2⟩
  have hr : ∀ k, out_main_v6 (STEP^[k] (entryContents preI m c)) = Step.R_main_v6 (it c k) := fun k => by
    rw [result_held, (hk k).1]
  exact ⟨(h c).1.trans (hr 2048), (h c).2⟩

end Cert.Proof.GateRef

end
-- ==== Proof.Stack.lean ====
module

public import Idealize.ShloMosaic.Lib.Pipeline.FrameBody

@[expose] public section

noncomputable section

namespace Cert.Proof

open Idealize.ShloMosaic

/-- The writes `P 0, …, P (n-1)` as a memory's history keeps them: the last one first. -/
def stack {α : Type} (base : List α) (P : ℕ → α) : ℕ → List α
  | 0 => base
  | n + 1 => P n :: stack base P n

variable {Val : EltTy → Type} {s : Shape} {e : EltTy}

/-- What a history of writes holds at an index is the payload of the last write whose rectangle holds it. -/
theorem canon_stack [∀ e, Nonempty (Val e)] (base : List (View.Piece Val s e)) (P : ℕ → View.Piece Val s e) {n k : ℕ}
    (hk : k < n) (j : (P k).1.shape.Idx) (y : s.Idx) (hy : (P k).1.emb j = y)
    (hlast : ∀ l, k < l → l < n → y ∉ (P l).1.set) : View.canon (stack base P n) y = (P k).2 j := by
  induction n with
  | zero => omega
  | succ n ih =>
    rcases Nat.lt_succ_iff_lt_or_eq.mp hk with h | h
    · rw [stack, View.canon_cons_of_not_mem _ _ (hlast n h (Nat.lt_succ_self n))]
      exact ih h fun l hl hn => hlast l hl (Nat.lt_succ_of_lt hn)
    · subst h
      rw [stack, ← hy]
      exact View.canon_cons_emb _ _ _ j

/-- An index none of the writes holds reads what the history held before them. -/
theorem canon_stack_base [∀ e, Nonempty (Val e)] (base : List (View.Piece Val s e)) (P : ℕ → View.Piece Val s e) {n : ℕ}
    (y : s.Idx) (h : ∀ l, l < n → y ∉ (P l).1.set) : View.canon (stack base P n) y = View.canon base y := by
  induction n with
  | zero => rfl
  | succ n ih =>
    rw [stack, View.canon_cons_of_not_mem _ _ (h n (Nat.lt_succ_self n))]
    exact ih fun l hl => h l (Nat.lt_succ_of_lt hl)

/-- A rectangle that misses an index on one axis misses the index. -/
theorem not_mem_set {r : Rect s} {y : s.Idx} (a : Fin s.rank)
    (h : ∀ j : Fin (r.size a), (y a).val ≠ r.off a + r.stride a * j.val) : y ∉ r.set := by
  intro hm
  obtain ⟨j, hj, e⟩ := r.mem_set.mp hm a
  exact h ⟨j, hj⟩ e

end Cert.Proof

end
-- ==== Proof.GateMath.lean ====
module

public import proofs.«01_k».proof.Proof.Stack
public import Idealize.ShloMosaic.Lib.Pointwise
public import Mathlib.Analysis.SpecialFunctions.Pow.Real

@[expose] public section

noncomputable section

namespace Cert.Proof.Gate

open Idealize.ShloMosaic

/-! # The gated recurrence over the reals -/

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- The sum of the first `n` gates' logarithms to base 2. -/
def cum (f : ℕ → ℝ) (n : ℕ) : ℝ := ∑ u ∈ Finset.range n, Real.log (f u) * (Real.log 2)⁻¹

/-- The recurrence's state after `n` steps from `S`. -/
def run (f k v : ℕ → ℝ) (S : ℝ) : ℕ → ℝ
  | 0 => S
  | n + 1 => f n * run f k v S n + k n * v n

/-- Two to a step's logarithm is the step's gate. -/
theorem pow_cum_succ (f : ℕ → ℝ) (n : ℕ) (h : 0 < f n) (a : ℝ) :
    (2 : ℝ) ^ (cum f (n + 1) - a) = f n * 2 ^ (cum f n - a) := by
  have e : cum f (n + 1) - a = Real.log (f n) * (Real.log 2)⁻¹ + (cum f n - a) := by
    unfold cum
    rw [Finset.sum_range_succ]
    ring
  have h2 : Real.log 2 ≠ 0 := (Real.log_pos (by norm_num)).ne'
  have h3 : (2 : ℝ) ^ (Real.log (f n) * (Real.log 2)⁻¹) = f n := by
    rw [Real.rpow_def_of_pos (by norm_num : (0 : ℝ) < 2)]
    rw [show Real.log 2 * (Real.log (f n) * (Real.log 2)⁻¹) = Real.log (f n) by field_simp]
    exact Real.exp_log h
  rw [e, Real.rpow_add (by norm_num), h3]

/-- The state after `n` steps, in closed form. -/
theorem run_closed (f k v : ℕ → ℝ) (S : ℝ) (hf : ∀ u, 0 < f u) (n : ℕ) :
    run f k v S n = S * 2 ^ cum f n + ∑ s ∈ Finset.range n, v s * (k s * 2 ^ (cum f n - cum f (s + 1))) := by
  induction n with
  | zero => simp [run, cum]
  | succ n ih =>
    have h0 := pow_cum_succ f n (hf n) 0
    simp only [sub_zero] at h0
    rw [run, ih, Finset.sum_range_succ, sub_self, Real.rpow_zero, h0, mul_add, Finset.mul_sum]
    rw [Finset.sum_congr rfl fun s _ => show f n * (v s * (k s * 2 ^ (cum f n - cum f (s + 1))))
      = v s * (k s * 2 ^ (cum f (n + 1) - cum f (s + 1))) by rw [pow_cum_succ f n (hf n)]; ring]
    ring

/-- What row `t` weighs an earlier row `s` with. -/
def weight (q k f : ℕ → Fin 128 → ℝ) (t s : ℕ) : ℝ :=
  if s < t then ∑ d, q t d * k s d * 2 ^ (cum (fun u => f u d) (t + 1) - cum (fun u => f u d) (s + 1)) else 0

/-- The read-out of the state after row `t`: the weighed values of the rows before it, the first state decayed, and the
row's own value. -/
theorem out_closed (q k f : ℕ → Fin 128 → ℝ) (v : ℕ → ℝ) (S : Fin 128 → ℝ) (hf : ∀ u d, 0 < f u d) (t : ℕ) (ht : t < 128) :
    ∑ d, run (fun u => f u d) (fun u => k u d) v (S d) (t + 1) * q t d
      = (∑ s : Fin 128, weight q k f t s * v s) + (∑ d, q t d * 2 ^ cum (fun u => f u d) (t + 1) * S d)
        + (∑ d, q t d * k t d) * v t := by
  have h1 : ∑ s : Fin 128, weight q k f t s * v s
      = ∑ s ∈ Finset.range t, ∑ d, q t d * k s d * 2 ^ (cum (fun u => f u d) (t + 1) - cum (fun u => f u d) (s + 1)) * v s := by
    rw [Fin.sum_univ_eq_sum_range (fun s => weight q k f t s * v s) 128,
      ← Finset.sum_subset (Finset.range_mono ht.le) (fun s _ hs => by
        rw [weight, if_neg (fun h => hs (Finset.mem_range.mpr h)), zero_mul])]
    refine Finset.sum_congr rfl fun s hs => ?_
    rw [weight, if_pos (Finset.mem_range.mp hs), Finset.sum_mul]
  rw [h1, Finset.sum_comm, Finset.sum_mul, ← Finset.sum_add_distrib, ← Finset.sum_add_distrib]
  refine Finset.sum_congr rfl fun d _ => ?_
  rw [run_closed _ _ _ _ (fun u => hf u d), Finset.sum_range_succ, sub_self, Real.rpow_zero, add_mul, add_mul, Finset.sum_mul]
  rw [Finset.sum_congr rfl fun s _ => show v s * (k s d * 2 ^ (cum (fun u => f u d) (t + 1) - cum (fun u => f u d) (s + 1))) * q t d
    = q t d * k s d * 2 ^ (cum (fun u => f u d) (t + 1) - cum (fun u => f u d) (s + 1)) * v s by ring]
  ring

/-- Running on from the state after `n` steps. -/
theorem run_add (f k v : ℕ → ℝ) (S : ℝ) (n t : ℕ) :
    run (fun u => f (n + u)) (fun u => k (n + u)) (fun u => v (n + u)) (run f k v S n) t = run f k v S (n + t) := by
  induction t with
  | zero => rfl
  | succ t ih =>
    show f (n + t) * run _ _ _ _ t + k (n + t) * v (n + t) = f (n + t) * run f k v S (n + t) + k (n + t) * v (n + t)
    rw [ih]

/-! ## The levels -/

/-- The number of rows of the segment in whose halves rows `s < t` lie. -/
def level (t s : ℕ) : ℕ := if s < t then 2 ^ (Nat.log2 (t ^^^ s) + 1) else 0

/-- Rows of one level lie in the two halves of one segment. -/
theorem level_spec : ∀ t : Fin 128, ∀ s : Fin 128, s.val < t.val →
    (level t s = 2 ∨ level t s = 4 ∨ level t s = 8 ∨ level t s = 16 ∨ level t s = 32 ∨ level t s = 64 ∨ level t s = 128)
      ∧ t.val / level t s = s.val / level t s ∧ s.val % level t s < level t s / 2 ∧ level t s / 2 ≤ t.val % level t s := by
  decide +kernel

end Cert.Proof.Gate

end
-- ==== Proof.Spec.lean ====
module

public import Idealize.ShloMosaic.Lib.Pointwise

/-! # The S5 layer of one sequence, over the extended reals

The recurrence and the row-wise operations that follow it, as functions of one batch row's inputs. Both programs are
compared with these functions: the reference runs them one time step at a time, the kernel a tile of time steps at a time. -/

@[expose] public section

noncomputable section

namespace Cert.Proof

open Idealize.ShloMosaic

/-- The layer's weights, by coordinate: the discretized diagonal and input matrix of every group, the output matrices, the
    input projection, the skip vector, the gated unit, the output projection and the layer norm's scale and shift. -/
structure Weights where
  win : Fin 1024 → Fin 2048 → EReal
  ar : Fin 64 → Fin 64 → EReal
  ai : Fin 64 → Fin 64 → EReal
  br : Fin 64 → Fin 16 → Fin 64 → EReal
  bi : Fin 64 → Fin 16 → Fin 64 → EReal
  cr : Fin 64 → Fin 16 → Fin 64 → EReal
  ci : Fin 64 → Fin 16 → Fin 64 → EReal
  d : Fin 1024 → EReal
  wg : Fin 1024 → Fin 1024 → EReal
  bg : Fin 1024 → EReal
  wo : Fin 1024 → Fin 1024 → EReal
  g : Fin 1024 → EReal
  b : Fin 1024 → EReal

/-- The real and the imaginary half of the state, by group and state coordinate. -/
abbrev St := (Fin 64 → Fin 64 → EReal) × (Fin 64 → Fin 64 → EReal)

/-- Channel `h` of group `g`, among the 1024 channels. -/
def chan (g : Fin 64) (h : Fin 16) : Fin 1024 := ⟨g.val * 16 + h.val, by omega⟩

/-- The projected input: the first 1024 columns enter the recurrence. -/
def uRow (W : Weights) (x : Fin 1024 → EReal) (e : Fin 1024) : EReal := ∑ k, x k * W.win k ⟨e.val, by omega⟩

/-- The projected input: the last 1024 columns gate the output. -/
def gateRow (W : Weights) (x : Fin 1024 → EReal) (e : Fin 1024) : EReal := ∑ k, x k * W.win k ⟨1024 + e.val, by omega⟩

/-- The input of the state, real half. -/
def inR (W : Weights) (u : Fin 1024 → EReal) (g p : Fin 64) : EReal := ∑ h, W.br g h p * u (chan g h)

/-- The input of the state, imaginary half. -/
def inI (W : Weights) (u : Fin 1024 → EReal) (g p : Fin 64) : EReal := ∑ h, W.bi g h p * u (chan g h)

/-- One step of the complex diagonal recurrence. -/
def next (W : Weights) (u : Fin 1024 → EReal) (h : St) : St :=
  (fun g p => W.ar g p * h.1 g p - W.ai g p * h.2 g p + inR W u g p,
   fun g p => W.ar g p * h.2 g p + W.ai g p * h.1 g p + inI W u g p)

/-- The state after the first `n` inputs. -/
def stateAt (W : Weights) (x : ℕ → Fin 1024 → EReal) : ℕ → St
  | 0 => (fun _ _ => 0, fun _ _ => 0)
  | n + 1 => next W (uRow W (x n)) (stateAt W x n)

/-- What the state and the input give at channel `e`: the real part of `C·h`, and the skip connection. -/
def yRow (W : Weights) (u : Fin 1024 → EReal) (h : St) (e : Fin 1024) : EReal :=
  (∑ p, (W.cr ⟨e.val / 16, by omega⟩ ⟨e.val % 16, by omega⟩ p * h.1 ⟨e.val / 16, by omega⟩ p
    - W.ci ⟨e.val / 16, by omega⟩ ⟨e.val % 16, by omega⟩ p * h.2 ⟨e.val / 16, by omega⟩ p)) + W.d e * u e

/-- The tanh form of the Gaussian error linear unit. -/
def gelu (y : EReal) : EReal :=
  y * (Ideal.ofBits .f32 1056964608#32 * (1 + Ideal.tanh (Ideal.ofBits .f32 1061962282#32 * (y + Ideal.ofBits .f32 1027024659#32 * (y * y * y)))))

/-- The logistic function. -/
def sigm (z : EReal) : EReal := Ideal.div 1 (1 + Ideal.exp (-z))

/-- The gated unit and the silu gate. -/
def gluRow (W : Weights) (y gate : Fin 1024 → EReal) (e : Fin 1024) : EReal :=
  gelu (y e) * sigm ((∑ k, gelu (y k) * W.wg k e) + W.bg e) * (gate e * sigm (gate e))

/-- The scaled input plus the projected output. -/
def resRow (W : Weights) (x y gate : Fin 1024 → EReal) (e : Fin 1024) : EReal :=
  Ideal.ofBits .f32 1071072509#32 * x e + ∑ k, gluRow W y gate k * W.wo k e

/-- A row less its mean. -/
def centred (r : Fin 1024 → EReal) (e : Fin 1024) : EReal := r e - Ideal.div (∑ k, r k) (Ideal.ofBits .f32 1149239296#32)

/-- Layer norm. -/
def normRow (W : Weights) (r : Fin 1024 → EReal) (e : Fin 1024) : EReal :=
  centred r e * Ideal.rsqrt (Ideal.div (∑ k, centred r k * centred r k) (Ideal.ofBits .f32 1149239296#32) + Ideal.ofBits .f32 925353388#32) * W.g e
    + W.b e

/-- The layer's output row from its input row and the state that input leads to. -/
def outRow (W : Weights) (x : Fin 1024 → EReal) (h : St) (e : Fin 1024) : EReal :=
  normRow W (resRow W x (yRow W (uRow W x) h) (gateRow W x)) e

/-- The layer's output at time `n`. -/
def outAt (W : Weights) (x : ℕ → Fin 1024 → EReal) (n : ℕ) (e : Fin 1024) : EReal := outRow W (x n) (stateAt W x (n + 1)) e

end Cert.Proof

end
-- ==== Proof.GateSpec.lean ====
module

public import proofs.«01_k».proof.Proof.GateMath
public import proofs.«01_k».proof.Proof.Spec

@[expose] public section

noncomputable section

namespace Cert.Proof.Gate

open Idealize.ShloMosaic

/-! # The layer of gated states, row by row -/

/-- The layer's inputs: row `n` of `X` is time `n % 2048` of sequence `n / 2048`. -/
structure Layer where
  X : ℕ → Fin 1024 → ℝ
  w : Fin 1024 → Fin 4096 → ℝ
  ng : Fin 1024 → EReal
  wo : Fin 1024 → Fin 1024 → EReal
  g : Fin 1024 → EReal
  b : Fin 1024 → EReal

/-- The logistic function of a real. -/
def sg (r : ℝ) : ℝ := 1 / (1 + Real.exp (-r))

/-- The logistic function is positive. -/
theorem sg_pos (r : ℝ) : 0 < sg r := div_pos one_pos (add_pos one_pos (Real.exp_pos _))

/-- The logistic function is at most 1. -/
theorem sg_le (r : ℝ) : sg r ≤ 1 := by
  unfold sg
  rw [div_le_one (add_pos one_pos (Real.exp_pos _))]
  exact le_add_of_nonneg_right (Real.exp_pos _).le

/-- The logistic function of the extended reals, at a real. -/
theorem sigm_coe (r : ℝ) : sigm (r : EReal) = ((sg r : ℝ) : EReal) := by
  have h : (1 + Ideal.exp (-(r : EReal)) : EReal) = ((1 + Real.exp (-r) : ℝ) : EReal) := by
    rw [← EReal.coe_neg, Ideal.exp_coe, EReal.coe_add]
    rfl
  unfold sigm
  rw [h, Ideal.div_coe (add_pos one_pos (Real.exp_pos _)).ne', one_mul]
  rfl

/-- Head `h`'s channel. -/
@[reducible] def col (h : ℕ) (d : Fin 128) : Fin 1024 := ⟨128 * (h % 8) + d.val, by omega⟩

variable (L : Layer)

/-- An entry of row `n`'s projection. -/
def proj (n : ℕ) (c : Fin 4096) : ℝ := ∑ k, L.X n k * L.w k c

/-- Part `p` of a row's projection: the query, the forget gate, the value and the output gate. -/
def part (p n : ℕ) (e : Fin 1024) : ℝ := proj L n ⟨1024 * (p % 4) + e.val, by omega⟩

def Qr (n : ℕ) (e : Fin 1024) : ℝ := part L 0 n e * sg (part L 0 n e)
def Gr (n : ℕ) (e : Fin 1024) : ℝ := sg (part L 1 n e)
def Kr (n : ℕ) (e : Fin 1024) : ℝ := 1 - Gr L n e
def Vr (n : ℕ) (e : Fin 1024) : ℝ := part L 2 n e
def Or (n : ℕ) (e : Fin 1024) : ℝ := part L 3 n e * sg (part L 3 n e)

/-- The state of sequence `b` after `n` steps: value `j` and channel `e` of the keys. -/
def st (b n : ℕ) (j : Fin 128) (e : Fin 1024) : ℝ :=
  run (fun u => Gr L (2048 * b + u) e) (fun u => Kr L (2048 * b + u) e) (fun u => Vr L (2048 * b + u) (col (e.val / 128) j)) 0 n

/-- What the query reads of the state after the row's own step. -/
def rd (b n : ℕ) (e : Fin 1024) : ℝ :=
  ∑ d, st L b (n + 1) ⟨e.val % 128, by omega⟩ (col (e.val / 128) d) * Qr L (2048 * b + n) (col (e.val / 128) d)

/-- A head's norm, and the output gate. -/
def gatedRow (ng : Fin 1024 → EReal) (o gate : Fin 1024 → ℝ) (e : Fin 1024) : EReal :=
  (o e : EReal) * Ideal.rsqrt (Ideal.div (∑ j, (o (col (e.val / 128) j) : EReal) * (o (col (e.val / 128) j) : EReal)) (Ideal.ofBits .f32 0x43000000#32)
    + Ideal.ofBits .f32 0x358637BD#32) * ng e * (gate e : EReal)

/-- The scaled input plus the projected output. -/
def resid (x : Fin 1024 → ℝ) (o : Fin 1024 → EReal) (e : Fin 1024) : EReal :=
  Ideal.ofBits .f32 0x3FD744FD#32 * (x e : EReal) + ∑ k, o k * L.wo k e

/-- Layer norm. -/
def lnRow (r : Fin 1024 → EReal) (e : Fin 1024) : EReal :=
  centred r e * Ideal.rsqrt (Ideal.div (∑ k, centred r k * centred r k) (Ideal.ofBits .f32 0x44800000#32) + Ideal.ofBits .f32 0x3727C5AC#32) * L.g e
    + L.b e

/-- The layer's row at time `n` of sequence `b`. -/
def layerRow (b n : ℕ) (e : Fin 1024) : EReal :=
  lnRow L (resid L (L.X (2048 * b + n)) (gatedRow L.ng (rd L b n) (Or L (2048 * b + n)))) e

/-- The state after further steps. -/
theorem st_add (b n t : ℕ) (j : Fin 128) (e : Fin 1024) :
    run (fun u => Gr L (2048 * b + n + u) e) (fun u => Kr L (2048 * b + n + u) e) (fun u => Vr L (2048 * b + n + u) (col (e.val / 128) j))
      (st L b n j e) t = st L b (n + t) j e := by
  unfold st
  simp only [Nat.add_assoc]
  exact run_add (fun u => Gr L (2048 * b + u) e) (fun u => Kr L (2048 * b + u) e) (fun u => Vr L (2048 * b + u) (col (e.val / 128) j)) 0 n t

end Cert.Proof.Gate

end
-- ==== Proof.GateRefStep.lean ====
module

public import proofs.«01_k».proof.Proof.Gen.Reference4Ideal.Step
public import proofs.«01_k».proof.Proof.GateSpec
public import Idealize.ShloMosaic.Lib.DynamicIndex

/-! # One trip of the gated recurrence's reference, at an index -/

@[expose] public section

set_option maxRecDepth 16384

noncomputable section

namespace Cert.Proof.GateRef

open Idealize.ShloMosaic Cert.Reference4Ideal Cert.Reference4Ideal.Step Cert.Proof.Gate

variable (j : ℕ) (s : State Ideal) (b : Fin 16)

/-- The trip slices its own time. -/
theorem starts {j : ℕ} (hj : j < 2048) (i : S_.Idx) (a : Fin 3) :
    BitVec.toInt ((![constantI S_ 32 (BitVec.ofNat 32 j), constantI S_ 32 0#32, constantI S_ 32 0#32] : Fin 3 → S_.Idx → BitVec 32) a i)
      = ((![j, 0, 0] : Fin 3 → ℕ) a : ℤ) := by
  fin_cases a
  · exact toInt_ofNat_of_lt (by omega)
  · rfl
  · rfl

/-- The trip's input row. -/
theorem b3_at {j : ℕ} (hj : j < 2048) (d : Fin 1024) : b3 j s (ix2 b d) = s.main_v4_0 (ix3 ⟨j, hj⟩ b d) := by
  have hin : S2048x16x1024.Slices ![j, 0, 0] S1x16x1024 := ⟨rfl, fun a => by fin_cases a <;> simp [Shape.size] <;> omega⟩
  unfold b3 b2 b1 b0
  rw [Host.dynamicSlice_eq_extractStridedSlice _ _ _ ![j, 0, 0] _ hin (fun a => starts hj _ a)]
  pointwise

/-- An entry of the trip's projections. -/
theorem b4_at (e : Fin 4096) : b4 j s (ix2 b e) = ∑ k, b3 j s (ix2 b k) * s.main_v4_1 (ix2 k e) := by
  unfold b4
  pointwise
  try rfl

/-- A part of the trip's projections. -/
theorem b5_at (e : Fin 1024) : b5 j s (ix2 b e) = b4 j s (ix2 b ⟨0 + e.val, by omega⟩) := by
  unfold b5
  pointwise
  try rfl

/-- The trip's forget gates before their function. -/
theorem b6_at (e : Fin 1024) : b6 j s (ix2 b e) = b4 j s (ix2 b ⟨1024 + e.val, by omega⟩) := by
  unfold b6
  pointwise
  try rfl

/-- The trip's values. -/
theorem b7_at (e : Fin 1024) : b7 j s (ix2 b e) = b4 j s (ix2 b ⟨2048 + e.val, by omega⟩) := by
  unfold b7
  pointwise
  try rfl

/-- The trip's output gates before their function. -/
theorem b8_at (e : Fin 1024) : b8 j s (ix2 b e) = b4 j s (ix2 b ⟨3072 + e.val, by omega⟩) := by
  unfold b8
  pointwise
  try rfl

/-- The trip's forget gates. -/
theorem b17_at (h : Fin 8) (d : Fin 128) : b17 j s (ix3 b h d) = sigm (b6 j s (ix2 b ⟨h.val * 128 + d.val, by omega⟩)) := by
  unfold b17 b16 b15 b14 b13 b12 b11 b10 b9
  pointwise
  try rfl

/-- The trip's queries. -/
theorem b27_at (h : Fin 8) (d : Fin 128) : b27 j s (ix3 b h d)
    = b5 j s (ix2 b ⟨h.val * 128 + d.val, by omega⟩) * sigm (b5 j s (ix2 b ⟨h.val * 128 + d.val, by omega⟩)) := by
  unfold b27 b26 b25 b24 b23 b22 b21 b20 b19 b18
  pointwise
  try rfl

/-- The trip's new state. -/
theorem b40_at (h : Fin 8) (d v : Fin 128) : b40 j s (ix4 b h d v)
    = (b17 j s (ix3 b h d) * s.main_v4_7 (ix4 b h d v)
      + (1 - b17 j s (ix3 b h d)) * b7 j s (ix2 b ⟨h.val * 128 + v.val, by omega⟩) : EReal) := by
  unfold b40 b39 b38 b37 b36 b35 b34 b33 b32 b31 b30 b29 b28
  pointwise
  try rfl

/-- What the trip reads of the state. -/
theorem b45_at (h : Fin 8) (v : Fin 128) : b45 j s (ix3 b h v) = (∑ d, b40 j s (ix4 b h d v) * b27 j s (ix3 b h d) : EReal) := by
  unfold b45 b44 b43 b42 b41
  pointwise
  try rfl

/-- The trip's output gates. -/
theorem b72_at (e : Fin 1024) : b72 j s (ix2 b e) = b8 j s (ix2 b e) * sigm (b8 j s (ix2 b e)) := by
  unfold b72 b71 b70 b69 b68 b67 b66 b65 b64
  pointwise
  try rfl

/-- The trip's normed read-out. -/
theorem b63_at (e : Fin 1024) : b63 j s (ix2 b e)
    = (b45 j s (ix3 b ⟨e.val / 128, by omega⟩ ⟨e.val % 128, by omega⟩)
      * Ideal.rsqrt (Ideal.div (∑ v, b45 j s (ix3 b ⟨e.val / 128, by omega⟩ v) * b45 j s (ix3 b ⟨e.val / 128, by omega⟩ v))
          (Ideal.ofBits .f32 0x43000000#32) + Ideal.ofBits .f32 0x358637BD#32) * s.main_v4_2 (ix1 e) : EReal) := by
  unfold b63 b62 b61 b60 b59 b58 b57 b56 b55 b54 b53 b52 b51 b50 b49 b48 b47 b46
  pointwise

/-- The trip's residual sum. -/
theorem b78_at (e : Fin 1024) : b78 j s (ix2 b e) = (Ideal.ofBits .f32 0x3FD744FD#32 * b3 j s (ix2 b e)
    + ∑ k, (b63 j s (ix2 b k) * b72 j s (ix2 b k)) * s.main_v4_3 (ix2 k e) : EReal) := by
  unfold b78 b77 b76 b75 b74 b73
  pointwise
  try rfl

/-- The trip's output row. -/
theorem b107_at (L : Layer) (hg : ∀ e, s.main_v4_4 (ix1 e) = L.g e) (hb : ∀ e, s.main_v4_5 (ix1 e) = L.b e) (e : Fin 1024) :
    b107 j s (ix2 b e) = lnRow L (fun e => b78 j s (ix2 b e)) e := by
  unfold lnRow
  rw [← hg, ← hb]
  unfold b107 b106 b105 b104 b103 b102 b101 b100 b99 b98 b97 b96 b95 b94 b93 b92 b91 b90 b89 b88 b87 b86 b85 b84 b83 b82 b81 b80 b79
  pointwise
  rfl

/-- Where the trip writes. -/
theorem clamped {j : ℕ} (hj : j < 2048) (i : S_.Idx) (h : (3 : ℕ) = 3) (a : Fin 3) :
    Host.clampedStart S2048x16x1024 S1x16x1024 h (fun k => BitVec.toInt
      ((![constantI S_ 32 (BitVec.ofNat 32 j), constantI S_ 32 0#32, constantI S_ 32 0#32] : Fin 3 → S_.Idx → BitVec 32) k i)) a
      = (![j, 0, 0] : Fin 3 → ℕ) a := by
  refine Host.clampedStart_of_le (s := S2048x16x1024) (t := S1x16x1024) h _ a _ (starts hj i a) ?_
  match a with
  | 0 => show j + 1 ≤ 2048; omega
  | 1 => show 0 + 16 ≤ 16; omega
  | 2 => show 0 + 1024 ≤ 1024; omega

/-- The stacked output after the trip: row `j` is the trip's, the others are kept. -/
theorem b111_at {j : ℕ} (hj : j < 2048) (t : Fin 2048) (d : Fin 1024) :
    b111 j s (ix3 t b d) = if t.val = j then b107 j s (ix2 b d) else s.main_v4_8 (ix3 t b d) := by
  have h0 := clamped hj (Shape.Idx.first Gen.h_S_) rfl 0
  have h1 := clamped hj (Shape.Idx.first Gen.h_S_) rfl 1
  have h2 := clamped hj (Shape.Idx.first Gen.h_S_) rfl 2
  unfold b111 b110 b109 b108
  pointwise
  simp only [h0, h1, h2]
  by_cases h : t.val = j
  · rw [dif_pos (by simp; omega), if_pos h]; rfl
  · rw [dif_neg (by simp; omega), if_neg h]

end Cert.Proof.GateRef

end
-- ==== Proof.GateRoll.lean ====
module

public import proofs.«01_k».proof.Proof.Stack
public import proofs.«01_k».proof.Proof.Gen.Kernel4Ideal.Skeleton

@[expose] public section

noncomputable section

namespace Cert.Proof.Gate

open Idealize.ShloMosaic Cert.Kernel4Ideal Cert.Kernel4Ideal.Gen

/-! # What one grid point of the gated recurrence computes

A grid point's body is unrolled: two tiles of 256 time steps, each of two chunks of 128, each of four pairs of heads. Here it
is again with its loops rolled up, as functions of loop counters over what the point reads. -/

variable {F : FTy → Type} [FloatOps F] [Named F]

/-! ## A chunk's operands -/

/-- Rows `a` on of a chunk. -/
theorem rowSlices (n a : ℕ) (h : a + n ≤ 128) : S128x1024.Slices ![a, 0] ⟨2, ![n, 1024]⟩ := by
  refine ⟨rfl, fun b => ?_⟩
  fin_cases b
  · exact h
  · exact Nat.le_refl 1024

/-- One row spreads over `n` rows. -/
theorem rowSpreads (n : ℕ) : S1x1024.Broadcasts ⟨2, ![n, 1024]⟩ := by
  refine ⟨Nat.le_refl 2, fun b => ?_⟩
  fin_cases b
  · exact Or.inl rfl
  · exact Or.inr fun _ => rfl

/-- The lower half of a segment: the input gates, decayed up to the segment's middle. -/
def lowHalf (n a : ℕ) (h : a + n ≤ 128) (k bc mid : FVec F S128x1024 .f32) (hm : a + n - 1 + 1 ≤ 128) : FVec F ⟨2, ![n, 1024]⟩ .f32 :=
  mulf (extractStridedSlice ⟨2, ![n, 1024]⟩ ![a, 0] k (rowSlices n a h))
    (exp2 (subf (broadcastTo ⟨2, ![n, 1024]⟩ (extractStridedSlice S1x1024 ![a + n - 1, 0] mid (rowSlices 1 (a + n - 1) hm)) (rowSpreads n))
      (extractStridedSlice ⟨2, ![n, 1024]⟩ ![a, 0] bc (rowSlices n a h))))

/-- The upper half of a segment: the queries, decayed from the segment's middle on. -/
def highHalf (n a : ℕ) (h : a + n + n ≤ 128) (q bc mid : FVec F S128x1024 .f32) (hm : a + n - 1 + 1 ≤ 128) : FVec F ⟨2, ![n, 1024]⟩ .f32 :=
  mulf (extractStridedSlice ⟨2, ![n, 1024]⟩ ![a + n, 0] q (rowSlices n (a + n) h))
    (exp2 (subf (extractStridedSlice ⟨2, ![n, 1024]⟩ ![a + n, 0] bc (rowSlices n (a + n) h))
      (broadcastTo ⟨2, ![n, 1024]⟩ (extractStridedSlice S1x1024 ![a + n - 1, 0] mid (rowSlices 1 (a + n - 1) hm)) (rowSpreads n))))

/-- The two halves of the segment of `2 n` rows from `a` on. -/
@[reducible] def segment (n a : ℕ) (h : a + n + n ≤ 128) (hm : a + n - 1 + 1 ≤ 128) (q k bc : FVec F S128x1024 .f32) :
    List ((s : Shape) × (s.Idx → F .f32)) :=
  [⟨⟨2, ![n, 1024]⟩, lowHalf n a (by omega) k bc bc hm⟩, ⟨⟨2, ![n, 1024]⟩, highHalf n a h q bc bc hm⟩]

/-- The operand of the segments of 128 rows. -/
def level128 (q k bc : FVec F S128x1024 .f32) : FVec F S128x1024 .bf16 :=
  truncf .bf16 (concatenate S128x1024 0 (segment 64 0 (by omega) (by omega) q k bc) concatenates_S64x1024_S64x1024_S128x1024_d0) bitsLt_bf16_f32

/-- The operand of the segments of 64 rows. -/
def level64 (q k bc : FVec F S128x1024 .f32) : FVec F S128x1024 .bf16 :=
  truncf .bf16 (concatenate S128x1024 0 (segment 32 0 (by omega) (by omega) q k bc ++ segment 32 64 (by omega) (by omega) q k bc) concatenates_S32x1024_S32x1024_S32x1024_S32x1024_S128x1024_d0) bitsLt_bf16_f32

/-- The operand of the segments of 32 rows. -/
def level32 (q k bc : FVec F S128x1024 .f32) : FVec F S128x1024 .bf16 :=
  truncf .bf16 (concatenate S128x1024 0 (segment 16 0 (by omega) (by omega) q k bc ++ segment 16 32 (by omega) (by omega) q k bc
    ++ segment 16 64 (by omega) (by omega) q k bc ++ segment 16 96 (by omega) (by omega) q k bc) concatenates_S16x1024_S16x1024_S16x1024_S16x1024_S16x1024_S16x1024_S16x1024_S16x1024_S128x1024_d0) bitsLt_bf16_f32

/-- The operand of the segments of 16 rows. -/
def level16 (q k bc : FVec F S128x1024 .f32) : FVec F S128x1024 .bf16 :=
  truncf .bf16 (concatenate S128x1024 0 (segment 8 0 (by omega) (by omega) q k bc ++ segment 8 16 (by omega) (by omega) q k bc
    ++ segment 8 32 (by omega) (by omega) q k bc ++ segment 8 48 (by omega) (by omega) q k bc
    ++ segment 8 64 (by omega) (by omega) q k bc ++ segment 8 80 (by omega) (by omega) q k bc
    ++ segment 8 96 (by omega) (by omega) q k bc ++ segment 8 112 (by omega) (by omega) q k bc) concatenates_S8x1024_S8x1024_S8x1024_S8x1024_S8x1024_S8x1024_S8x1024_S8x1024_S8x1024_S8x1024_S8x1024_S8x1024_S8x1024_S8x1024_S8x1024_S8x1024_S128x1024_d0) bitsLt_bf16_f32

/-- One row of a chunk, on eight rows. -/
def spread (a : ℕ) (h : a + 1 ≤ 128) (bc : FVec F S128x1024 .f32) : FVec F S8x1024 .f32 :=
  broadcastTo S8x1024 (shapeCast S1x1024 (extractStridedSlice S1x1024 ![a, 0] bc (rowSlices 1 a h)) shapeCasts_S1x1024_S1x1024)
    (rowSpreads 8)

/-- Two rows of a chunk, each on four rows. -/
def spread2 (a b : ℕ) (ha : a + 1 ≤ 128) (hb : b + 1 ≤ 128) (bc : FVec F S128x1024 .f32) : FVec F S8x1024 .f32 :=
  select (cmpi .slt (iota .tc S8x1024 32 [0] iota_S8x1024_d0_w32) (broadcast S8x1024 4#32)) (spread a ha bc) (spread b hb bc)

/-- Eight rows of the middles of the segments of 8. -/
@[reducible] def mid8 (a : ℕ) (h : a + 4 ≤ 128) (bc : FVec F S128x1024 .f32) : (s : Shape) × (s.Idx → F .f32) :=
  ⟨S8x1024, spread (a + 3) (by omega) bc⟩

/-- Eight rows of the middles of the segments of 4. -/
@[reducible] def mid4 (a : ℕ) (h : a + 6 ≤ 128) (bc : FVec F S128x1024 .f32) : (s : Shape) × (s.Idx → F .f32) :=
  ⟨S8x1024, spread2 (a + 1) (a + 5) (by omega) (by omega) bc⟩

/-- Every row's segment of 8's middle row. -/
def mids8 (bc : FVec F S128x1024 .f32) : FVec F S128x1024 .f32 :=
  concatenate S128x1024 0 [mid8 0 (by omega) bc, mid8 8 (by omega) bc, mid8 16 (by omega) bc, mid8 24 (by omega) bc,
    mid8 32 (by omega) bc, mid8 40 (by omega) bc, mid8 48 (by omega) bc, mid8 56 (by omega) bc, mid8 64 (by omega) bc,
    mid8 72 (by omega) bc, mid8 80 (by omega) bc, mid8 88 (by omega) bc, mid8 96 (by omega) bc, mid8 104 (by omega) bc,
    mid8 112 (by omega) bc, mid8 120 (by omega) bc]
    concatenates_S8x1024_S8x1024_S8x1024_S8x1024_S8x1024_S8x1024_S8x1024_S8x1024_S8x1024_S8x1024_S8x1024_S8x1024_S8x1024_S8x1024_S8x1024_S8x1024_S128x1024_d0

/-- Every row's segment of 4's middle row. -/
def mids4 (bc : FVec F S128x1024 .f32) : FVec F S128x1024 .f32 :=
  concatenate S128x1024 0 [mid4 0 (by omega) bc, mid4 8 (by omega) bc, mid4 16 (by omega) bc, mid4 24 (by omega) bc,
    mid4 32 (by omega) bc, mid4 40 (by omega) bc, mid4 48 (by omega) bc, mid4 56 (by omega) bc, mid4 64 (by omega) bc,
    mid4 72 (by omega) bc, mid4 80 (by omega) bc, mid4 88 (by omega) bc, mid4 96 (by omega) bc, mid4 104 (by omega) bc,
    mid4 112 (by omega) bc, mid4 120 (by omega) bc]
    concatenates_S8x1024_S8x1024_S8x1024_S8x1024_S8x1024_S8x1024_S8x1024_S8x1024_S8x1024_S8x1024_S8x1024_S8x1024_S8x1024_S8x1024_S8x1024_S8x1024_S128x1024_d0

/-- The operand of short segments: queries in the upper halves, input gates in the lower, decayed from or up to the middle. -/
def levelShort (mask half : BitVec 32) (q k bc mids : FVec F S128x1024 .f32) : FVec F S128x1024 .bf16 :=
  truncf .bf16 (mulf (select (cmpi .sge (andi (iota .tc S128x1024 32 [0] iota_S128x1024_d0_w32) (broadcast S128x1024 mask))
      (broadcast S128x1024 half)) q k)
    (exp2 (subf (broadcast S128x1024 (Scalar.ofBits .f32 0x00000000#32)) (absf (subf bc mids))))) bitsLt_bf16_f32

/-- The operand of the pairs of rows. -/
def level2 (q f k : FVec F S128x1024 .f32) : FVec F S128x1024 .bf16 :=
  k0_pay80 (iota .tc S128x1024 32 [0] iota_S128x1024_d0_w32) q f k

/-! ## A pair of heads -/

/-- The columns of a pair of heads lie in the 1024 channels. -/
theorem pairSlices (m hp : ℕ) : (⟨2, ![m, 1024]⟩ : Shape).Slices ![0, 256 * (hp % 4)] ⟨2, ![m, 256]⟩ := by
  refine ⟨rfl, fun b => ?_⟩
  fin_cases b
  · show 0 + m ≤ m
    omega
  · show 256 * (hp % 4) + 256 ≤ 1024
    omega

/-- The columns of a head lie in the 1024 channels. -/
theorem headSlices (m h : ℕ) : (⟨2, ![m, 1024]⟩ : Shape).Slices ![0, 128 * (h % 8)] ⟨2, ![m, 128]⟩ := by
  refine ⟨rfl, fun b => ?_⟩
  fin_cases b
  · show 0 + m ≤ m
    omega
  · show 128 * (h % 8) + 128 ≤ 1024
    omega

/-- The columns of a head lie in its pair's 256. -/
theorem halfSlices (i : ℕ) : S128x256.Slices ![0, 128 * (i % 2)] S128x128 := by
  refine ⟨rfl, fun b => ?_⟩
  fin_cases b
  · show 0 + 128 ≤ 128
    omega
  · show 128 * (i % 2) + 128 ≤ 256
    omega

/-- The columns of pair `hp`. -/
def pairCols {α : Type} (hp : ℕ) (w : S128x1024.Idx → α) : S128x256.Idx → α :=
  extractStridedSlice S128x256 ![0, 256 * (hp % 4)] w (pairSlices 128 hp)

/-- The columns of head `h`. -/
def headCols {α : Type} (h : ℕ) (w : S128x1024.Idx → α) : S128x128.Idx → α :=
  extractStridedSlice S128x128 ![0, 128 * (h % 8)] w (headSlices 128 h)

/-- One head's columns of a pair's. -/
def halfCols {α : Type} (i : ℕ) (w : S128x256.Idx → α) : S128x128.Idx → α :=
  extractStridedSlice S128x128 ![0, 128 * (i % 2)] w (halfSlices i)

/-- Two matrices side by side. -/
def beside {α : Type} (a b : S128x128.Idx → α) : S128x256.Idx → α :=
  concatenate S128x256 1 [⟨S128x128, a⟩, ⟨S128x128, b⟩] concatenates_S128x128_S128x128_S128x256_d1

/-- The two heads' columns as a block-diagonal matrix. -/
def blockDiag (w : FVec F S128x256 .bf16) : FVec F S256x256 .bf16 :=
  concatenate S256x256 0
    [⟨S128x256, beside (halfCols 0 w) (broadcast S128x128 (Scalar.ofBits .bf16 0x0000#16))⟩,
     ⟨S128x256, beside (broadcast S128x128 (Scalar.ofBits .bf16 0x0000#16)) (halfCols 1 w)⟩]
    concatenates_S128x256_S128x256_S256x256_d0

/-- One level's scores, where the table selects the level. -/
def scoreLevel (lv : Vec F S128x256 .i32) (seg : BitVec 32) (hp : ℕ) (w : FVec F S128x1024 .bf16) (acc : FVec F S128x256 .f32) :
    FVec F S128x256 .f32 :=
  select (cmpi .eq lv (broadcast S128x256 seg))
    (matmul dot_S128x256_S256x256_S128x256_1_1_0_0_n_n none (pairCols hp w) (blockDiag (pairCols hp w)) (constant S128x256 .f32 0x00000000#32)) acc

/-- A pair's scores, of every level. -/
def scores (lv : Vec F S128x256 .i32) (q f k bc : FVec F S128x1024 .f32) (hp : ℕ) : FVec F S128x256 .f32 :=
  scoreLevel lv 2#32 hp (level2 q f k) <| scoreLevel lv 4#32 hp (levelShort 3#32 2#32 q k bc (mids4 bc)) <|
  scoreLevel lv 8#32 hp (levelShort 7#32 4#32 q k bc (mids8 bc)) <| scoreLevel lv 16#32 hp (level16 q k bc) <|
  scoreLevel lv 32#32 hp (level32 q k bc) <| scoreLevel lv 64#32 hp (level64 q k bc) <|
  scoreLevel lv 128#32 hp (level128 q k bc) <| broadcast S128x256 (Scalar.ofBits .f32 0x00000000#32)

/-- One head's values, a row per column. -/
def valuesT (v : FVec F S128x1024 .f32) (hp i : ℕ) : FVec F S128x128 .bf16 :=
  truncf .bf16 (transpose S128x128 [1, 0] (halfCols i (pairCols hp v)) transposes_S128x128_p1_0_S128x128) bitsLt_bf16_f32

/-- A pair's state after the chunk. -/
def newState (k v bc : FVec F S128x1024 .f32) (hp : ℕ) (st : Vec F S128x256 .f32) : FVec F S128x256 .f32 :=
  addf (mulf st (broadcastTo S128x256 (extractStridedSlice S1x256 ![0, 256 * (hp % 4)] (k0_pay84 bc) (pairSlices 1 hp))
      broadcasts_S1x256_S128x256))
    (matmul dot_S128x256_S256x256_S128x256_1_0_0_1_n_n none (beside (valuesT v hp 0) (valuesT v hp 1)) (blockDiag (pairCols hp (k0_pay83 k bc)))
      (constant S128x256 .f32 0x00000000#32))

/-- Head `h`'s output before its norm. -/
def headSum (lv : Vec F S128x256 .i32) (q f k v bc : FVec F S128x1024 .f32) (h : ℕ) (st : Vec F S128x256 .f32) : FVec F S128x128 .f32 :=
  addf (matmul dot_S128x256_S128x256_S128x128_1_1_0_0_n_n none
      (beside (truncf .bf16 (halfCols h (scores lv q f k bc (h / 2))) bitsLt_bf16_f32) (headCols h (k0_pay81 q bc)))
      (beside (valuesT v (h / 2) h) (truncf .bf16 (halfCols h st) bitsLt_bf16_f32)) (constant S128x128 .f32 0x00000000#32))
    (mulf (broadcastTo S128x128 (shapeCast S128x1 (multiReduction .add [1] S128 (headCols h (k0_pay85 q k)) 0x00000000#32
        reduces_S128x128_S128 (.inl rfl) rfl) shapeCasts_S128_S128x1) broadcasts_S128x1_S128x128) (headCols h v))

/-- Head `h`'s normalised and gated output. -/
def headOut (ng : FVec F S1x1024 .f32) (gate : FVec F S128x1024 .f32) (h : ℕ) (o : FVec F S128x128 .f32) : Vec F S1x128x128 .bf16 :=
  shapeCast S1x128x128 (shapeCast S128x128 (truncf .bf16 (mulf (mulf (mulf o
    (broadcastTo S128x128 (rsqrt (addf (divf (shapeCast S128x1 (multiReduction .add [1] S128 (mulf o o) 0x00000000#32
        reduces_S128x128_S128 (.inl rfl) rfl) shapeCasts_S128_S128x1) (broadcast S128x1 (Scalar.ofBits .f32 0x43000000#32)))
      (broadcast S128x1 (Scalar.ofBits .f32 0x358637BD#32)))) broadcasts_S128x1_S128x128))
    (broadcastTo S128x128 (extractStridedSlice S1x128 ![0, 128 * (h % 8)] ng (headSlices 1 h)) broadcasts_S1x128_S128x128))
    (headCols h gate)) bitsLt_bf16_f32) shapeCasts_S128x128_S128x128) shapeCasts_S128x128_S1x128x128

/-! ## A grid point -/

/-- What a grid point reads: the scratch memories it works in and the values its loads answer. -/
structure Reads (F : FTy → Type) [FloatOps F] where
  mS : Memref sig .tc .vmem S128x1024 .f32
  mO : Memref sig .tc .vmem S2x256x1024 .bf16
  mX : Memref sig .tc .vmem S2x256x1024 .bf16
  mB : Memref sig .tc .vmem S256x4096 .f32
  x : ℕ → Vec F S256x1024 .f32
  xn : Vec F S256x1024 .f32
  lv : Vec F S128x256 .i32
  tri : Vec F S128x256 .bf16
  w : ℕ → Vec F S1024x256 .bf16
  ng : Vec F S1x1024 .f32
  wo : Vec F S1024x1024 .bf16
  g : Vec F S1x1024 .f32
  b : Vec F S1x1024 .f32
  za : ℕ → ℕ → Vec F S128x1024 .f32
  old : ℕ → List (View.Piece (Elt F) S128x1024 .f32) → Vec F S128x256 .f32
  stBase : List (View.Piece (Elt F) S128x1024 .f32)
  xbBase : List (View.Piece (Elt F) S2x256x1024 .bf16)
  zaBase : List (View.Piece (Elt F) S256x4096 .f32)

/-- A pair's columns of the state. -/
@[reducible] def stBox (hp : ℕ) : Rect S128x1024 :=
  Rect.unit ![0, 256 * (hp % 4)] S128x256.size (by
    intro a
    fin_cases a
    · show 0 + 128 ≤ 128
      omega
    · show 256 * (hp % 4) + 256 ≤ 1024
      omega)

/-- One of the two tiles of rounded inputs. -/
@[reducible] def xbBox (s : ℕ) : Rect S2x256x1024 :=
  Rect.unit ![s % 2, 0, 0] S1x256x1024.size (by
    intro a
    fin_cases a
    · show s % 2 + 1 ≤ 2
      omega
    · show 0 + 256 ≤ 256
      omega
    · show 0 + 1024 ≤ 1024
      omega)

/-- A head's columns of a chunk's outputs: chunk `n / 8` of the point, head `n % 8`. -/
@[reducible] def oBox (n : ℕ) : Rect S2x256x1024 :=
  Rect.unit ![n / 16 % 2, 128 * (n / 8 % 2), 128 * (n % 8)] S1x128x128.size (by
    intro a
    fin_cases a
    · show n / 16 % 2 + 1 ≤ 2
      omega
    · show 128 * (n / 8 % 2) + 128 ≤ 256
      omega
    · show 128 * (n % 8) + 128 ≤ 1024
      omega)

/-- A piece of 256 columns of a tile's projections. -/
@[reducible] def zBox (j : ℕ) : Rect S256x4096 :=
  Rect.unit ![0, 256 * (j % 16)] S256x256.size (by
    intro a
    fin_cases a
    · show 0 + 256 ≤ 256
      omega
    · show 256 * (j % 16) + 256 ≤ 4096
      omega)

/-- Chunk `c`'s rows of projection `p`. -/
@[reducible] def partBox (p c : ℕ) : Rect S256x4096 :=
  Rect.unit ![128 * (c % 2), 1024 * (p % 4)] S128x1024.size (by
    intro a
    fin_cases a
    · show 128 * (c % 2) + 128 ≤ 256
      omega
    · show 1024 * (p % 4) + 1024 ≤ 4096
      omega)

/-- A tile's rows of the result. -/
@[reducible] def outBox (t : ℕ) : Rect S512x1024 :=
  Rect.unit ![256 * (t % 2), 0] S256x1024.size (by
    intro a
    fin_cases a
    · show 256 * (t % 2) + 256 ≤ 512
      omega
    · show 0 + 1024 ≤ 1024
      omega)

/-- A tile's rounded inputs. -/
def xbPiece (s : ℕ) (x : Vec F S256x1024 .f32) : View.Piece (Elt F) S2x256x1024 .bf16 :=
  ⟨xbBox s, shapeCast S1x256x1024 (truncf .bf16 x bitsLt_bf16_f32) shapeCasts_S256x1024_S1x256x1024⟩

/-- A piece of a tile's projections, of the rounded inputs a memory holds. -/
def zPiece (mX : Memref sig .tc .vmem S2x256x1024 .bf16) (w : ℕ → Vec F S1024x256 .bf16)
    (L : List (View.Piece (Elt F) S2x256x1024 .bf16)) (s j : ℕ) : View.Piece (Elt F) S256x4096 .f32 :=
  ⟨zBox j, shapeCast S256x256 (matmul dot_S256x1024_S1024x256_S256x256_1_0_0_1_n_n none
    (shapeCast S256x1024 (mX.view.readCov L (xbBox s).toLoadRect) shapeCasts_S1x256x1024_S256x1024)
    (shapeCast S1024x256 (w j) shapeCasts_S1024x256_S1024x256) (constant S256x256 .f32 0x00000000#32)) shapeCasts_S256x256_S256x256⟩

variable (E : Reads F)

/-- The rounded inputs after the first tile's cast, and after the second's. -/
def xb0 : List (View.Piece (Elt F) S2x256x1024 .bf16) := xbPiece 0 (E.x 1) :: E.xbBase
def xb1 : List (View.Piece (Elt F) S2x256x1024 .bf16) := xbPiece 1 E.xn :: xb0 E

/-- The second tile's projections. -/
def zbPieces : List (View.Piece (Elt F) S256x4096 .f32) := stack [] (zPiece E.mX E.w (xb0 E) 0) 16

/-- The next point's first tile's projections. -/
def zaPieces : List (View.Piece (Elt F) S256x4096 .f32) := stack E.zaBase (zPiece E.mX E.w (xb1 E) 1) 16

/-- Chunk `c`'s rows of projection `p`. -/
def z (p c : ℕ) : Vec F S128x1024 .f32 :=
  Nat.rec (E.za p c) (fun _ _ => E.mB.view.readCov (zbPieces E) (partBox p c).toLoadRect) (c / 2)

/-- Chunk `c`'s queries, forget gates, logarithms of them, input gates, values, output gates and summed logarithms. -/
def qs (c : ℕ) : FVec F S128x1024 .f32 := k0_pay24 (z E 0 c)
def fs (c : ℕ) : FVec F S128x1024 .f32 := k0_pay25 (z E 1 c)
def gs (c : ℕ) : FVec F S128x1024 .f32 := k0_pay26 (z E 1 c)
def ks (c : ℕ) : FVec F S128x1024 .f32 := k0_pay27 (z E 1 c)
def vs (c : ℕ) : FVec F S128x1024 .f32 := z E 2 c
def gates (c : ℕ) : FVec F S128x1024 .f32 := k0_pay29 (z E 3 c) (k0_pay28 (z E 3 c))
def sums (c : ℕ) : FVec F S128x1024 .f32 := k0_pay31 E.tri (gs E c)

/-- What the pair's state reads as, before write number `n`. -/
def stRead (n : ℕ) (L : List (View.Piece (Elt F) S128x1024 .f32)) : Vec F S128x256 .f32 :=
  Nat.rec (E.old (n % 4) L) (fun _ _ => E.mS.view.readCov L (stBox (n % 4)).toLoadRect) (n / 4)

/-- The writes of the state: number `n` is chunk `n / 4`'s of pair `n % 4`. -/
def stList (n : ℕ) : List (View.Piece (Elt F) S128x1024 .f32) :=
  Nat.rec E.stBase (fun n L => ⟨stBox (n % 4), shapeCast S128x256 (newState (ks E (n / 4)) (vs E (n / 4)) (sums E (n / 4)) (n % 4) (stRead E n L))
    shapeCasts_S128x256_S128x256⟩ :: L) n

/-- A pair's state before chunk `c`. -/
def stOld (c hp : ℕ) : Vec F S128x256 .f32 := stRead E (4 * c + hp) (stList E (4 * c + hp))

/-- Write number `n` of the outputs. -/
def oPiece (n : ℕ) : View.Piece (Elt F) S2x256x1024 .bf16 :=
  ⟨oBox n, headOut (shapeCast S1x1024 E.ng shapeCasts_S1x1024_S1x1024) (gates E (n / 8)) (n % 8)
    (headSum E.lv (qs E (n / 8)) (fs E (n / 8)) (ks E (n / 8)) (vs E (n / 8)) (sums E (n / 8)) (n % 8) (stOld E (n / 8) (n % 8 / 2)))⟩

/-- A tile's outputs. -/
def oTile (t : ℕ) : Vec F S1x256x1024 .bf16 :=
  E.mO.view.readCov (stack [] (oPiece E) (16 * (t + 1))) (xbBox t).toLoadRect

/-- A tile's result. -/
def result (t : ℕ) : FVec F S256x1024 .f32 :=
  k0_pay299 (k0_pay295 E.g) (k0_pay296 E.b) (k0_pay297 (oTile E t) E.wo (E.x t)) (k0_pay298 (oTile E t) E.wo (E.x t))
    (Scalar.ofBits .f32 0x44800000#32)

/-- The write of tile `t`'s result. -/
def outPiece (t : ℕ) : View.Piece (Elt F) S512x1024 .f32 := ⟨outBox t, result E t⟩

end Cert.Proof.Gate

end
-- ==== Proof.GateLevels.lean ====
module

public import proofs.«01_k».proof.Proof.GateMath
public import proofs.«01_k».proof.Proof.GateRoll

@[expose] public section

set_option maxRecDepth 16384
noncomputable section

namespace Cert.Proof.Gate

open Idealize.ShloMosaic Cert.Kernel4Ideal Cert.Kernel4Ideal.Gen

/-! # The operands of a chunk's levels, at an index -/

/-- A chunk's array holds reals. -/
def Holds (w : FVec Ideal S128x1024 .f32) (W : ℕ → Fin 1024 → ℝ) : Prop :=
  ∀ (t : Fin 128) (e : Fin 1024), w (ix2 t e) = ((W t.val e : ℝ) : EReal)

/-- Two to a real. -/
theorem exp2_coe (r : ℝ) : Ideal.exp2 (r : EReal) = ((2 ^ r : ℝ) : EReal) := rfl

/-- What an operand holds at row `t` for the segments of `2 m` rows, of the gates' summed logarithms `C`. -/
def operand (q k C : ℕ → Fin 1024 → ℝ) (m t : ℕ) (e : Fin 1024) : ℝ :=
  if t % (2 * m) < m then k t e * 2 ^ (C (t / (2 * m) * (2 * m) + (m - 1)) e - C t e)
  else q t e * 2 ^ (C t e - C (t / (2 * m) * (2 * m) + (m - 1)) e)

variable {q k bc : FVec Ideal S128x1024 .f32} {Q K C : ℕ → Fin 1024 → ℝ}

/-- The lower half of a segment: keys, weighed by the gates up to the middle row. -/
theorem low_at (hk : Holds k K) (hb : Holds bc C) {n a t : ℕ} {h : a + n ≤ 128} {hm : a + n - 1 + 1 ≤ 128} (r : Fin n) (e : Fin 1024)
    (ht : a + r.val = t) (ha : t / (2 * n) * (2 * n) = a) (hl : t % (2 * n) < n) :
    lowHalf n a h k bc bc hm (ix2 r e) = ((operand Q K C n t e : ℝ) : EReal) := by
  have e1 : lowHalf n a h k bc bc hm (ix2 r e)
      = k (ix2 ⟨a + r.val, by omega⟩ e) * Ideal.exp2 (bc (ix2 ⟨a + n - 1, by omega⟩ e) - bc (ix2 ⟨a + r.val, by omega⟩ e)) := by
    unfold lowHalf
    pointwise
    rfl
  rw [e1, hk, hb, hb, ← EReal.coe_sub, exp2_coe, ← EReal.coe_mul, operand, if_pos hl, ha]
  dsimp only
  rw [ht, Nat.add_sub_assoc (by omega)]

/-- The upper half of a segment: queries, weighed by the gates from the middle row. -/
theorem high_at (hq : Holds q Q) (hb : Holds bc C) {n a t : ℕ} {h : a + n + n ≤ 128} {hm : a + n - 1 + 1 ≤ 128} (r : Fin n) (e : Fin 1024)
    (ht : a + n + r.val = t) (ha : t / (2 * n) * (2 * n) = a) (hl : n ≤ t % (2 * n)) :
    highHalf n a h q bc bc hm (ix2 r e) = ((operand Q K C n t e : ℝ) : EReal) := by
  have e1 : highHalf n a h q bc bc hm (ix2 r e)
      = q (ix2 ⟨a + n + r.val, by omega⟩ e) * Ideal.exp2 (bc (ix2 ⟨a + n + r.val, by omega⟩ e) - bc (ix2 ⟨a + n - 1, by omega⟩ e)) := by
    unfold highHalf
    pointwise
    rfl
  rw [e1, hq, hb, hb, ← EReal.coe_sub, exp2_coe, ← EReal.coe_mul, operand, if_neg (by omega), ha]
  dsimp only
  rw [ht, Nat.add_sub_assoc (by omega)]

attribute [local irreducible] lowHalf highHalf

/-- Rounding is the identity on the ideal numbers. -/
theorem rounded_at {s : Shape} (x : FVec Ideal s .f32) (h) (i : s.Idx) : truncf .bf16 x h i = x i := rfl

/-- Pieces of `n` rows, one below the other, read at a row. -/
theorem rows_at {α : Type} {xs : List ((s : Shape) × (s.Idx → α))} {h : Shape.Concatenates (xs.map (·.1)) S128x1024 0} (t : Fin 128)
    (e : Fin 1024) {n p : ℕ} (hp : t.val / n = p) {w : (⟨2, ![n, 1024]⟩ : Shape).Idx → α}
    (hx : xs[p]? = some ⟨⟨2, ![n, 1024]⟩, w⟩) (hn : 0 < n)
    (hpre : (((xs.take p).map (·.1)).map fun s => if h : s.rank = S128x1024.rank then s.size ((0 : Fin 2).cast h.symm) else 0).sum = n * p) :
    concatenate S128x1024 0 xs h (ix2 t e) = w (ix2 ⟨t.val % n, Nat.mod_lt _ hn⟩ e) := by
  obtain ⟨hl, hx⟩ := List.getElem?_eq_some_iff.mp hx
  refine concatenate_apply_piece 0 xs h (ix2 t e) p hl _ w hx rfl (n * p) hpre (ix2 ⟨t.val % n, Nat.mod_lt _ hn⟩ e) (fun b hb => ?_) ?_
  · fin_cases b
    · exact absurd rfl hb
    · rfl
  · show n * p + t.val % n = t.val
    rw [← hp]
    exact Nat.div_add_mod _ _

/-- The same, for what the piece holds at the row. -/
theorem rows_to {α : Type} {xs : List ((s : Shape) × (s.Idx → α))} {h : Shape.Concatenates (xs.map (·.1)) S128x1024 0} (t : Fin 128)
    (e : Fin 1024) {n p : ℕ} (hp : t.val / n = p) {w : (⟨2, ![n, 1024]⟩ : Shape).Idx → α} {y : α}
    (hx : xs[p]? = some ⟨⟨2, ![n, 1024]⟩, w⟩) (hn : 0 < n)
    (hpre : (((xs.take p).map (·.1)).map fun s => if h : s.rank = S128x1024.rank then s.size ((0 : Fin 2).cast h.symm) else 0).sum = n * p)
    (goal : w (ix2 ⟨t.val % n, Nat.mod_lt _ hn⟩ e) = y) :
    concatenate S128x1024 0 xs h (ix2 t e) = y :=
  (rows_at t e hp hx hn hpre).trans goal

/-- The operand of segments of 128 rows. -/
theorem level128_at (hq : Holds q Q) (hk : Holds k K) (hb : Holds bc C) (t : Fin 128) (e : Fin 1024) :
    level128 q k bc (ix2 t e) = ((operand Q K C 64 t.val e : ℝ) : EReal) := by
  unfold level128
  try rw [rounded_at]
  obtain ⟨p, hp⟩ : ∃ p, t.val / 64 = p := ⟨_, rfl⟩
  have hp2 : p < 2 := by omega
  interval_cases p <;> (
  apply rows_to t e hp
  case hx =>
    simp only [segment, List.cons_append, List.nil_append, List.getElem?_cons_zero, List.getElem?_cons_succ]
    exact rfl
  case hpre =>
    simp only [segment, List.cons_append, List.nil_append, List.take_succ_cons, List.take_zero, List.map_cons, List.map_nil]
    exact rfl
  case hn => decide
  case goal => first
    | exact low_at hk hb _ _ (by dsimp only; omega) (by omega) (by omega)
    | exact high_at hq hb _ _ (by dsimp only; omega) (by omega) (by omega))

set_option maxHeartbeats 1600000 in
/-- The operand of segments of 64 rows. -/
theorem level64_at (hq : Holds q Q) (hk : Holds k K) (hb : Holds bc C) (t : Fin 128) (e : Fin 1024) :
    level64 q k bc (ix2 t e) = ((operand Q K C 32 t.val e : ℝ) : EReal) := by
  unfold level64
  try rw [rounded_at]
  obtain ⟨p, hp⟩ : ∃ p, t.val / 32 = p := ⟨_, rfl⟩
  have hp2 : p < 4 := by omega
  interval_cases p <;> (
  apply rows_to t e hp
  case hx =>
    simp only [segment, List.cons_append, List.nil_append, List.getElem?_cons_zero, List.getElem?_cons_succ]
    exact rfl
  case hpre =>
    simp only [segment, List.cons_append, List.nil_append, List.take_succ_cons, List.take_zero, List.map_cons, List.map_nil]
    exact rfl
  case hn => decide
  case goal => first
    | exact low_at hk hb _ _ (by dsimp only; omega) (by omega) (by omega)
    | exact high_at hq hb _ _ (by dsimp only; omega) (by omega) (by omega))

set_option maxHeartbeats 1600000 in
/-- The operand of segments of 32 rows. -/
theorem level32_at (hq : Holds q Q) (hk : Holds k K) (hb : Holds bc C) (t : Fin 128) (e : Fin 1024) :
    level32 q k bc (ix2 t e) = ((operand Q K C 16 t.val e : ℝ) : EReal) := by
  unfold level32
  try rw [rounded_at]
  obtain ⟨p, hp⟩ : ∃ p, t.val / 16 = p := ⟨_, rfl⟩
  have hp2 : p < 8 := by omega
  interval_cases p <;> (
  apply rows_to t e hp
  case hx =>
    simp only [segment, List.cons_append, List.nil_append, List.getElem?_cons_zero, List.getElem?_cons_succ]
    exact rfl
  case hpre =>
    simp only [segment, List.cons_append, List.nil_append, List.take_succ_cons, List.take_zero, List.map_cons, List.map_nil]
    exact rfl
  case hn => decide
  case goal => first
    | exact low_at hk hb _ _ (by dsimp only; omega) (by omega) (by omega)
    | exact high_at hq hb _ _ (by dsimp only; omega) (by omega) (by omega))

set_option maxHeartbeats 6400000 in
/-- The operand of segments of 16 rows. -/
theorem level16_at (hq : Holds q Q) (hk : Holds k K) (hb : Holds bc C) (t : Fin 128) (e : Fin 1024) :
    level16 q k bc (ix2 t e) = ((operand Q K C 8 t.val e : ℝ) : EReal) := by
  unfold level16
  try rw [rounded_at]
  obtain ⟨p, hp⟩ : ∃ p, t.val / 8 = p := ⟨_, rfl⟩
  have hp2 : p < 16 := by omega
  interval_cases p <;> (
  apply rows_to t e hp
  case hx =>
    simp only [segment, List.cons_append, List.nil_append, List.getElem?_cons_zero, List.getElem?_cons_succ]
    exact rfl
  case hpre =>
    simp only [segment, List.cons_append, List.nil_append, List.take_succ_cons, List.take_zero, List.map_cons, List.map_nil]
    exact rfl
  case hn => decide
  case goal => first
    | exact low_at hk hb _ _ (by dsimp only; omega) (by omega) (by omega)
    | exact high_at hq hb _ _ (by dsimp only; omega) (by omega) (by omega))

end Cert.Proof.Gate

end
-- ==== Proof.GateShort.lean ====
module

public import proofs.«01_k».proof.Proof.GateLevels

@[expose] public section

set_option maxRecDepth 16384
noncomputable section

namespace Cert.Proof.Gate

open Idealize.ShloMosaic Cert.Kernel4Ideal Cert.Kernel4Ideal.Gen

/-! # The levels of short segments, at an index -/

variable {q k bc : FVec Ideal S128x1024 .f32} {Q K C : ℕ → Fin 1024 → ℝ}

/-- A row spread over 8 rows. -/
theorem spread_at (a : ℕ) (h : a + 1 ≤ 128) (bc : FVec Ideal S128x1024 .f32) (r : Fin 8) (e : Fin 1024) :
    spread a h bc (ix2 r e) = bc (ix2 ⟨a, by omega⟩ e) := by
  unfold spread
  pointwise

/-- The comparison that tells a segment of 8's two halves of 4 apart. -/
theorem lower4 : ∀ r : Fin 8, (IntOp.cmpi CmpIPredicate.slt (BitVec.ofNat 32 r.val) 4#32 = 1) ↔ r.val < 4 := by decide

/-- Two rows spread over 8 rows, the first over its half. -/
theorem spread2_at (a b : ℕ) (ha : a + 1 ≤ 128) (hb : b + 1 ≤ 128) (bc : FVec Ideal S128x1024 .f32) (r : Fin 8) (e : Fin 1024) :
    spread2 a b ha hb bc (ix2 r e) = if r.val < 4 then bc (ix2 ⟨a, by omega⟩ e) else bc (ix2 ⟨b, by omega⟩ e) := by
  unfold spread2
  pointwise
  rw [spread_at, spread_at]
  unfold Scalar.select
  simp only [lower4]

attribute [local irreducible] spread spread2

set_option maxHeartbeats 1600000 in
/-- The middle rows of segments of 8 rows. -/
theorem mids8_at (hb : Holds bc C) (t : Fin 128) (e : Fin 1024) :
    mids8 bc (ix2 t e) = ((C (t.val / 8 * 8 + 3) e : ℝ) : EReal) := by
  unfold mids8
  obtain ⟨p, hp⟩ : ∃ p, t.val / 8 = p := ⟨_, rfl⟩
  have hp2 : p < 16 := by omega
  interval_cases p <;> exact (rows_at t e hp rfl (by decide) rfl).trans
    ((spread_at _ _ _ _ _).trans ((hb _ _).trans (by rw [hp])))

set_option maxHeartbeats 1600000 in
/-- The middle rows of segments of 4 rows. -/
theorem mids4_at (hb : Holds bc C) (t : Fin 128) (e : Fin 1024) :
    mids4 bc (ix2 t e) = ((C (t.val / 4 * 4 + 1) e : ℝ) : EReal) := by
  unfold mids4
  obtain ⟨p, hp⟩ : ∃ p, t.val / 8 = p := ⟨_, rfl⟩
  have hp2 : p < 16 := by omega
  interval_cases p <;> (
    refine (rows_at t e hp rfl (by decide) rfl).trans ((spread2_at _ _ _ _ _ _ _).trans ?_)
    dsimp only
    split
    · rw [hb]
      dsimp only
      congr 2
      omega
    · rw [hb]
      dsimp only
      congr 2
      omega)

/-- Which rows are in the upper half of a segment of 8. -/
theorem upper8 : ∀ t : Fin 128, (IntOp.cmpi CmpIPredicate.sge (IntOp.andi (BitVec.ofNat 32 t.val) 7#32) 4#32 = 1) ↔ ¬t.val % 8 < 4 := by
  decide +kernel

/-- Which rows are in the upper half of a segment of 4. -/
theorem upper4 : ∀ t : Fin 128, (IntOp.cmpi CmpIPredicate.sge (IntOp.andi (BitVec.ofNat 32 t.val) 3#32) 2#32 = 1) ↔ ¬t.val % 4 < 2 := by
  decide +kernel

/-- Which rows are in the upper half of a segment of 2. -/
theorem upper2 : ∀ t : Fin 128, (IntOp.cmpi CmpIPredicate.eq (IntOp.andi (BitVec.ofNat 32 t.val) 1#32) 1#32 = 1) ↔ ¬t.val % 2 < 1 := by
  decide +kernel

/-- An absolute value of a real number, as the kernel takes it. -/
theorem absf_coe (x : ℝ) : FloatOps.absf (F := Ideal) (φ := .f32) (x : EReal) = ((|x| : ℝ) : EReal) := by
  show ((x : EReal) ⊔ -(x : EReal)) = _
  rw [← EReal.coe_neg]
  exact (EReal.coe_strictMono.monotone.map_max (a := x) (b := -x)).symm

/-- The weight towards the middle: the negated distance of the two logarithms. -/
theorem toward (x y : ℝ) : FloatOps.exp2 (F := Ideal) (φ := .f32) ((0 : EReal) - FloatOps.absf (F := Ideal) (φ := .f32) ((x : EReal) - (y : EReal)))
    = ((2 ^ (-|x - y|) : ℝ) : EReal) := by
  rw [← EReal.coe_sub, absf_coe, zero_sub, ← EReal.coe_neg]
  rfl

/-- The operand of a short segment. -/
theorem levelShort_at (mask half : BitVec 32) (m : ℕ) (hm : 0 < m) (hq : Holds q Q) (hk : Holds k K) (hb : Holds bc C)
    (hC : ∀ e s t, s ≤ t → C t e ≤ C s e) (mids : FVec Ideal S128x1024 .f32)
    (hmids : ∀ (t : Fin 128) (e : Fin 1024), mids (ix2 t e) = ((C (t.val / (2 * m) * (2 * m) + (m - 1)) e : ℝ) : EReal))
    (hu : ∀ t : Fin 128, (IntOp.cmpi CmpIPredicate.sge (IntOp.andi (BitVec.ofNat 32 t.val) mask) half = 1) ↔ ¬t.val % (2 * m) < m)
    (t : Fin 128) (e : Fin 1024) :
    levelShort mask half q k bc mids (ix2 t e) = ((operand Q K C m t.val e : ℝ) : EReal) := by
  unfold levelShort
  pointwise
  rw [hq, hk, hb, hmids]
  unfold Scalar.select
  simp only [hu]
  have hd := Nat.div_add_mod t.val (2 * m)
  have hmul : t.val / (2 * m) * (2 * m) = 2 * m * (t.val / (2 * m)) := Nat.mul_comm _ _
  refine (congrArg (_ * ·) (toward _ _)).trans ?_
  unfold operand
  by_cases h : t.val % (2 * m) < m
  · rw [if_neg (not_not.mpr h), if_pos h, ← EReal.coe_mul, abs_of_nonneg (sub_nonneg.mpr (hC e _ _ (by omega))), neg_sub]
  · rw [if_pos h, if_neg h, ← EReal.coe_mul, abs_of_nonpos (sub_nonpos.mpr (hC e _ _ (by omega))), neg_neg]

/-- The operand of segments of 2 rows. -/
theorem level2_at {f : FVec Ideal S128x1024 .f32} {Fg : ℕ → Fin 1024 → ℝ} (hq : Holds q Q) (hk : Holds k K) (hf : Holds f Fg)
    (hC : ∀ e t, (2 : ℝ) ^ (C (t + 1) e - C t e) = Fg (t + 1) e)
    (t : Fin 128) (e : Fin 1024) :
    level2 q f k (ix2 t e) = ((operand Q K C 1 t.val e : ℝ) : EReal) := by
  unfold level2 k0_pay80
  pointwise
  rw [hq, hk, hf]
  unfold Scalar.select
  simp only [upper2]
  unfold operand
  by_cases h : t.val % 2 < 1
  · rw [if_neg (not_not.mpr h), if_pos h]
    rw [show t.val / (2 * 1) * (2 * 1) + (1 - 1) = t.val by omega, sub_self, Real.rpow_zero, mul_one]
  · rw [if_pos h, if_neg h, ← EReal.coe_mul]
    obtain ⟨s, hs⟩ : ∃ s, t.val = s + 1 := ⟨t.val - 1, by omega⟩
    rw [show t.val / (2 * 1) * (2 * 1) + (1 - 1) = s by omega, hs, hC]

end Cert.Proof.Gate

end
-- ==== Proof.GateScores.lean ====
module

public import proofs.«01_k».proof.Proof.GateShort

@[expose] public section

set_option maxRecDepth 16384
noncomputable section

namespace Cert.Proof.Gate

open Idealize.ShloMosaic Cert.Kernel4Ideal Cert.Kernel4Ideal.Gen

/-! # A chunk's scores, at an index -/

section Index

variable {α : Type}

/-- The columns of a pair of heads. -/
theorem pairCols_at (hp : ℕ) (w : S128x1024.Idx → α) (t : Fin 128) (x : Fin 256) :
    pairCols hp w (ix2 t x) = w (ix2 t ⟨256 * (hp % 4) + x.val, by omega⟩) := by
  unfold pairCols
  pointwise

/-- The columns of a head. -/
theorem headCols_at (h : ℕ) (w : S128x1024.Idx → α) (t : Fin 128) (d : Fin 128) :
    headCols h w (ix2 t d) = w (ix2 t ⟨128 * (h % 8) + d.val, by omega⟩) := by
  unfold headCols
  pointwise

/-- The columns of one head of a pair. -/
theorem halfCols_at (i : ℕ) (w : S128x256.Idx → α) (t d : Fin 128) :
    halfCols i w (ix2 t d) = w (ix2 t ⟨128 * (i % 2) + d.val, by omega⟩) := by
  unfold halfCols
  pointwise

/-- Two arrays beside each other. -/
theorem beside_at (a b : S128x128.Idx → α) (t : Fin 128) (x : Fin 256) :
    beside a b (ix2 t x) = if h : x.val < 128 then a (ix2 t ⟨x.val, h⟩) else b (ix2 t ⟨x.val - 128, by omega⟩) := by
  unfold beside
  pointwise

end Index

attribute [local irreducible] pairCols headCols halfCols beside

/-- The zero word is zero. -/
theorem zero_bf16 : (Scalar.ofBits (F := Ideal) .bf16 0x0000#16 : EReal) = 0 := by
  pointwise

/-- A pair of heads as a block diagonal matrix. -/
theorem blockDiag_at (w : FVec Ideal S128x256 .bf16) (y x : Fin 256) :
    blockDiag w (ix2 y x) = if y.val / 128 = x.val / 128 then w (ix2 ⟨y.val % 128, by omega⟩ x) else (0 : EReal) := by
  have e0 : blockDiag w (ix2 y x) = if h : y.val < 128 then
      beside (halfCols 0 w) (broadcast S128x128 (Scalar.ofBits .bf16 0x0000#16)) (ix2 ⟨y.val, h⟩ x)
      else beside (broadcast S128x128 (Scalar.ofBits .bf16 0x0000#16)) (halfCols 1 w) (ix2 ⟨y.val - 128, by omega⟩ x) := by
    unfold blockDiag
    pointwise
  rw [e0]
  by_cases hy : y.val < 128
  · rw [dif_pos hy, beside_at]
    by_cases hx : x.val < 128
    · rw [dif_pos hx, if_pos (by omega), halfCols_at]
      refine congrArg w (congrArg₂ ix2 (Fin.ext ?_) (Fin.ext ?_))
      · dsimp only
        omega
      · dsimp only
        omega
    · rw [dif_neg hx, if_neg (by omega)]
      exact zero_bf16
  · rw [dif_neg hy, beside_at]
    by_cases hx : x.val < 128
    · rw [dif_pos hx, if_neg (by omega)]
      exact zero_bf16
    · rw [dif_neg hx, if_pos (by omega), halfCols_at]
      refine congrArg w (congrArg₂ ix2 (Fin.ext ?_) (Fin.ext ?_))
      · dsimp only
        omega
      · dsimp only
        omega

/-- A sum over the two heads of a pair. -/
theorem sum_halves {M : Type} [AddCommMonoid M] (F : Fin 256 → M) :
    ∑ x, F x = (∑ d : Fin 128, F ⟨d.val, by omega⟩) + ∑ d : Fin 128, F ⟨128 + d.val, by omega⟩ :=
  Fin.sum_univ_add (a := 128) (b := 128) F

/-- A sum whose terms vanish outside one head of the pair. -/
theorem sum_half (y : ℕ) (hy : y < 256) (F : Fin 256 → EReal) :
    (∑ x : Fin 256, if y / 128 = x.val / 128 then F x else 0) = ∑ d : Fin 128, F ⟨128 * (y / 128) + d.val, by omega⟩ := by
  rw [sum_halves]
  have h : y / 128 = 0 ∨ y / 128 = 1 := by omega
  rcases h with h | h
  · rw [Finset.sum_congr rfl fun d _ => if_pos (by dsimp only; omega), Finset.sum_eq_zero fun d _ => if_neg (by dsimp only; omega), add_zero]
    refine Finset.sum_congr rfl fun d _ => congrArg F (Fin.ext ?_)
    dsimp only
    omega
  · rw [Finset.sum_eq_zero fun d _ => if_neg (by dsimp only; omega), zero_add, Finset.sum_congr rfl fun d _ => if_pos (by dsimp only; omega)]
    refine Finset.sum_congr rfl fun d _ => congrArg F (Fin.ext ?_)
    dsimp only
    omega

/-- The channel of a pair's head's element. -/
@[reducible] def chan (hp i : ℕ) (d : Fin 128) : Fin 1024 := ⟨256 * (hp % 4) + (128 * (i % 2) + d.val), by omega⟩

/-- A level's scores: those of the pairs of rows that meet at it, and zero elsewhere. -/
theorem scoreLevel_at (lv : Vec Ideal S128x256 .i32) (seg : BitVec 32) (hp : ℕ) {w : FVec Ideal S128x1024 .bf16} {W : ℕ → Fin 1024 → ℝ}
    (hw : ∀ (t : Fin 128) (e : Fin 1024), w (ix2 t e) = ((W t.val e : ℝ) : EReal)) (acc : FVec Ideal S128x256 .f32) (t : Fin 128) (i : Fin 256) :
    scoreLevel lv seg hp w acc (ix2 t i) = if lv (ix2 t i) = seg then
      ((∑ d : Fin 128, W t.val (chan hp (i.val / 128) d) * W (i.val % 128) (chan hp (i.val / 128) d) : ℝ) : EReal) else acc (ix2 t i) := by
  have e0 : scoreLevel lv seg hp w acc (ix2 t i) = if lv (ix2 t i) = seg then
      (∑ x : Fin 256, pairCols hp w (ix2 t x) * blockDiag (pairCols hp w) (ix2 i x) : EReal) else acc (ix2 t i) := by
    unfold scoreLevel
    pointwise
    by_cases h : lv (ix2 t i) = seg
    · rw [if_pos h, h, show IntOp.cmpi CmpIPredicate.eq seg seg = 1 from by simp [IntOp.cmpi]]
      rfl
    · rw [if_neg h, show IntOp.cmpi CmpIPredicate.eq (lv (ix2 t i)) seg = 0 from by
        show BitVec.ofBool (lv (ix2 t i) == seg) = 0#1
        rw [beq_eq_false_iff_ne.mpr h]
        rfl]
      rfl
  rw [e0]
  refine if_congr Iff.rfl ?_ rfl
  rw [Finset.sum_congr rfl fun x _ => show pairCols hp w (ix2 t x) * blockDiag (pairCols hp w) (ix2 i x)
    = if i.val / 128 = x.val / 128 then pairCols hp w (ix2 t x) * pairCols hp w (ix2 ⟨i.val % 128, by omega⟩ x) else 0 by
      rw [blockDiag_at, mul_ite, mul_zero], sum_half i.val i.isLt, coe_sum]
  refine Finset.sum_congr rfl fun d _ => ?_
  rw [pairCols_at, pairCols_at, hw, hw, EReal.coe_mul]
  have e1 : (⟨256 * (hp % 4) + (128 * (i.val / 128) + d.val), by omega⟩ : Fin 1024) = chan hp (i.val / 128) d :=
    Fin.ext (by dsimp only; omega)
  exact congrArg₂ (fun a b => ((W t.val a : ℝ) : EReal) * ((W (i.val % 128) b : ℝ) : EReal)) e1 e1

/-! ## The gates' weights -/

/-- A chunk's arrays hold reals, and the gates lie between 0 and 1. -/
structure Chunk (q f k v bc : FVec Ideal S128x1024 .f32) (Q G K V : ℕ → Fin 1024 → ℝ) : Prop where
  q : Holds q Q
  f : Holds f G
  k : Holds k K
  v : Holds v V
  bc : Holds bc fun t e => cum (fun u => G u e) (t + 1)
  pos : ∀ t e, 0 < G t e
  le : ∀ t e, G t e ≤ 1

/-- The logarithms only sum up to less. -/
theorem cum_anti (f : ℕ → ℝ) (h0 : ∀ u, 0 < f u) (h1 : ∀ u, f u ≤ 1) (s t : ℕ) (h : s ≤ t) : cum f t ≤ cum f s := by
  induction t, h using Nat.le_induction with
  | base => exact le_rfl
  | succ t _ ih =>
    refine le_trans ?_ ih
    unfold cum
    rw [Finset.sum_range_succ]
    have h2 : 0 < (Real.log 2)⁻¹ := inv_pos.mpr (Real.log_pos (by norm_num))
    have h3 : Real.log (f t) ≤ 0 := Real.log_nonpos (h0 t).le (h1 t)
    have h4 := mul_nonpos_of_nonpos_of_nonneg h3 h2.le
    linarith

/-- The two operands of a level's rows meet in the product of the gates between the rows. -/
theorem operand_mul (Q K C : ℕ → Fin 1024 → ℝ) (m t s : ℕ) (hd : t / (2 * m) = s / (2 * m)) (hs : s % (2 * m) < m) (ht : m ≤ t % (2 * m))
    (e : Fin 1024) : operand Q K C m t e * operand Q K C m s e = Q t e * K s e * 2 ^ (C t e - C s e) := by
  unfold operand
  rw [if_neg (by omega), if_pos hs, hd]
  rw [show C t e - C s e = (C t e - C (s / (2 * m) * (2 * m) + (m - 1)) e) + (C (s / (2 * m) * (2 * m) + (m - 1)) e - C s e) by ring,
    Real.rpow_add (by norm_num)]
  ring

variable {q f k v bc : FVec Ideal S128x1024 .f32} {Q G K V : ℕ → Fin 1024 → ℝ}

/-- The weights of a level's rows. -/
theorem weight_of (m : ℕ) (t s : ℕ) (hst : s < t) (c : Fin 128 → Fin 1024) (hd : t / (2 * m) = s / (2 * m)) (hs : s % (2 * m) < m)
    (ht : m ≤ t % (2 * m)) :
    (∑ d : Fin 128, operand Q K (fun t e => cum (fun u => G u e) (t + 1)) m t (c d)
      * operand Q K (fun t e => cum (fun u => G u e) (t + 1)) m s (c d))
      = weight (fun u d => Q u (c d)) (fun u d => K u (c d)) (fun u d => G u (c d)) t s := by
  rw [weight, if_pos hst]
  exact Finset.sum_congr rfl fun d _ => operand_mul Q K _ m t s hd hs ht (c d)

/-- A chunk's scores: the weight of every pair of rows. -/
theorem scores_at (hc : Chunk q f k v bc Q G K V) {lv : Vec Ideal S128x256 .i32}
    (hlv : ∀ (t : Fin 128) (i : Fin 256), lv (ix2 t i) = BitVec.ofNat 32 (level t.val (i.val % 128))) (hp : ℕ) (t : Fin 128) (i : Fin 256) :
    scores lv q f k bc hp (ix2 t i) = ((weight (fun u d => Q u (chan hp (i.val / 128) d)) (fun u d => K u (chan hp (i.val / 128) d))
      (fun u d => G u (chan hp (i.val / 128) d)) t.val (i.val % 128) : ℝ) : EReal) := by
  have anti : ∀ e s t, s ≤ t → cum (fun u => G u e) (t + 1) ≤ cum (fun u => G u e) (s + 1) := fun e s t h =>
    cum_anti _ (fun u => hc.pos u e) (fun u => hc.le u e) _ _ (by omega)
  have step : ∀ e t, (2 : ℝ) ^ (cum (fun u => G u e) (t + 1 + 1) - cum (fun u => G u e) (t + 1)) = G (t + 1) e := fun e t => by
    rw [pow_cum_succ (fun u => G u e) (t + 1) (hc.pos _ _), sub_self, Real.rpow_zero, mul_one]
  unfold scores
  rw [scoreLevel_at lv _ hp (level2_at (C := fun t e => cum (fun u => G u e) (t + 1)) hc.q hc.k hc.f step)]
  rw [scoreLevel_at lv _ hp (levelShort_at 3#32 2#32 2 (by omega) hc.q hc.k hc.bc anti _ (mids4_at hc.bc) upper4)]
  rw [scoreLevel_at lv _ hp (levelShort_at 7#32 4#32 4 (by omega) hc.q hc.k hc.bc anti _ (mids8_at hc.bc) upper8)]
  rw [scoreLevel_at lv _ hp (level16_at hc.q hc.k hc.bc), scoreLevel_at lv _ hp (level32_at hc.q hc.k hc.bc),
    scoreLevel_at lv _ hp (level64_at hc.q hc.k hc.bc), scoreLevel_at lv _ hp (level128_at hc.q hc.k hc.bc)]
  rw [hlv]
  by_cases hst : i.val % 128 < t.val
  · obtain ⟨hl, hd, hs, ht⟩ := level_spec t ⟨i.val % 128, by omega⟩ hst
    dsimp only at hl hd hs ht
    rcases hl with h | h | h | h | h | h | h
    · rw [h] at hd hs ht ⊢
      rw [if_pos rfl]
      exact congrArg _ (weight_of 1 _ _ hst _ hd hs ht)
    · rw [h] at hd hs ht ⊢
      rw [if_neg (by decide), if_pos rfl]
      exact congrArg _ (weight_of 2 _ _ hst _ hd hs ht)
    · rw [h] at hd hs ht ⊢
      rw [if_neg (by decide), if_neg (by decide), if_pos rfl]
      exact congrArg _ (weight_of 4 _ _ hst _ hd hs ht)
    · rw [h] at hd hs ht ⊢
      rw [if_neg (by decide), if_neg (by decide), if_neg (by decide), if_pos rfl]
      exact congrArg _ (weight_of 8 _ _ hst _ hd hs ht)
    · rw [h] at hd hs ht ⊢
      rw [if_neg (by decide), if_neg (by decide), if_neg (by decide), if_neg (by decide), if_pos rfl]
      exact congrArg _ (weight_of 16 _ _ hst _ hd hs ht)
    · rw [h] at hd hs ht ⊢
      rw [if_neg (by decide), if_neg (by decide), if_neg (by decide), if_neg (by decide), if_neg (by decide), if_pos rfl]
      exact congrArg _ (weight_of 32 _ _ hst _ hd hs ht)
    · rw [h] at hd hs ht ⊢
      rw [if_neg (by decide), if_neg (by decide), if_neg (by decide), if_neg (by decide), if_neg (by decide), if_neg (by decide),
        if_pos rfl]
      exact congrArg _ (weight_of 64 _ _ hst _ hd hs ht)
  · rw [show level t.val (i.val % 128) = 0 from if_neg hst, weight, if_neg hst]
    rw [if_neg (by decide), if_neg (by decide), if_neg (by decide), if_neg (by decide), if_neg (by decide), if_neg (by decide),
      if_neg (by decide)]
    pointwise
    rfl

end Cert.Proof.Gate

end
-- ==== Proof.GateChunk.lean ====
module

public import proofs.«01_k».proof.Proof.GateScores
public import proofs.«01_k».proof.Proof.GateSpec

@[expose] public section

set_option maxRecDepth 16384
noncomputable section

namespace Cert.Proof.Gate

open Idealize.ShloMosaic Cert.Kernel4Ideal Cert.Kernel4Ideal.Gen

/-! # A chunk's read-outs and its last state -/

attribute [local irreducible] pairCols headCols halfCols beside blockDiag scores

/-- A head's values with rows and channels exchanged, at an index. -/
theorem valuesT_at (v : FVec Ideal S128x1024 .f32) (hp i : ℕ) (j s : Fin 128) : valuesT v hp i (ix2 j s) = v (ix2 s (chan hp i j)) := by
  have e0 : valuesT v hp i (ix2 j s) = halfCols i (pairCols hp v) (ix2 s j) := by
    unfold valuesT
    pointwise
  rw [e0, halfCols_at, pairCols_at]

attribute [local irreducible] valuesT

variable {q f k v bc : FVec Ideal S128x1024 .f32} {Q G K V : ℕ → Fin 1024 → ℝ}

/-- A head's channel, counted by pairs of heads. -/
theorem chan_half (h i : ℕ) (hi : i = h % 2) (d : Fin 128) : chan (h / 2) i d = col h d :=
  Fin.ext (by dsimp only; omega)

/-- A head's scores times its values: every earlier row's value, weighed by the gates between. -/
theorem headSum_at (hc : Chunk q f k v bc Q G K V) {lv : Vec Ideal S128x256 .i32}
    (hlv : ∀ (t : Fin 128) (i : Fin 256), lv (ix2 t i) = BitVec.ofNat 32 (level t.val (i.val % 128))) (h : ℕ) {st : Vec Ideal S128x256 .f32}
    {S : Fin 128 → Fin 1024 → ℝ} (hst : ∀ (j : Fin 128) (x : Fin 256), st (ix2 j x) = ((S j ⟨256 * (h / 2 % 4) + x.val, by omega⟩ : ℝ) : EReal))
    (t j : Fin 128) :
    headSum lv q f k v bc h st (ix2 t j) = ((∑ d : Fin 128, run (fun u => G u (col h d)) (fun u => K u (col h d)) (fun u => V u (col h j))
      (S j (col h d)) (t.val + 1) * Q t.val (col h d) : ℝ) : EReal) := by
  have e0 : headSum lv q f k v bc h st (ix2 t j)
      = (∑ x : Fin 256, beside (truncf .bf16 (halfCols h (scores lv q f k bc (h / 2))) bitsLt_bf16_f32) (headCols h (k0_pay81 q bc)) (ix2 t x)
          * beside (valuesT v (h / 2) h) (truncf .bf16 (halfCols h st) bitsLt_bf16_f32) (ix2 j x) : EReal)
        + (∑ d : Fin 128, headCols h (k0_pay85 q k) (ix2 t d) : EReal) * headCols h v (ix2 t j) := by
    unfold headSum
    pointwise
  have e1 : (∑ x : Fin 256, beside (truncf .bf16 (halfCols h (scores lv q f k bc (h / 2))) bitsLt_bf16_f32) (headCols h (k0_pay81 q bc)) (ix2 t x)
          * beside (valuesT v (h / 2) h) (truncf .bf16 (halfCols h st) bitsLt_bf16_f32) (ix2 j x) : EReal)
      = ((∑ s : Fin 128, weight (fun u d => Q u (col h d)) (fun u d => K u (col h d)) (fun u d => G u (col h d)) t.val s.val * V s.val (col h j) : ℝ) : EReal)
        + ((∑ d : Fin 128, Q t.val (col h d) * 2 ^ cum (fun u => G u (col h d)) (t.val + 1) * S j (col h d) : ℝ) : EReal) := by
    rw [sum_halves, coe_sum, coe_sum]
    refine congrArg₂ (· + ·) (Finset.sum_congr rfl fun s _ => ?_) (Finset.sum_congr rfl fun d _ => ?_)
    · rw [beside_at, beside_at, dif_pos s.isLt, dif_pos s.isLt, rounded_at, halfCols_at, scores_at hc hlv, valuesT_at, hc.v, EReal.coe_mul]
      dsimp only
      have e2 : (128 * (h % 2) + s.val) / 128 = h % 2 := by omega
      have e3 : (128 * (h % 2) + s.val) % 128 = s.val := by omega
      rw [e2, e3]
      simp only [chan_half h (h % 2) rfl]
      rw [show chan (h / 2) h j = col h j from Fin.ext (by dsimp only; omega)]
    · have hd : ¬128 + d.val < 128 := by omega
      rw [beside_at, beside_at, dif_neg hd, dif_neg hd, rounded_at, headCols_at, halfCols_at, hst, EReal.coe_mul]
      have e4 : k0_pay81 q bc (ix2 t (col h ⟨128 + d.val - 128, by omega⟩))
          = q (ix2 t (col h d)) * FloatOps.exp2 (F := Ideal) (φ := .f32) (bc (ix2 t (col h d))) := by
        rw [show (⟨128 + d.val - 128, by omega⟩ : Fin 128) = d from Fin.ext (by dsimp only; omega)]
        unfold k0_pay81
        pointwise
      refine congrArg₂ (· * ·) (e4.trans ?_) (congrArg (fun a => ((S j a : ℝ) : EReal)) (Fin.ext (by dsimp only; omega)))
      rw [hc.q, hc.bc, EReal.coe_mul]
      rfl
  have e5 : (∑ d : Fin 128, headCols h (k0_pay85 q k) (ix2 t d) : EReal) * headCols h v (ix2 t j)
      = (((∑ d : Fin 128, Q t.val (col h d) * K t.val (col h d)) * V t.val (col h j) : ℝ) : EReal) := by
    rw [headCols_at, hc.v, EReal.coe_mul, coe_sum]
    refine congrArg (fun a : EReal => a * _) (Finset.sum_congr rfl fun d _ => ?_)
    rw [headCols_at]
    unfold k0_pay85
    pointwise
    rw [hc.q, hc.k, EReal.coe_mul]
  rw [e0, e1, e5, ← EReal.coe_add, ← EReal.coe_add]
  exact congrArg _ (out_closed (fun u d => Q u (col h d)) (fun u d => K u (col h d)) (fun u d => G u (col h d)) (fun u => V u (col h j))
    (fun d => S j (col h d)) (fun u d => hc.pos u _) t.val t.isLt).symm

/-- The state after a chunk, at an index. -/
theorem newState_at (hc : Chunk q f k v bc Q G K V) (hp : ℕ) {st : Vec Ideal S128x256 .f32}
    {S : Fin 128 → Fin 1024 → ℝ} (hst : ∀ (j : Fin 128) (x : Fin 256), st (ix2 j x) = ((S j ⟨256 * (hp % 4) + x.val, by omega⟩ : ℝ) : EReal))
    (j : Fin 128) (x : Fin 256) (e : Fin 1024) (he : e = ⟨256 * (hp % 4) + x.val, by omega⟩) :
    newState k v bc hp st (ix2 j x) = ((run (fun u => G u e) (fun u => K u e) (fun u => V u (chan hp (x.val / 128) j)) (S j e) 128 : ℝ) : EReal) := by
  have e0 : newState k v bc hp st (ix2 j x)
      = st (ix2 j x) * k0_pay84 bc (ix2 0 e) + (∑ y : Fin 256, beside (valuesT v hp 0) (valuesT v hp 1) (ix2 j y)
          * blockDiag (pairCols hp (k0_pay83 k bc)) (ix2 y x) : EReal) := by
    subst he
    unfold newState
    pointwise
    trace_state
  have e1 : k0_pay84 bc (ix2 0 e) = ((2 ^ cum (fun u => G u e) 128 : ℝ) : EReal) := by
    unfold k0_pay84 k0_pay82
    pointwise
    rw [hc.bc]
    rfl
  have e2 (s : Fin 128) : k0_pay83 k bc (ix2 s e) = ((K s.val e * 2 ^ (cum (fun u => G u e) 128 - cum (fun u => G u e) (s.val + 1)) : ℝ) : EReal) := by
    unfold k0_pay83 k0_pay82
    pointwise
    rw [hc.bc, hc.bc, hc.k, ← EReal.coe_sub, EReal.coe_mul]
    rfl
  rw [e0, hst, e1, ← he, run_closed _ _ _ _ (fun u => hc.pos u e), EReal.coe_add, ← EReal.coe_mul,
    ← Fin.sum_univ_eq_sum_range (fun s => V s (chan hp (x.val / 128) j) * (K s e * 2 ^ (cum (fun u => G u e) 128 - cum (fun u => G u e) (s + 1)))) 128,
    coe_sum]
  refine congrArg (_ + ·) ?_
  rw [Finset.sum_congr rfl fun y _ => show beside (valuesT v hp 0) (valuesT v hp 1) (ix2 j y) * blockDiag (pairCols hp (k0_pay83 k bc)) (ix2 y x)
    = if x.val / 128 = y.val / 128 then beside (valuesT v hp 0) (valuesT v hp 1) (ix2 j y) * k0_pay83 k bc (ix2 ⟨y.val % 128, by omega⟩ e) else (0 : EReal) by
      rw [blockDiag_at, pairCols_at, he]
      by_cases h : y.val / 128 = x.val / 128
      · rw [if_pos h, if_pos h.symm]
      · rw [if_neg h, if_neg (Ne.symm h), mul_zero], sum_half x.val x.isLt]
  refine Finset.sum_congr rfl fun s _ => ?_
  have hx : x.val / 128 = 0 ∨ x.val / 128 = 1 := by omega
  have e3 : (⟨(128 * (x.val / 128) + s.val) % 128, by omega⟩ : Fin 128) = s := Fin.ext (by dsimp only; omega)
  dsimp only
  rw [e3, e2, beside_at]
  refine Eq.trans (congrArg (fun a : EReal => a * _) ?_) (EReal.coe_mul _ _).symm
  rcases hx with hx | hx
  · rw [dif_pos (by dsimp only; omega), valuesT_at, hc.v, show chan hp 0 j = chan hp (x.val / 128) j from by rw [hx]]
    exact congrArg (fun n => ((V n (chan hp (x.val / 128) j) : ℝ) : EReal)) (by dsimp only; omega)
  · rw [dif_neg (by dsimp only; omega), valuesT_at, hc.v, show chan hp 1 j = chan hp (x.val / 128) j from by rw [hx]]
    exact congrArg (fun n => ((V n (chan hp (x.val / 128) j) : ℝ) : EReal)) (by dsimp only; omega)

end Cert.Proof.Gate

end
-- ==== Proof.GateReads.lean ====
module

public import proofs.«01_k».proof.Proof.GateRoll

@[expose] public section

noncomputable section

/-! # What a grid point's loads answer -/

namespace Cert.Proof.Gate

open Idealize.ShloMosaic Cert.Kernel4Ideal Cert.Kernel4Ideal.Gen Idealize.SL.Sem

variable {F : FTy → Type} [FloatOps F] [Named F]

/-- A piece of 256 columns of the weights. -/
@[reducible] def wBox (j : ℕ) : Rect S1024x4096 :=
  Rect.unit ![0, 256 * (j % 16)] S1024x256.size (by
    intro a
    fin_cases a
    · show 0 + 1024 ≤ 1024
      omega
    · show 256 * (j % 16) + 256 ≤ 4096
      omega)

/-- What a grid point reads, of its windows' contents. -/
def pointReads
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)
    (x0 : Vec F S512x1024 .f32) (x1 : Vec F S256x1024 .f32) (x2 : Vec F S4x1024 .f32) (x3 : Vec F S128x256 .i32)
    (x4 : Vec F S128x256 .bf16) (x5 : Vec F S1024x4096 .bf16) (x6 : Vec F S1x1024 .f32) (x7 : Vec F S1024x1024 .bf16)
    (x8 : Vec F S1x1024 .f32) (x9 : Vec F S1x1024 .f32)
    (za : ℕ → ℕ → Vec F S128x1024 .f32) (old : ℕ → List (View.Piece (Elt F) S128x1024 .f32) → Vec F S128x256 .f32)
    (stBase : List (View.Piece (Elt F) S128x1024 .f32)) (xbBase : List (View.Piece (Elt F) S2x256x1024 .bf16))
    (zaBase : List (View.Piece (Elt F) S256x4096 .f32)) : Reads F where
  mS := arg13
  mO := arg14
  mX := arg15
  mB := arg17
  x t := View.readAt (Elt F) arg2.view (outBox t).toLoadRect (harg2.unread x0)
  xn := View.readAt (Elt F) arg3.view (Rect.unit ![0, 0] S256x1024.size inb_S256x1024_S256x1024_0_0).toLoadRect (harg3.unread x1)
  lv := View.readAt (Elt F) arg5.view (Rect.unit ![0, 0] S128x256.size inb_S128x256_S128x256_0_0).toLoadRect (harg5.unread x3)
  tri := View.readAt (Elt F) arg6.view (Rect.unit ![0, 0] S128x256.size inb_S128x256_S128x256_0_0).toLoadRect (harg6.unread x4)
  w j := View.readAt (Elt F) arg7.view (wBox j).toLoadRect (harg7.unread x5)
  ng := View.readAt (Elt F) arg8.view (Rect.unit ![0, 0] S1x1024.size inb_S1x1024_S1x1024_0_0).toLoadRect (harg8.unread x6)
  wo := View.readAt (Elt F) arg9.view (Rect.unit ![0, 0] S1024x1024.size inb_S1024x1024_S1024x1024_0_0).toLoadRect (harg9.unread x7)
  g := View.readAt (Elt F) arg10.view (Rect.unit ![0, 0] S1x1024.size inb_S1x1024_S1x1024_0_0).toLoadRect (harg10.unread x8)
  b := View.readAt (Elt F) arg11.view (Rect.unit ![0, 0] S1x1024.size inb_S1x1024_S1x1024_0_0).toLoadRect (harg11.unread x9)
  za := za
  old := old
  stBase := stBase
  xbBase := xbBase
  zaBase := zaBase

/-- The projections the point before left. -/
def carriedZ (arg16 : Memref sig .tc .vmem S256x4096 .f32) (harg16 : arg16.IsWhole) (xs3 : Vec F S256x4096 .f32) (p c : ℕ) :
    Vec F S128x1024 .f32 :=
  View.readAt (Elt F) arg16.view (partBox p c).toLoadRect (harg16.unread xs3)

/-- The state the point before left. -/
def carriedS (arg13 : Memref sig .tc .vmem S128x1024 .f32) (harg13 : arg13.IsWhole) (xs0 : Vec F S128x1024 .f32) (hp : ℕ) :
    Vec F S128x256 .f32 :=
  View.readAt (Elt F) arg13.view (stBox hp).toLoadRect (harg13.unread xs0)

/-- A fresh sequence's state, after the writes of the point so far. -/
def freshS (arg13 : Memref sig .tc .vmem S128x1024 .f32) (hp : ℕ) (L : List (View.Piece (Elt F) S128x1024 .f32)) : Vec F S128x256 .f32 :=
  arg13.view.readCov L (stBox hp).toLoadRect

/-- The write of the fresh sequence's zero state. -/
def zeroState : View.Piece (Elt F) S128x1024 .f32 :=
  ⟨Rect.unit ![0, 0] S128x1024.size inb_S128x1024_S128x1024_0_0, k0_pay21⟩

/-- The first point casts its first tile itself, -/
def firstX (arg2 : Memref sig .tc .vmem S512x1024 .f32) (harg2 : arg2.IsWhole) (x0 : Vec F S512x1024 .f32) :
    List (View.Piece (Elt F) S2x256x1024 .bf16) :=
  [xbPiece 0 (View.readAt (Elt F) arg2.view (outBox 0).toLoadRect (harg2.unread x0))]

/-- and projects it. -/
def firstZ (arg2 : Memref sig .tc .vmem S512x1024 .f32) (harg2 : arg2.IsWhole)
    (arg7 : Memref sig .tc .vmem S1024x4096 .bf16) (harg7 : arg7.IsWhole) (arg15 : Memref sig .tc .vmem S2x256x1024 .bf16)
    (x0 : Vec F S512x1024 .f32) (x5 : Vec F S1024x4096 .bf16) : List (View.Piece (Elt F) S256x4096 .f32) :=
  stack [] (zPiece arg15 (fun j => View.readAt (Elt F) arg7.view (wBox j).toLoadRect (harg7.unread x5)) (firstX arg2 harg2 x0) 0) 16

end Cert.Proof.Gate

end
-- ==== Proof.GateIn.lean ====
module

public import proofs.«01_k».proof.Proof.GateChunk
public import proofs.«01_k».proof.Proof.GateSpec
public import proofs.«01_k».proof.Proof.GateReads

@[expose] public section

set_option maxRecDepth 16384
noncomputable section

namespace Cert.Proof.Gate

open Idealize.ShloMosaic Cert.Kernel4Ideal Cert.Kernel4Ideal.Gen

/-! # A grid point's projections and chunks -/

/-- What a grid point reads is the layer's: sequence `b` from time `n` on, and the next tile from row `R` on. -/
structure Fits (E : Reads Ideal) (L : Layer) (b n R : ℕ) : Prop where
  x : ∀ t, t < 2 → ∀ (r : Fin 256) (e : Fin 1024), E.x t (ix2 r e) = ((L.X (2048 * b + n + (256 * t + r.val)) e : ℝ) : EReal)
  xn : ∀ (r : Fin 256) (e : Fin 1024), E.xn (ix2 r e) = ((L.X (R + r.val) e : ℝ) : EReal)
  lv : ∀ (t : Fin 128) (i : Fin 256), E.lv (ix2 t i) = BitVec.ofNat 32 (level t.val (i.val % 128))
  tri : ∀ (t : Fin 128) (i : Fin 256), (E.tri (ix2 t i) : EReal) = if i.val % 128 ≤ t.val then 1 else 0
  w : ∀ (j : ℕ) (k : Fin 1024) (x : Fin 256), E.w j (ix2 k x) = ((L.w k ⟨256 * (j % 16) + x.val, by omega⟩ : ℝ) : EReal)
  lng : ∀ e : Fin 1024, E.ng (ix2 0 e) = L.ng e
  lwo : ∀ k e : Fin 1024, E.wo (ix2 k e) = L.wo k e
  lg : ∀ e : Fin 1024, E.g (ix2 0 e) = L.g e
  lb : ∀ e : Fin 1024, E.b (ix2 0 e) = L.b e
  za : ∀ p, p < 4 → ∀ c, c < 2 → ∀ (r : Fin 128) (e : Fin 1024),
    E.za p c (ix2 r e) = ((part L p (2048 * b + n + (128 * c + r.val)) e : ℝ) : EReal)
  old : ∀ hp, hp < 4 → ∀ (j : Fin 128) (x : Fin 256),
    E.old hp (stList E hp) (ix2 j x) = ((st L b n j ⟨256 * (hp % 4) + x.val, by omega⟩ : ℝ) : EReal)

/-- Rounding a tile of rows keeps it. -/
theorem rounded_tile (x : Vec Ideal S256x1024 .f32) (r : Fin 256) (k : Fin 1024) :
    shapeCast S1x256x1024 (truncf (F := Ideal) .bf16 x bitsLt_bf16_f32) shapeCasts_S256x1024_S1x256x1024 (ix3 0 r k) = x (ix2 r k) := by
  pointwise

/-- The rounded inputs read back. -/
theorem xb_read (mX : Memref sig .tc .vmem S2x256x1024 .bf16) (s : ℕ) (x : Vec Ideal S256x1024 .f32)
    (base : List (View.Piece (Elt Ideal) S2x256x1024 .bf16)) (r : Fin 256) (k : Fin 1024) :
    mX.view.readCov (xbPiece s x :: base) (xbBox s).toLoadRect (ix3 0 r k) = x (ix2 r k) := by
  rw [View.readCov_eq_canon']
  refine (canon_stack (n := 1) (k := 0) base (fun _ => xbPiece s x) (by omega) (ix3 0 r k) _ rfl (fun l h h' => by omega)).trans ?_
  exact rounded_tile x r k

variable {L : Layer}

/-- A product with a piece of the weights. -/
theorem product_at (v : FVec Ideal S1x256x1024 .bf16) (w : FVec Ideal S1024x256 .bf16) (r x : Fin 256) :
    shapeCast S256x256 (matmul (F := Ideal) dot_S256x1024_S1024x256_S256x256_1_0_0_1_n_n none (shapeCast S256x1024 v shapeCasts_S1x256x1024_S256x1024)
      (shapeCast S1024x256 w shapeCasts_S1024x256_S1024x256) (constant S256x256 .f32 0x00000000#32)) shapeCasts_S256x256_S256x256 (ix2 r x)
      = (∑ k : Fin 1024, v (ix3 0 r k) * w (ix2 k x) : EReal) := by
  rw [shapeCast_self, shapeCast_self]
  pointwise

/-- A piece of a tile's projections. -/
theorem zPiece_at {mX : Memref sig .tc .vmem S2x256x1024 .bf16} {w : ℕ → Vec Ideal S1024x256 .bf16}
    {B : List (View.Piece (Elt Ideal) S2x256x1024 .bf16)} {s R : ℕ}
    (hx : ∀ (r : Fin 256) (k : Fin 1024), mX.view.readCov B (xbBox s).toLoadRect (ix3 0 r k) = ((L.X (R + r.val) k : ℝ) : EReal))
    (hw : ∀ (j : ℕ) (k : Fin 1024) (x : Fin 256), w j (ix2 k x) = ((L.w k ⟨256 * (j % 16) + x.val, by omega⟩ : ℝ) : EReal))
    (j : ℕ) (r x : Fin 256) :
    (zPiece mX w B s j).2 (ix2 r x) = ((proj L (R + r.val) ⟨256 * (j % 16) + x.val, by omega⟩ : ℝ) : EReal) := by
  have e0 : (zPiece mX w B s j).2 (ix2 r x)
      = (∑ k : Fin 1024, mX.view.readCov B (xbBox s).toLoadRect (ix3 0 r k) * w j (ix2 k x) : EReal) :=
    product_at _ _ r x
  rw [e0, proj, coe_sum]
  exact Finset.sum_congr rfl fun k _ => by rw [hx, hw, EReal.coe_mul]

/-- A tile's projections, wherever they are read. -/
theorem zList_at {mX : Memref sig .tc .vmem S2x256x1024 .bf16} {w : ℕ → Vec Ideal S1024x256 .bf16}
    {B : List (View.Piece (Elt Ideal) S2x256x1024 .bf16)} {s R : ℕ}
    (hx : ∀ (r : Fin 256) (k : Fin 1024), mX.view.readCov B (xbBox s).toLoadRect (ix3 0 r k) = ((L.X (R + r.val) k : ℝ) : EReal))
    (hw : ∀ (j : ℕ) (k : Fin 1024) (x : Fin 256), w j (ix2 k x) = ((L.w k ⟨256 * (j % 16) + x.val, by omega⟩ : ℝ) : EReal))
    (base : List (View.Piece (Elt Ideal) S256x4096 .f32)) (r : Fin 256) (c : Fin 4096) :
    View.canon (stack base (zPiece mX w B s) 16) (ix2 r c) = ((proj L (R + r.val) c : ℝ) : EReal) := by
  refine (canon_stack (k := c.val / 256) base (zPiece mX w B s) (by omega) (ix2 r ⟨c.val % 256, by omega⟩) _ ?_ ?_).trans ?_
  · funext a
    refine Fin.ext ?_
    fin_cases a
    · show 0 + 1 * r.val = r.val
      omega
    · show 256 * (c.val / 256 % 16) + 1 * (c.val % 256) = c.val
      omega
  · intro q hq hq'
    refine not_mem_set 1 fun j => ?_
    have hj : j.val < 256 := j.isLt
    show c.val ≠ 256 * (q % 16) + 1 * j.val
    omega
  · rw [zPiece_at hx hw]
    exact congrArg (fun i => ((proj L (R + r.val) i : ℝ) : EReal)) (Fin.ext (by dsimp only; omega))

/-- A chunk's part of a tile's projections, read back. -/
theorem zRead_at {mX : Memref sig .tc .vmem S2x256x1024 .bf16} (mZ : Memref sig .tc .vmem S256x4096 .f32) {w : ℕ → Vec Ideal S1024x256 .bf16}
    {B : List (View.Piece (Elt Ideal) S2x256x1024 .bf16)} {s R : ℕ}
    (hx : ∀ (r : Fin 256) (k : Fin 1024), mX.view.readCov B (xbBox s).toLoadRect (ix3 0 r k) = ((L.X (R + r.val) k : ℝ) : EReal))
    (hw : ∀ (j : ℕ) (k : Fin 1024) (x : Fin 256), w j (ix2 k x) = ((L.w k ⟨256 * (j % 16) + x.val, by omega⟩ : ℝ) : EReal))
    (base : List (View.Piece (Elt Ideal) S256x4096 .f32)) (p c : ℕ) (r : Fin 128) (e : Fin 1024) :
    mZ.view.readCov (stack base (zPiece mX w B s) 16) (partBox p c).toLoadRect (ix2 r e)
      = ((part L p (R + (128 * (c % 2) + r.val)) e : ℝ) : EReal) := by
  rw [View.readCov_eq_canon']
  have e0 : (partBox p c).toLoadRect.idx (ix2 r e) = ix2 ⟨128 * (c % 2) + r.val, by omega⟩ ⟨1024 * (p % 4) + e.val, by omega⟩ := by
    funext a
    refine Fin.ext ?_
    fin_cases a
    · show 128 * (c % 2) + 1 * r.val = 128 * (c % 2) + r.val
      omega
    · show 1024 * (p % 4) + 1 * e.val = 1024 * (p % 4) + e.val
      omega
  refine (congrArg (View.canon _) e0).trans ?_
  rw [zList_at hx hw]
  rfl

variable {E : Reads Ideal} {b n R : ℕ} (fits : Fits E L b n R)
include fits

/-- The first tile's rounded rows, as read back. -/
theorem xb0_read (r : Fin 256) (k : Fin 1024) :
    E.mX.view.readCov (xb0 E) (xbBox 0).toLoadRect (ix3 0 r k) = ((L.X (2048 * b + n + 256 + r.val) k : ℝ) : EReal) :=
  (xb_read E.mX 0 (E.x 1) E.xbBase r k).trans ((fits.x 1 (by omega) r k).trans
    (congrArg (fun i => ((L.X i k : ℝ) : EReal)) (by omega)))

/-- The second tile's rounded rows, as read back. -/
theorem xb1_read (r : Fin 256) (k : Fin 1024) :
    E.mX.view.readCov (xb1 E) (xbBox 1).toLoadRect (ix3 0 r k) = ((L.X (R + r.val) k : ℝ) : EReal) :=
  (xb_read E.mX 1 E.xn (xb0 E) r k).trans (fits.xn r k)

/-- The projections a point leaves for the next one. -/
theorem zaPieces_at (r : Fin 256) (c : Fin 4096) : View.canon (zaPieces E) (ix2 r c) = ((proj L (R + r.val) c : ℝ) : EReal) :=
  zList_at (xb1_read fits) fits.w _ r c

/-- A chunk's projections. -/
theorem z_at (p : ℕ) (hp : p < 4) (c : ℕ) (hc : c < 4) (r : Fin 128) (e : Fin 1024) :
    z E p c (ix2 r e) = ((part L p (2048 * b + n + 128 * c + r.val) e : ℝ) : EReal) := by
  match c, hc with
  | 0, _ => exact (fits.za p hp 0 (by omega) r e).trans (congrArg (fun i => ((part L p i e : ℝ) : EReal)) (by omega))
  | 1, _ => exact (fits.za p hp 1 (by omega) r e).trans (congrArg (fun i => ((part L p i e : ℝ) : EReal)) (by omega))
  | 2, _ => exact (zRead_at E.mB (xb0_read fits) fits.w [] p 2 r e).trans (congrArg (fun i => ((part L p i e : ℝ) : EReal)) (by omega))
  | 3, _ => exact (zRead_at E.mB (xb0_read fits) fits.w [] p 3 r e).trans (congrArg (fun i => ((part L p i e : ℝ) : EReal)) (by omega))

omit fits in
/-- The logistic function at a real. -/
theorem logistic_coe (r : ℝ) : Ideal.logistic (r : EReal) = ((sg r : ℝ) : EReal) := sigm_coe r

/-- The forget gate. -/
theorem fs_at (c : ℕ) (hc : c < 4) (r : Fin 128) (e : Fin 1024) :
    fs E c (ix2 r e) = ((Gr L (2048 * b + n + 128 * c + r.val) e : ℝ) : EReal) := by
  have e0 : fs E c (ix2 r e) = Ideal.logistic (z E 1 c (ix2 r e)) := by
    unfold fs k0_pay25 k0_pay22
    pointwise
  rw [e0, z_at fits 1 (by omega) c hc, logistic_coe]
  rfl

/-- The gate's logarithm to base 2. -/
theorem gs_at (c : ℕ) (hc : c < 4) (r : Fin 128) (e : Fin 1024) :
    gs E c (ix2 r e) = ((Real.log (Gr L (2048 * b + n + 128 * c + r.val) e) * (Real.log 2)⁻¹ : ℝ) : EReal) := by
  have e0 : gs E c (ix2 r e) = Ideal.log (fs E c (ix2 r e)) * (((Real.log 2)⁻¹ : ℝ) : EReal) := by
    unfold gs k0_pay26 fs
    pointwise
    rfl
  rw [e0, fs_at fits c hc, Ideal.log_coe, if_neg (show ¬Gr L _ e ≤ 0 from not_le.mpr (sg_pos _)), EReal.coe_mul]

/-- The summed logarithms. -/
theorem sums_at (c : ℕ) (hc : c < 4) (t : Fin 128) (e : Fin 1024) :
    sums E c (ix2 t e) = ((cum (fun u => Gr L (2048 * b + n + 128 * c + u) e) (t.val + 1) : ℝ) : EReal) := by
  have e0 : sums E c (ix2 t e) = ∑ i : Fin 256, (E.tri (ix2 t i) : EReal)
      * (if h : i.val < 128 then gs E c (ix2 ⟨i.val, h⟩ e) else gs E c (ix2 ⟨i.val - 128, by omega⟩ e) - gs E c (ix2 ⟨i.val - 128, by omega⟩ e)) := by
    unfold sums k0_pay31
    pointwise
  have e1 : ∀ s : Fin 128, (E.tri (ix2 t ⟨s.val, by omega⟩) : EReal)
      * (if h : s.val < 128 then gs E c (ix2 ⟨s.val, h⟩ e) else gs E c (ix2 ⟨s.val - 128, by omega⟩ e) - gs E c (ix2 ⟨s.val - 128, by omega⟩ e))
      = (((if s.val < t.val + 1 then Real.log (Gr L (2048 * b + n + 128 * c + s.val) e) * (Real.log 2)⁻¹ else 0) : ℝ) : EReal) := fun s => by
    rw [dif_pos s.isLt, fits.tri, gs_at fits c hc]
    dsimp only
    by_cases h : s.val < t.val + 1
    · rw [if_pos (by omega), if_pos h, one_mul]
    · rw [if_neg (by omega), if_neg h, zero_mul]
      rfl
  have e2 : ∀ s : Fin 128, (E.tri (ix2 t ⟨128 + s.val, by omega⟩) : EReal)
      * (if h : 128 + s.val < 128 then gs E c (ix2 ⟨128 + s.val, h⟩ e)
        else gs E c (ix2 ⟨128 + s.val - 128, by omega⟩ e) - gs E c (ix2 ⟨128 + s.val - 128, by omega⟩ e)) = 0 := fun s => by
    rw [dif_neg (by omega), gs_at fits c hc, ← EReal.coe_sub, sub_self, EReal.coe_zero, mul_zero]
  rw [e0, sum_halves, Finset.sum_congr rfl fun s _ => e1 s, Finset.sum_eq_zero fun s _ => e2 s, add_zero, ← coe_sum]
  refine congrArg _ ?_
  rw [Fin.sum_univ_eq_sum_range (fun s => if s < t.val + 1 then Real.log (Gr L (2048 * b + n + 128 * c + s) e) * (Real.log 2)⁻¹ else 0) 128, cum,
    ← Finset.sum_subset (Finset.range_mono (show t.val + 1 ≤ 128 by omega)) (fun s _ hs => if_neg fun h => hs (Finset.mem_range.mpr h))]
  exact Finset.sum_congr rfl fun s hs => if_pos (Finset.mem_range.mp hs)

/-- A chunk's arrays. -/
theorem chunk (c : ℕ) (hc : c < 4) : Chunk (qs E c) (fs E c) (ks E c) (vs E c) (sums E c)
    (fun u => Qr L (2048 * b + n + 128 * c + u)) (fun u => Gr L (2048 * b + n + 128 * c + u))
    (fun u => Kr L (2048 * b + n + 128 * c + u)) (fun u => Vr L (2048 * b + n + 128 * c + u)) where
  q t e := by
    have e0 : qs E c (ix2 t e) = z E 0 c (ix2 t e) * Ideal.logistic (z E 0 c (ix2 t e)) := by
      unfold qs k0_pay24
      pointwise
    rw [e0, z_at fits 0 (by omega) c hc, logistic_coe, ← EReal.coe_mul]
    rfl
  f t e := fs_at fits c hc t e
  k t e := by
    have e0 : ks E c (ix2 t e) = 1 - fs E c (ix2 t e) := by
      unfold ks k0_pay27 fs
      pointwise
    rw [e0, fs_at fits c hc, ← EReal.coe_one, ← EReal.coe_sub]
    rfl
  v t e := z_at fits 2 (by omega) c hc t e
  bc t e := sums_at fits c hc t e
  pos _ _ := sg_pos _
  le _ _ := sg_le _

/-- The output gate. -/
theorem gates_at (c : ℕ) (hc : c < 4) (t : Fin 128) (e : Fin 1024) :
    gates E c (ix2 t e) = ((Or L (2048 * b + n + 128 * c + t.val) e : ℝ) : EReal) := by
  have e0 : gates E c (ix2 t e) = z E 3 c (ix2 t e) * Ideal.logistic (z E 3 c (ix2 t e)) := by
    unfold gates k0_pay29 k0_pay28
    pointwise
  rw [e0, z_at fits 3 (by omega) c hc, logistic_coe, ← EReal.coe_mul]
  rfl

end Cert.Proof.Gate

end
-- ==== Proof.GateOut.lean ====
module

public import proofs.«01_k».proof.Proof.GateIn

@[expose] public section

set_option maxRecDepth 16384
noncomputable section

namespace Cert.Proof.Gate

open Idealize.ShloMosaic Cert.Kernel4Ideal Cert.Kernel4Ideal.Gen

/-! # A grid point's results -/

attribute [local irreducible] headCols headSum newState

variable (E : Reads Ideal)

/-- Write number `n` of the state. -/
def stPiece (n : ℕ) : View.Piece (Elt Ideal) S128x1024 .f32 :=
  ⟨stBox (n % 4), shapeCast S128x256 (newState (ks E (n / 4)) (vs E (n / 4)) (sums E (n / 4)) (n % 4) (stRead E n (stList E n)))
    shapeCasts_S128x256_S128x256⟩

/-- The list of the state's pieces, as a stack. -/
theorem stList_eq (n : ℕ) : stList E n = stack E.stBase (stPiece E) n := by
  induction n with
  | zero => rfl
  | succ n ih =>
    rw [stack, ← ih]
    rfl

variable {E} {L : Layer} {b n R : ℕ}

/-- A channel of a pair's head, of its column. -/
theorem chan_col (hp : ℕ) (x : Fin 256) (j : Fin 128) : chan hp (x.val / 128) j = col ((256 * (hp % 4) + x.val) / 128) j :=
  Fin.ext (by dsimp only; omega)

/-- The state after chunk `c`. -/
theorem state_step (fits : Fits E L b n R) (c hp : ℕ) (hc : c < 4)
    (ih : ∀ (j : Fin 128) (x : Fin 256), stOld E c hp (ix2 j x) = ((st L b (n + 128 * c) j ⟨256 * (hp % 4) + x.val, by omega⟩ : ℝ) : EReal))
    (j : Fin 128) (x : Fin 256) :
    newState (ks E c) (vs E c) (sums E c) hp (stOld E c hp) (ix2 j x)
      = ((st L b (n + 128 * (c + 1)) j ⟨256 * (hp % 4) + x.val, by omega⟩ : ℝ) : EReal) := by
  rw [newState_at (chunk fits c hc) hp (S := fun j e => st L b (n + 128 * c) j e) ih j x _ rfl]
  refine congrArg _ ?_
  rw [chan_col hp x j, show n + 128 * (c + 1) = n + 128 * c + 128 by omega]
  have h := st_add L b (n + 128 * c) 128 j ⟨256 * (hp % 4) + x.val, by omega⟩
  simp only [Nat.add_assoc] at h ⊢
  exact h

/-- What the last write of a pair's columns left, read back. -/
theorem stList_at (c hp : ℕ) (hp4 : hp < 4) (k : ℕ) (hk : 4 * c + hp < k) (hk' : k ≤ 4 * c + hp + 4) (j : Fin 128) (x : Fin 256)
    (e : Fin 1024) (he : e.val = 256 * hp + x.val) :
    View.canon (stList E k) (ix2 j e) = newState (ks E c) (vs E c) (sums E c) hp (stOld E c hp) (ix2 j x) := by
  have e1 : (4 * c + hp) / 4 = c := by omega
  have e2 : (4 * c + hp) % 4 = hp := by omega
  rw [stList_eq]
  refine (canon_stack (k := 4 * c + hp) E.stBase (stPiece E) hk (ix2 j x) _ ?_ ?_).trans ?_
  · funext a
    refine Fin.ext ?_
    fin_cases a
    · show 0 + 1 * j.val = j.val
      omega
    · show 256 * ((4 * c + hp) % 4 % 4) + 1 * x.val = e.val
      omega
  · intro q hq hq'
    refine not_mem_set 1 fun i => ?_
    have hi : i.val < 256 := i.isLt
    show e.val ≠ 256 * (q % 4 % 4) + 1 * i.val
    omega
  · unfold stPiece stOld
    dsimp only
    rw [shapeCast_self, e1, e2]

/-- A pair's state before chunk `c`. -/
theorem stOld_at (fits : Fits E L b n R) (c : ℕ) (hc : c < 4) (hp : ℕ) (hp4 : hp < 4) (j : Fin 128) (x : Fin 256) :
    stOld E c hp (ix2 j x) = ((st L b (n + 128 * c) j ⟨256 * (hp % 4) + x.val, by omega⟩ : ℝ) : EReal) := by
  induction c generalizing j x with
  | zero =>
    have e1 : stOld E 0 hp = E.old hp (stList E hp) := by
      unfold stOld stRead
      rw [show 4 * 0 + hp = hp by omega, show hp / 4 = 0 by omega, show hp % 4 = hp by omega]
      rfl
    rw [e1, fits.old hp hp4]
    rfl
  | succ c ih =>
    have e1 : stOld E (c + 1) hp = E.mS.view.readCov (stList E (4 * (c + 1) + hp)) (stBox hp).toLoadRect := by
      unfold stOld stRead
      rw [show (4 * (c + 1) + hp) / 4 = c + 1 by omega, show (4 * (c + 1) + hp) % 4 = hp by omega]
    have e2 : (stBox hp).toLoadRect.idx (ix2 j x) = ix2 j ⟨256 * (hp % 4) + x.val, by omega⟩ := by
      funext a
      refine Fin.ext ?_
      fin_cases a
      · show 0 + 1 * j.val = j.val
        omega
      · show 256 * (hp % 4) + 1 * x.val = 256 * (hp % 4) + x.val
        omega
    rw [e1, View.readCov_eq_canon']
    refine (congrArg (View.canon _) e2).trans ?_
    rw [stList_at c hp hp4 _ (by omega) (by omega) j x _ (by dsimp only; omega)]
    exact state_step fits c hp (by omega) (fun j x => ih (by omega) j x) j x

/-- The state the point leaves. -/
theorem state_at (fits : Fits E L b n R) (j : Fin 128) (e : Fin 1024) :
    View.canon (stList E 16) (ix2 j e) = ((st L b (n + 512) j e : ℝ) : EReal) := by
  rw [stList_at 3 (e.val / 256) (by omega) 16 (by omega) (by omega) j ⟨e.val % 256, by omega⟩ e (by dsimp only; omega),
    state_step fits 3 (e.val / 256) (by omega) (fun j x => stOld_at fits 3 (by omega) _ (by omega) j x)]
  exact congrArg (fun i => ((st L b (n + 512) j i : ℝ) : EReal)) (Fin.ext (by dsimp only; omega))

/-- A head's output before its norm. -/
theorem headSum_rd (fits : Fits E L b n R) (c : ℕ) (hc : c < 4) (h : ℕ) (h8 : h < 8) (t j : Fin 128) :
    headSum E.lv (qs E c) (fs E c) (ks E c) (vs E c) (sums E c) h (stOld E c (h / 2)) (ix2 t j)
      = ((rd L b (n + 128 * c + t.val) (col h j) : ℝ) : EReal) := by
  rw [headSum_at (chunk fits c hc) fits.lv h (S := fun j e => st L b (n + 128 * c) j e)
    (fun j x => stOld_at fits c hc (h / 2) (by omega) j x)]
  refine congrArg _ ?_
  unfold rd
  refine Finset.sum_congr rfl fun d _ => ?_
  have e1 : (⟨(col h j).val % 128, by omega⟩ : Fin 128) = j := Fin.ext (by dsimp only; omega)
  have e2 : col ((col h j).val / 128) d = col h d := Fin.ext (by dsimp only; omega)
  have e3 : col ((col h d).val / 128) j = col h j := Fin.ext (by dsimp only; omega)
  have h := st_add L b (n + 128 * c) (t.val + 1) j (col h d)
  rw [e3] at h
  rw [e1, e2]
  simp only [Nat.add_assoc] at h ⊢
  rw [h]

/-- A head's normed and gated output, at an index. -/
theorem headOut_at (ng : FVec Ideal S1x1024 .f32) (gate : FVec Ideal S128x1024 .f32) (h : ℕ) (o : FVec Ideal S128x128 .f32) (t j : Fin 128) :
    headOut ng gate h o (ix3 0 t j)
      = o (ix2 t j) * Ideal.rsqrt (Ideal.div (∑ d : Fin 128, o (ix2 t d) * o (ix2 t d)) (Ideal.ofBits .f32 0x43000000#32)
          + Ideal.ofBits .f32 0x358637BD#32) * ng (ix2 0 (col h j)) * gate (ix2 t (col h j)) := by
  have e0 : headCols h gate (ix2 t j) = gate (ix2 t (col h j)) := headCols_at h gate t j
  rw [← e0]
  unfold headOut
  pointwise

attribute [local irreducible] headOut

/-- A head's output. -/
theorem oPiece_at (fits : Fits E L b n R) (k : ℕ) (hk : k < 32) (t j : Fin 128) (e : Fin 1024) (he : e = col k j) (u : ℕ)
    (hu : u = n + 128 * (k / 8) + t.val) :
    (oPiece E k).2 (ix3 0 t j) = gatedRow L.ng (rd L b u) (Or L (2048 * b + u)) e := by
  have e1 : col (k % 8) j = e := by rw [he]; exact Fin.ext (by dsimp only; omega)
  have e2 : ∀ d, col (k % 8) d = col (e.val / 128) d := fun d => by rw [he]; exact Fin.ext (by dsimp only; omega)
  unfold oPiece
  dsimp only
  rw [headOut_at, shapeCast_self, gates_at fits _ (by omega), headSum_rd fits _ (by omega) _ (by omega), e1, fits.lng]
  simp only [headSum_rd fits _ (show k / 8 < 4 by omega) _ (show k % 8 < 8 by omega), e2, ← hu]
  unfold gatedRow
  rw [show 2048 * b + n + 128 * (k / 8) + t.val = 2048 * b + u by omega]

/-- A tile's outputs. -/
theorem oTile_at (fits : Fits E L b n R) (t : ℕ) (ht : t < 2) (r : Fin 256) (e : Fin 1024) :
    oTile E t (ix3 0 r e) = gatedRow L.ng (rd L b (n + (256 * t + r.val))) (Or L (2048 * b + (n + (256 * t + r.val)))) e := by
  unfold oTile
  rw [View.readCov_eq_canon']
  refine (canon_stack (k := 16 * t + 8 * (r.val / 128) + e.val / 128) [] (oPiece E) (by omega)
    (ix3 0 ⟨r.val % 128, by omega⟩ ⟨e.val % 128, by omega⟩) _ ?_ ?_).trans ?_
  · funext a
    refine Fin.ext ?_
    fin_cases a
    · show (16 * t + 8 * (r.val / 128) + e.val / 128) / 16 % 2 + 1 * 0 = t % 2 + 1 * 0
      omega
    · show 128 * ((16 * t + 8 * (r.val / 128) + e.val / 128) / 8 % 2) + 1 * (r.val % 128) = 0 + 1 * r.val
      omega
    · show 128 * ((16 * t + 8 * (r.val / 128) + e.val / 128) % 8) + 1 * (e.val % 128) = 0 + 1 * e.val
      omega
  · intro q hq hq'
    by_cases h1 : q / 8 % 2 = r.val / 128
    · refine not_mem_set 2 fun i => ?_
      have hi : i.val < 128 := i.isLt
      show 0 + 1 * e.val ≠ 128 * (q % 8) + 1 * i.val
      omega
    · refine not_mem_set 1 fun i => ?_
      have hi : i.val < 128 := i.isLt
      show 0 + 1 * r.val ≠ 128 * (q / 8 % 2) + 1 * i.val
      omega
  · exact oPiece_at fits _ (by omega) _ _ e (Fin.ext (by dsimp only; omega)) _ (by dsimp only; omega)

/-- The normalised row from its residual row. -/
theorem norm_row (o : Vec Ideal S1x256x1024 .bf16) (wo : Vec Ideal S1024x1024 .bf16) (x : Vec Ideal S256x1024 .f32) (g b : Vec Ideal S1x1024 .f32)
    (r : Fin 256) (e : Fin 1024) (hg : ∀ e, g (ix2 0 e) = L.g e) (hb : ∀ e, b (ix2 0 e) = L.b e) :
    k0_pay299 (k0_pay295 g) (k0_pay296 b) (k0_pay297 o wo x) (k0_pay298 o wo x) (Scalar.ofBits .f32 0x44800000#32) (ix2 r e)
      = lnRow L (fun e => Ideal.ofBits .f32 0x3FD744FD#32 * x (ix2 r e) + ∑ k, o (ix3 0 r k) * wo (ix2 k e)) e := by
  unfold k0_pay299 k0_pay295 k0_pay296 k0_pay298 k0_pay297
  pointwise
  rw [hg, hb]
  rfl

attribute [local irreducible] oTile

/-- A tile's result. -/
theorem result_at (fits : Fits E L b n R) (t : ℕ) (ht : t < 2) (r : Fin 256) (e : Fin 1024) :
    result E t (ix2 r e) = layerRow L b (n + (256 * t + r.val)) e := by
  unfold result
  rw [norm_row _ _ _ _ _ r e fits.lg fits.lb]
  simp only [fits.x t ht, oTile_at fits t ht, fits.lwo]
  unfold layerRow resid
  simp only [Nat.add_assoc]

attribute [local irreducible] result

/-- The point's result. -/
theorem out_at (fits : Fits E L b n R) (r : Fin 512) (e : Fin 1024) :
    View.canon (stack [] (outPiece E) 2) (ix2 r e) = layerRow L b (n + r.val) e := by
  refine (canon_stack (k := r.val / 256) [] (outPiece E) (by omega) (ix2 ⟨r.val % 256, by omega⟩ e) _ ?_ ?_).trans ?_
  · funext a
    refine Fin.ext ?_
    fin_cases a
    · show 256 * (r.val / 256 % 2) + 1 * (r.val % 256) = r.val
      omega
    · show 0 + 1 * e.val = e.val
      omega
  · intro q hq hq'
    refine not_mem_set 0 fun i => ?_
    have hi : i.val < 256 := i.isLt
    show r.val ≠ 256 * (q % 2) + 1 * i.val
    omega
  · refine (result_at fits _ (by omega) _ e).trans ?_
    rw [show n + (256 * (r.val / 256) + r.val % 256) = n + r.val by omega]

end Cert.Proof.Gate

end
-- ==== Proof.GateHost.lean ====
module

public import proofs.«01_k».proof.Proof.GateOut
public import proofs.«01_k».proof.Proof.Gen.Kernel4Ideal.Frame
public import Idealize.ShloMosaic.Lib.StableHlo.ReadAt
public import Idealize.ShloMosaic.Lib.Pointwise
public import Idealize.ShloMosaic.Lib.Pipeline.ValueKit

/-! # What the windows of a gated recurrence layer show, entry by entry -/

@[expose] public section

noncomputable section

namespace Cert.Proof.Gate

open Idealize.ShloMosaic Idealize.ShloMosaic.TcCoe Cert.Kernel4Ideal Cert.Kernel4Ideal.Gen Idealize.SL.Sem

/-- A layer, from its program's arguments. -/
def layerOf (x : S32768x1024.Idx → EReal) (w : S1024x4096.Idx → EReal) (ng : S1024.Idx → EReal) (wo : S1024x1024.Idx → EReal)
    (g b : S1024.Idx → EReal) : Layer where
  X n e := if h : n < 32768 then (x (ix2 ⟨n, h⟩ e)).toReal else 0
  w k c := (w (ix2 k c)).toReal
  ng e := ng (ix1 e)
  wo k e := wo (ix2 k e)
  g e := g (ix1 e)
  b e := b (ix1 e)

variable (m : (ℓ : Loc nD τ sig) → Buf (Elt Ideal) ℓ) (c : Dev nD)

/-- The layer of the program's arguments. -/
def argLayer : Layer :=
  layerOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The rows and the first weights are real. -/
structure Real (x : S32768x1024.Idx → EReal) (w : S1024x4096.Idx → EReal) : Prop where
  x : ∀ i, x i ≠ ⊤ ∧ x i ≠ ⊥
  w : ∀ i, w i ≠ ⊤ ∧ w i ≠ ⊥

/-- The rows and the first weights of the program's arguments are real. -/
def ArgsReal : Prop := Real (m ((c : Thread nD τ).loc main_arg0)) (m ((c : Thread nD τ).loc main_arg1))

variable {m c} in
/-- The program's rows are the layer's reals. -/
theorem x_real (h : ArgsReal m c) (n : ℕ) (hn : n < 32768) (e : Fin 1024) :
    m ((c : Thread nD τ).loc main_arg0) (ix2 ⟨n, hn⟩ e) = (((argLayer m c).X n e : ℝ) : EReal) := by
  unfold argLayer layerOf
  dsimp only
  rw [dif_pos hn]
  exact (EReal.coe_toReal (h.x _).1 (h.x _).2).symm

variable {m c} in
/-- The program's first weights are the layer's reals. -/
theorem w_real (h : ArgsReal m c) (k : Fin 1024) (e : Fin 4096) :
    m ((c : Thread nD τ).loc main_arg1) (ix2 k e) = (((argLayer m c).w k e : ℝ) : EReal) :=
  (EReal.coe_toReal (h.w _).1 (h.w _).2).symm

/-! ## The host's arrays -/

/-- The host's table of levels. -/
theorem host_lv (i : S128x256.Idx) : V m c main_c i = lit0 (S128x256.rowMajor i) := by
  unfold V
  after_reads_at
  try rfl

/-- The host's triangle. -/
theorem host_tri (i : S128x256.Idx) : V m c main_cst i = Ideal.ofBits .bf16 (lit1 (S128x256.rowMajor i)) := by
  unfold V
  after_reads_at
  try rfl

/-- The host's first weights. -/
theorem host_w (k : Fin 1024) (e : Fin 4096) : V m c main_v0 (ix2 k e) = m ((c : Thread nD τ).loc main_arg1) (ix2 k e) := by
  unfold V
  after_reads_at
  try rfl

/-- The host's weights of the heads' norm. -/
theorem host_ng (e : Fin 1024) : V m c main_v1 (ix2 0 e) = (argLayer m c).ng e := by
  unfold V
  after_reads_at
  try rfl

/-- The host's output weights. -/
theorem host_wo (k e : Fin 1024) : V m c main_v2 (ix2 k e) = (argLayer m c).wo k e := by
  unfold V
  after_reads_at
  try rfl

/-- The host's weights of the layer norm. -/
theorem host_g (e : Fin 1024) : V m c main_v3 (ix2 0 e) = (argLayer m c).g e := by
  unfold V
  after_reads_at
  try rfl

/-- The host's offsets of the layer norm. -/
theorem host_b (e : Fin 1024) : V m c main_v4 (ix2 0 e) = (argLayer m c).b e := by
  unfold V
  after_reads_at
  try rfl

/-! ## The blocks the windows show -/

/-- A point shows its own rows. -/
theorem idx_x (t : Fin cfg0.N) : win0_0.index t 0 = t.val := by decide +revert

/-- The number of the next point's first tile; the last point stays in the array. -/
def nextTile (n : ℕ) : ℕ := min (2 * (n + 1)) 127

/-- A point shows the next point's first rows. -/
theorem idx_next (t : Fin cfg0.N) : win0_1.index t 0 = nextTile t.val := by decide +revert

/-- The rows of a point. -/
theorem block_x (t : Fin cfg0.N) (r : Fin 512) (e : Fin 1024) :
    iblk m c 0 t (ix2 r e)
      = m ((c : Thread nD τ).loc main_arg0) (ix2 ⟨512 * t.val + r.val, by have h : t.val < 64 := N_0 ▸ t.isLt; omega⟩ e) := by
  refine Eq.trans (b := V m c main_arg0 (ix2 ⟨512 * t.val + r.val, by have h : t.val < 64 := N_0 ▸ t.isLt; omega⟩ e)) ?_
    (congrFun (V_main_arg0 m c) _)
  blk_ext [iblk]
  · have h : win0_0.index t 0 = t.val := idx_x t
    rw [h]
    omega
  · show 0 * 1024 + e.val = e.val
    omega

/-- The rows of the next point's first tile. -/
theorem block_next (t : Fin cfg0.N) (r : Fin 256) (e : Fin 1024) :
    iblk m c 1 t (ix2 r e)
      = m ((c : Thread nD τ).loc main_arg0) (ix2 ⟨256 * nextTile t.val + r.val, by unfold nextTile; omega⟩ e) := by
  refine Eq.trans (b := V m c main_arg0 (ix2 ⟨256 * nextTile t.val + r.val, by unfold nextTile; omega⟩ e)) ?_
    (congrFun (V_main_arg0 m c) _)
  blk_ext [iblk]
  · have h : win0_1.index t 0 = nextTile t.val := idx_next t
    rw [h]
    omega
  · show 0 * 1024 + e.val = e.val
    omega

/-- A place in a block that starts its array. -/
theorem at_start (b n : ℕ) : 0 * b + 1 * n = n := by omega

/-- The window of the levels shows the whole table. -/
theorem block_3 (t : Fin cfg0.N) (i : S128x256.Idx) : iblk m c 3 t i = V m c main_c i := by
  refine congrArg (V m c main_c) (funext fun a => Fin.ext ?_)
  fin_cases a <;> exact at_start _ _

/-- The window of the triangle shows it whole. -/
theorem block_4 (t : Fin cfg0.N) (i : S128x256.Idx) : iblk m c 4 t i = V m c main_cst i := by
  refine congrArg (V m c main_cst) (funext fun a => Fin.ext ?_)
  fin_cases a <;> exact at_start _ _

/-- The window of the first weights shows them whole. -/
theorem block_5 (t : Fin cfg0.N) (i : S1024x4096.Idx) : iblk m c 5 t i = V m c main_v0 i := by
  refine congrArg (V m c main_v0) (funext fun a => Fin.ext ?_)
  fin_cases a <;> exact at_start _ _

/-- The window of the norm's weights shows them whole. -/
theorem block_6 (t : Fin cfg0.N) (i : S1x1024.Idx) : iblk m c 6 t i = V m c main_v1 i := by
  refine congrArg (V m c main_v1) (funext fun a => Fin.ext ?_)
  fin_cases a <;> exact at_start _ _

/-- The window of the output weights shows them whole. -/
theorem block_7 (t : Fin cfg0.N) (i : S1024x1024.Idx) : iblk m c 7 t i = V m c main_v2 i := by
  refine congrArg (V m c main_v2) (funext fun a => Fin.ext ?_)
  fin_cases a <;> exact at_start _ _

/-- The window of the layer norm's weights shows them whole. -/
theorem block_8 (t : Fin cfg0.N) (i : S1x1024.Idx) : iblk m c 8 t i = V m c main_v3 i := by
  refine congrArg (V m c main_v3) (funext fun a => Fin.ext ?_)
  fin_cases a <;> exact at_start _ _

/-- The window of the layer norm's offsets shows them whole. -/
theorem block_9 (t : Fin cfg0.N) (i : S1x1024.Idx) : iblk m c 9 t i = V m c main_v4 i := by
  refine congrArg (V m c main_v4) (funext fun a => Fin.ext ?_)
  fin_cases a <;> exact at_start _ _

end Cert.Proof.Gate

end
-- ==== Proof.GateTabRows.lean ====
module

public import proofs.«01_k».proof.Proof.GateMath
public import proofs.«01_k».proof.Proof.Gen.Kernel4Ideal.Frame

/-! # Eight rows of the tables at a time -/

@[expose] public section

set_option maxRecDepth 16384
noncomputable section

namespace Cert.Proof.Gate

open Idealize.ShloMosaic Cert.Kernel4Ideal Cert.Kernel4Ideal.Gen Idealize.SL.Sem

/-- Eight rows of the table of levels. -/
@[reducible] def LevelRows (a : ℕ) : Prop := ∀ t : Fin 8, ∀ i : Fin 256,
  lit0 ⟨256 * (8 * (a % 16) + t.val) + i.val, by omega⟩ = BitVec.ofNat 32 (level (8 * (a % 16) + t.val) (i.val % 128))

/-- Eight rows of the table of the triangle. -/
@[reducible] def TriangleRows (a : ℕ) : Prop := ∀ t : Fin 8, ∀ i : Fin 256,
  lit1 ⟨256 * (8 * (a % 16) + t.val) + i.val, by omega⟩ = if i.val % 128 ≤ 8 * (a % 16) + t.val then 0x3F80#16 else 0x0000#16

end Cert.Proof.Gate

end
-- ==== Proof.GateTabA.lean ====
module

public import proofs.«01_k».proof.Proof.GateTabRows

/-! # The first half of the table of levels, evaluated -/

@[expose] public section

set_option maxRecDepth 16384
noncomputable section

namespace Cert.Proof.Gate

open Idealize.ShloMosaic Cert.Kernel4Ideal Cert.Kernel4Ideal.Gen Idealize.SL.Sem

/-- The levels of rows 0 to 7. -/
theorem levels0 : LevelRows 0 := by decide +kernel
/-- The levels of rows 8 to 15. -/
theorem levels1 : LevelRows 1 := by decide +kernel
/-- The levels of rows 16 to 23. -/
theorem levels2 : LevelRows 2 := by decide +kernel
/-- The levels of rows 24 to 31. -/
theorem levels3 : LevelRows 3 := by decide +kernel
/-- The levels of rows 32 to 39. -/
theorem levels4 : LevelRows 4 := by decide +kernel
/-- The levels of rows 40 to 47. -/
theorem levels5 : LevelRows 5 := by decide +kernel
/-- The levels of rows 48 to 55. -/
theorem levels6 : LevelRows 6 := by decide +kernel
/-- The levels of rows 56 to 63. -/
theorem levels7 : LevelRows 7 := by decide +kernel
/-- The levels of rows 64 to 71. -/
theorem levels8 : LevelRows 8 := by decide +kernel

end Cert.Proof.Gate

end
-- ==== Proof.GateTabB.lean ====
module

public import proofs.«01_k».proof.Proof.GateTabRows

/-! # The second half of the table of levels, evaluated -/

@[expose] public section

set_option maxRecDepth 16384
noncomputable section

namespace Cert.Proof.Gate

open Idealize.ShloMosaic Cert.Kernel4Ideal Cert.Kernel4Ideal.Gen Idealize.SL.Sem

/-- The levels of rows 72 to 79. -/
theorem levels9 : LevelRows 9 := by decide +kernel
/-- The levels of rows 80 to 87. -/
theorem levels10 : LevelRows 10 := by decide +kernel
/-- The levels of rows 88 to 95. -/
theorem levels11 : LevelRows 11 := by decide +kernel
/-- The levels of rows 96 to 103. -/
theorem levels12 : LevelRows 12 := by decide +kernel
/-- The levels of rows 104 to 111. -/
theorem levels13 : LevelRows 13 := by decide +kernel
/-- The levels of rows 112 to 119. -/
theorem levels14 : LevelRows 14 := by decide +kernel
/-- The levels of rows 120 to 127. -/
theorem levels15 : LevelRows 15 := by decide +kernel

end Cert.Proof.Gate

end
-- ==== Proof.GateTabC.lean ====
module

public import proofs.«01_k».proof.Proof.GateTabRows

/-! # The first half of the table of the triangle, evaluated -/

@[expose] public section

set_option maxRecDepth 16384
noncomputable section

namespace Cert.Proof.Gate

open Idealize.ShloMosaic Cert.Kernel4Ideal Cert.Kernel4Ideal.Gen Idealize.SL.Sem

/-- The triangle's rows 0 to 7. -/
theorem triangle0 : TriangleRows 0 := by decide +kernel
/-- The triangle's rows 8 to 15. -/
theorem triangle1 : TriangleRows 1 := by decide +kernel
/-- The triangle's rows 16 to 23. -/
theorem triangle2 : TriangleRows 2 := by decide +kernel
/-- The triangle's rows 24 to 31. -/
theorem triangle3 : TriangleRows 3 := by decide +kernel
/-- The triangle's rows 32 to 39. -/
theorem triangle4 : TriangleRows 4 := by decide +kernel
/-- The triangle's rows 40 to 47. -/
theorem triangle5 : TriangleRows 5 := by decide +kernel
/-- The triangle's rows 48 to 55. -/
theorem triangle6 : TriangleRows 6 := by decide +kernel
/-- The triangle's rows 56 to 63. -/
theorem triangle7 : TriangleRows 7 := by decide +kernel
/-- The triangle's rows 64 to 71. -/
theorem triangle8 : TriangleRows 8 := by decide +kernel

end Cert.Proof.Gate

end
-- ==== Proof.GateTabD.lean ====
module

public import proofs.«01_k».proof.Proof.GateTabRows

/-! # The second half of the table of the triangle, evaluated -/

@[expose] public section

set_option maxRecDepth 16384
noncomputable section

namespace Cert.Proof.Gate

open Idealize.ShloMosaic Cert.Kernel4Ideal Cert.Kernel4Ideal.Gen Idealize.SL.Sem

/-- The triangle's rows 72 to 79. -/
theorem triangle9 : TriangleRows 9 := by decide +kernel
/-- The triangle's rows 80 to 87. -/
theorem triangle10 : TriangleRows 10 := by decide +kernel
/-- The triangle's rows 88 to 95. -/
theorem triangle11 : TriangleRows 11 := by decide +kernel
/-- The triangle's rows 96 to 103. -/
theorem triangle12 : TriangleRows 12 := by decide +kernel
/-- The triangle's rows 104 to 111. -/
theorem triangle13 : TriangleRows 13 := by decide +kernel
/-- The triangle's rows 112 to 119. -/
theorem triangle14 : TriangleRows 14 := by decide +kernel
/-- The triangle's rows 120 to 127. -/
theorem triangle15 : TriangleRows 15 := by decide +kernel

end Cert.Proof.Gate

end
-- ==== Proof.GateTables.lean ====
module

public import proofs.«01_k».proof.Proof.GateTabA
public import proofs.«01_k».proof.Proof.GateTabB
public import proofs.«01_k».proof.Proof.GateTabC
public import proofs.«01_k».proof.Proof.GateTabD

/-! # The tables of levels and of the triangle, entry by entry -/

@[expose] public section

set_option maxRecDepth 16384
noncomputable section

namespace Cert.Proof.Gate

open Idealize.ShloMosaic Cert.Kernel4Ideal Cert.Kernel4Ideal.Gen Idealize.SL.Sem

/-- The table of levels. -/
theorem levels_lit (t : Fin 128) (i : Fin 256) : lit0 ⟨256 * t.val + i.val, by omega⟩ = BitVec.ofNat 32 (level t.val (i.val % 128)) := by
  have h : ∀ a, a < 16 → LevelRows a := by
    intro a ha
    interval_cases a
    exacts [levels0, levels1, levels2, levels3, levels4, levels5, levels6, levels7, levels8, levels9, levels10, levels11, levels12, levels13, levels14, levels15]
  have e : 8 * (t.val / 8 % 16) + t.val % 8 = t.val := by omega
  have h := h (t.val / 8) (by omega) ⟨t.val % 8, by omega⟩ i
  dsimp only at h
  simp only [e] at h
  exact h

/-- The table of the triangle. -/
theorem triangle_lit (t : Fin 128) (i : Fin 256) :
    lit1 ⟨256 * t.val + i.val, by omega⟩ = if i.val % 128 ≤ t.val then 0x3F80#16 else 0x0000#16 := by
  have h : ∀ a, a < 16 → TriangleRows a := by
    intro a ha
    interval_cases a
    exacts [triangle0, triangle1, triangle2, triangle3, triangle4, triangle5, triangle6, triangle7, triangle8, triangle9, triangle10, triangle11, triangle12, triangle13, triangle14, triangle15]
  have e : 8 * (t.val / 8 % 16) + t.val % 8 = t.val := by omega
  have h := h (t.val / 8) (by omega) ⟨t.val % 8, by omega⟩ i
  dsimp only at h
  simp only [e] at h
  exact h

end Cert.Proof.Gate

end
-- ==== Proof.GateFirst.lean ====
module

public import proofs.«01_k».proof.Proof.GateReads
public import proofs.«01_k».proof.Proof.Gen.Kernel4Ideal.Frame

@[expose] public section

set_option maxRecDepth 16384
noncomputable section

/-! # The rolled-up body, at the first point -/

namespace Cert.Proof.Gate

open Idealize.ShloMosaic Cert.Kernel4Ideal Cert.Kernel4Ideal.Gen Idealize.SL.Sem

variable {F : FTy → Type} [FloatOps F] [Named F]

variable (c : Dev nD) (i : grid0.Coords)
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)
    (hc0 : cond0_0 i) (hc1 : cond0_1 i)
    (x0 : Vec F S512x1024 .f32) (x1 : Vec F S256x1024 .f32) (x2 : Vec F S4x1024 .f32) (x3 : Vec F S128x256 .i32)
    (x4 : Vec F S128x256 .bf16) (x5 : Vec F S1024x4096 .bf16) (x6 : Vec F S1x1024 .f32) (x7 : Vec F S1024x1024 .bf16)
    (x8 : Vec F S1x1024 .f32) (x9 : Vec F S1x1024 .f32)

/-- At the first point, the writes of the result are the rolled-up body's. -/
theorem first_out :
    (kernelRun0_A c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9).1
      = stack [] (outPiece (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (fun p c => arg16.view.readCov (firstZ arg2 harg2 arg7 harg7 arg15 x0 x5) (partBox p c).toLoadRect) (freshS arg13) [zeroState] (firstX arg2 harg2 x0) (firstZ arg2 harg2 arg7 harg7 arg15 x0 x5))) 2 := by
  sl_kernel_rfl

/-- At the first point, the writes of the state are the rolled-up body's. -/
theorem first_state :
    (kernelRun0_A c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9).2.1
      = stList (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (fun p c => arg16.view.readCov (firstZ arg2 harg2 arg7 harg7 arg15 x0 x5) (partBox p c).toLoadRect) (freshS arg13) [zeroState] (firstX arg2 harg2 x0) (firstZ arg2 harg2 arg7 harg7 arg15 x0 x5)) 16 := by
  sl_kernel_rfl

/-- At the first point, the writes of the next tile's projections are the rolled-up body's. -/
theorem first_next :
    (kernelRun0_A c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9).2.2.1
      = zaPieces (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (fun p c => arg16.view.readCov (firstZ arg2 harg2 arg7 harg7 arg15 x0 x5) (partBox p c).toLoadRect) (freshS arg13) [zeroState] (firstX arg2 harg2 x0) (firstZ arg2 harg2 arg7 harg7 arg15 x0 x5)) := by
  sl_kernel_rfl

end Cert.Proof.Gate

end
-- ==== Proof.GateFresh.lean ====
module

public import proofs.«01_k».proof.Proof.GateReads
public import proofs.«01_k».proof.Proof.Gen.Kernel4Ideal.Frame

@[expose] public section

set_option maxRecDepth 16384
noncomputable section

/-! # The rolled-up body, at a point that starts a later sequence -/

namespace Cert.Proof.Gate

open Idealize.ShloMosaic Cert.Kernel4Ideal Cert.Kernel4Ideal.Gen Idealize.SL.Sem

variable {F : FTy → Type} [FloatOps F] [Named F]

variable (c : Dev nD) (i : grid0.Coords)
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)
    (hc0 : ¬cond0_0 i) (hc1 : cond0_1 i)
    (x0 : Vec F S512x1024 .f32) (x1 : Vec F S256x1024 .f32) (x2 : Vec F S4x1024 .f32) (x3 : Vec F S128x256 .i32)
    (x4 : Vec F S128x256 .bf16) (x5 : Vec F S1024x4096 .bf16) (x6 : Vec F S1x1024 .f32) (x7 : Vec F S1024x1024 .bf16)
    (x8 : Vec F S1x1024 .f32) (x9 : Vec F S1x1024 .f32)
    (xs3 : Vec F S256x4096 .f32)

/-- At a point that starts a later sequence, the writes of the result are the rolled-up body's. -/
theorem fresh_out :
    (kernelRun0_C c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs3).1
      = stack [] (outPiece (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (freshS arg13) [zeroState] [] [])) 2 := by
  sl_kernel_rfl

/-- At a point that starts a later sequence, the writes of the state are the rolled-up body's. -/
theorem fresh_state :
    (kernelRun0_C c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs3).2.1
      = stList (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (freshS arg13) [zeroState] [] []) 16 := by
  sl_kernel_rfl

/-- At a point that starts a later sequence, the writes of the next tile's projections are the rolled-up body's. -/
theorem fresh_next :
    (kernelRun0_C c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs3).2.2.1
      = zaPieces (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (freshS arg13) [zeroState] [] []) := by
  sl_kernel_rfl

end Cert.Proof.Gate

end
-- ==== Proof.GateLater.lean ====
module

public import proofs.«01_k».proof.Proof.GateReads
public import proofs.«01_k».proof.Proof.Gen.Kernel4Ideal.Frame

@[expose] public section

set_option maxRecDepth 16384
noncomputable section

/-! # The rolled-up body, at a point that goes on a sequence -/

namespace Cert.Proof.Gate

open Idealize.ShloMosaic Cert.Kernel4Ideal Cert.Kernel4Ideal.Gen Idealize.SL.Sem

variable {F : FTy → Type} [FloatOps F] [Named F]

variable (c : Dev nD) (i : grid0.Coords)
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)
    (hc0 : ¬cond0_0 i) (hc1 : ¬cond0_1 i)
    (x0 : Vec F S512x1024 .f32) (x1 : Vec F S256x1024 .f32) (x2 : Vec F S4x1024 .f32) (x3 : Vec F S128x256 .i32)
    (x4 : Vec F S128x256 .bf16) (x5 : Vec F S1024x4096 .bf16) (x6 : Vec F S1x1024 .f32) (x7 : Vec F S1024x1024 .bf16)
    (x8 : Vec F S1x1024 .f32) (x9 : Vec F S1x1024 .f32)
    (xs0 : Vec F S128x1024 .f32) (xs3 : Vec F S256x4096 .f32)

/-- At a point that goes on a sequence, the writes of the result are the rolled-up body's. -/
theorem later_out :
    (kernelRun0_B c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs0 xs3).1
      = stack [] (outPiece (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (fun hp _ => carriedS arg13 harg13 xs0 hp) [] [] [])) 2 := by
  sl_kernel_rfl

/-- At a point that goes on a sequence, the writes of the state are the rolled-up body's. -/
theorem later_state :
    (kernelRun0_B c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs0 xs3).2.1
      = stList (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (fun hp _ => carriedS arg13 harg13 xs0 hp) [] [] []) 16 := by
  sl_kernel_rfl

/-- At a point that goes on a sequence, the writes of the next tile's projections are the rolled-up body's. -/
theorem later_next :
    (kernelRun0_B c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hc0 hc1 x0 x1 x2 x3 x4 x5 x6 x7 x8 x9 xs0 xs3).2.2.1
      = zaPieces (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      x0 x1 x2 x3 x4 x5 x6 x7 x8 x9
      (carriedZ arg16 harg16 xs3) (fun hp _ => carriedS arg13 harg13 xs0 hp) [] [] []) := by
  sl_kernel_rfl

end Cert.Proof.Gate

end
-- ==== Proof.GateFits.lean ====
module

public import proofs.«01_k».proof.Proof.GateHost
public import proofs.«01_k».proof.Proof.GateTables
public import proofs.«01_k».proof.Proof.GateFirst
public import proofs.«01_k».proof.Proof.GateFresh
public import proofs.«01_k».proof.Proof.GateLater
public import Idealize.ShloMosaic.Lib.WholeRead

/-! # What a grid point reads is the layer's rows and weights, and what the point before left -/

@[expose] public section

set_option maxRecDepth 16384
noncomputable section

namespace Cert.Proof.Gate

open Idealize.ShloMosaic Idealize.ShloMosaic.TcCoe Cert.Kernel4Ideal Cert.Kernel4Ideal.Gen Idealize.SL.Sem

/-- A whole block's index is its array's. -/
theorem at_zero (n : ℕ) : 0 + 1 * n = n := by omega

/-- A table's entry lies at its row's start plus its column. -/
theorem table_place (t : Fin 128) (i : Fin 256) :
    S128x256.rowMajor (ix2 t i) = (⟨256 * t.val + i.val, by omega⟩ : Fin 32768) := by
  refine Fin.ext ((Shape.rowMajor_val_two _).trans ?_)
  show t.val * 256 + i.val = 256 * t.val + i.val
  omega

/-- The triangle's entries. -/
theorem one_bits : Ideal.ofBits .bf16 0x3F80#16 = 1 := by
  pointwise

/-- The zero word is zero. -/
theorem zero_bits : Ideal.ofBits .bf16 0x0000#16 = 0 := by
  pointwise

variable {m : (ℓ : Loc nD τ sig) → Buf (Elt Ideal) ℓ} {c : Dev nD} (t : Fin cfg0.N)
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)

/-- The rows a point reads of its own window. -/
theorem x_read (hr : ArgsReal m c) (s : ℕ) (hs : s < 2) (r : Fin 256) (e : Fin 1024) :
    View.readAt (Elt Ideal) arg2.view (outBox s).toLoadRect (harg2.unread (iblk m c 0 t)) (ix2 r e)
      = (((argLayer m c).X (512 * t.val + (256 * s + r.val)) e : ℝ) : EReal) := by
  have ht : t.val < 64 := N_0 ▸ t.isLt
  refine (harg2.readAt_unread (iblk m c 0 t) (outBox s).toLoadRect (ix2 r e)).trans ?_
  have e0 : (outBox s).toLoadRect.idx (ix2 r e) = ix2 ⟨256 * s + r.val, by omega⟩ e := by
    funext a
    refine Fin.ext ?_
    fin_cases a
    · show 256 * (s % 2) + 1 * r.val = 256 * s + r.val
      omega
    · exact at_zero _
  rw [e0, block_x]
  exact x_real hr _ _ e

/-- The weights a point reads. -/
theorem w_read (hr : ArgsReal m c) (j : ℕ) (k : Fin 1024) (x : Fin 256) :
    View.readAt (Elt Ideal) arg7.view (wBox j).toLoadRect (harg7.unread (iblk m c 5 t)) (ix2 k x)
      = (((argLayer m c).w k ⟨256 * (j % 16) + x.val, by omega⟩ : ℝ) : EReal) := by
  refine (harg7.readAt_unread (iblk m c 5 t) (wBox j).toLoadRect (ix2 k x)).trans ?_
  have e0 : (wBox j).toLoadRect.idx (ix2 k x) = ix2 k ⟨256 * (j % 16) + x.val, by omega⟩ := by
    funext a
    refine Fin.ext ?_
    fin_cases a
    · exact at_zero _
    · show 256 * (j % 16) + 1 * x.val = 256 * (j % 16) + x.val
      omega
  rw [e0, block_5, host_w]
  exact w_real hr k _

/-- What a point reads is the layer's, if the carried projections and the carried state are. -/
theorem point_fits (hr : ArgsReal m c) (za : ℕ → ℕ → Vec Ideal S128x1024 .f32)
    (old : ℕ → List (View.Piece (Elt Ideal) S128x1024 .f32) → Vec Ideal S128x256 .f32)
    (stBase : List (View.Piece (Elt Ideal) S128x1024 .f32)) (xbBase : List (View.Piece (Elt Ideal) S2x256x1024 .bf16))
    (zaBase : List (View.Piece (Elt Ideal) S256x4096 .f32)) (x2 : Vec Ideal S4x1024 .f32)
    (hza : ∀ p, p < 4 → ∀ q, q < 2 → ∀ (r : Fin 128) (e : Fin 1024),
      za p q (ix2 r e) = ((part (argLayer m c) p (512 * t.val + (128 * q + r.val)) e : ℝ) : EReal))
    (hold : ∀ hp, hp < 4 → ∀ (j : Fin 128) (x : Fin 256), old hp (stList (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      (iblk m c 0 t) (iblk m c 1 t) x2 (iblk m c 3 t) (iblk m c 4 t) (iblk m c 5 t) (iblk m c 6 t)
      (iblk m c 7 t) (iblk m c 8 t) (iblk m c 9 t) za old stBase xbBase zaBase) hp) (ix2 j x)
        = ((st (argLayer m c) (t.val / 4) (512 * (t.val % 4)) j ⟨256 * (hp % 4) + x.val, by omega⟩ : ℝ) : EReal)) :
    Fits (pointReads
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      (iblk m c 0 t) (iblk m c 1 t) x2 (iblk m c 3 t) (iblk m c 4 t) (iblk m c 5 t) (iblk m c 6 t)
      (iblk m c 7 t) (iblk m c 8 t) (iblk m c 9 t) za old stBase xbBase zaBase)
      (argLayer m c) (t.val / 4) (512 * (t.val % 4)) (256 * nextTile t.val) where
  x s hs r e := by
    refine (x_read t arg2 harg2 hr s hs r e).trans ?_
    rw [show 2048 * (t.val / 4) + 512 * (t.val % 4) + (256 * s + r.val) = 512 * t.val + (256 * s + r.val) by omega]
  xn r e := by
    refine (harg3.readAt_unread (iblk m c 1 t) (Rect.unit ![0, 0] S256x1024.size inb_S256x1024_S256x1024_0_0).toLoadRect (ix2 r e)).trans ?_
    refine Eq.trans (congrArg _ (funext fun a => Fin.ext ?_)) ((block_next m c t r e).trans (x_real hr _ _ e))
    fin_cases a
    · exact at_zero _
    · exact at_zero _
  lv s i := by
    refine (harg5.readAt_unread (iblk m c 3 t) (Rect.unit ![0, 0] S128x256.size inb_S128x256_S128x256_0_0).toLoadRect (ix2 s i)).trans ((block_3 m c t _).trans ?_)
    refine Eq.trans (congrArg _ (funext fun a => Fin.ext ?_)) ((host_lv m c (ix2 s i)).trans ((congrArg lit0 (table_place s i)).trans (levels_lit s i)))
    fin_cases a
    · exact at_zero _
    · exact at_zero _
  tri s i := by
    refine (harg6.readAt_unread (iblk m c 4 t) (Rect.unit ![0, 0] S128x256.size inb_S128x256_S128x256_0_0).toLoadRect (ix2 s i)).trans ((block_4 m c t _).trans ?_)
    refine Eq.trans (congrArg _ (funext fun a => Fin.ext ?_)) ((host_tri m c (ix2 s i)).trans ?_)
    · fin_cases a
      · exact at_zero _
      · exact at_zero _
    · rw [table_place, triangle_lit]
      split
      · exact one_bits
      · exact zero_bits
  w j k x := w_read t arg7 harg7 hr j k x
  lng e := by
    refine (harg8.readAt_unread (iblk m c 6 t) (Rect.unit ![0, 0] S1x1024.size inb_S1x1024_S1x1024_0_0).toLoadRect (ix2 0 e)).trans ((block_6 m c t _).trans ?_)
    refine Eq.trans (congrArg _ (funext fun a => Fin.ext ?_)) (host_ng m c e)
    fin_cases a
    · exact at_zero _
    · exact at_zero _
  lwo k e := by
    refine (harg9.readAt_unread (iblk m c 7 t) (Rect.unit ![0, 0] S1024x1024.size inb_S1024x1024_S1024x1024_0_0).toLoadRect (ix2 k e)).trans ((block_7 m c t _).trans ?_)
    refine Eq.trans (congrArg _ (funext fun a => Fin.ext ?_)) (host_wo m c k e)
    fin_cases a
    · exact at_zero _
    · exact at_zero _
  lg e := by
    refine (harg10.readAt_unread (iblk m c 8 t) (Rect.unit ![0, 0] S1x1024.size inb_S1x1024_S1x1024_0_0).toLoadRect (ix2 0 e)).trans ((block_8 m c t _).trans ?_)
    refine Eq.trans (congrArg _ (funext fun a => Fin.ext ?_)) (host_g m c e)
    fin_cases a
    · exact at_zero _
    · exact at_zero _
  lb e := by
    refine (harg11.readAt_unread (iblk m c 9 t) (Rect.unit ![0, 0] S1x1024.size inb_S1x1024_S1x1024_0_0).toLoadRect (ix2 0 e)).trans ((block_9 m c t _).trans ?_)
    refine Eq.trans (congrArg _ (funext fun a => Fin.ext ?_)) (host_b m c e)
    fin_cases a
    · exact at_zero _
    · exact at_zero _
  za p hp q hq r e := by
    refine (hza p hp q hq r e).trans ?_
    rw [show 2048 * (t.val / 4) + 512 * (t.val % 4) + (128 * q + r.val) = 512 * t.val + (128 * q + r.val) by omega]
  old hp h4 j x := hold hp h4 j x

end Cert.Proof.Gate

end
-- ==== Proof.GatePoint.lean ====
module

public import proofs.«01_k».proof.Proof.GateFits

/-! # One grid point: what it leaves -/

@[expose] public section

set_option maxRecDepth 16384
noncomputable section

namespace Cert.Proof.Gate

open Idealize.ShloMosaic Idealize.ShloMosaic.TcCoe Cert.Kernel4Ideal Cert.Kernel4Ideal.Gen Idealize.SL.Sem

/-- The memory holds the projections of the rows from `R` on. -/
def HasRows (L : Layer) (R : ℕ) (Z : S256x4096.Idx → EReal) : Prop :=
  ∀ (r : Fin 256) (q : Fin 4096), Z (ix2 r q) = ((proj L (R + r.val) q : ℝ) : EReal)

/-- The memory holds the state of sequence `b` after `n` steps. -/
def HasState (L : Layer) (b n : ℕ) (S : S128x1024.Idx → EReal) : Prop :=
  ∀ (j : Fin 128) (e : Fin 1024), S (ix2 j e) = ((st L b n j e : ℝ) : EReal)

/-- What point `t` leaves: the layer's rows, the state after them and the next rows' projections. -/
structure Leaves (L : Layer) (t : ℕ) (o : S512x1024.Idx → EReal) (S : S128x1024.Idx → EReal) (Z : S256x4096.Idx → EReal) : Prop where
  out : ∀ (r : Fin 512) (e : Fin 1024), o (ix2 r e) = layerRow L (t / 4) (512 * (t % 4) + r.val) e
  st : HasState L (t / 4) (512 * (t % 4) + 512) S
  za : HasRows L (256 * nextTile t) Z

/-- The zero state. -/
theorem zero_state (y : S128x1024.Idx) : View.canon [(zeroState : View.Piece (Elt Ideal) S128x1024 .f32)] y = (0 : EReal) := by
  unfold zeroState
  rw [View.canon_cons_unit_lit _ _ _ (by intro a; fin_cases a <;> rfl)]
  pointwise [k0_pay21]

/-- A fresh sequence's state is zero. -/
theorem fresh_s {E : Reads Ideal} (L : Layer) (arg13 : Memref sig .tc .vmem S128x1024 .f32) (hb : E.stBase = [zeroState]) (b : ℕ) {n : ℕ} (hn : n = 0)
    (hp : ℕ) (h4 : hp < 4) (j : Fin 128) (x : Fin 256) :
    freshS arg13 hp (stList E hp) (ix2 j x) = ((st L b n j ⟨256 * (hp % 4) + x.val, by omega⟩ : ℝ) : EReal) := by
  unfold freshS
  rw [View.readCov_eq_canon', stList_eq, hb, hn]
  refine (canon_stack_base _ _ _ fun l hl => not_mem_set 1 fun i => ?_).trans (zero_state _)
  have hi : i.val < 256 := i.isLt
  show 256 * (hp % 4) + 1 * x.val ≠ 256 * (l % 4 % 4) + 1 * i.val
  omega

/-- A sequence's carried state. -/
theorem carried_s {L : Layer} {b n : ℕ} (arg13 : Memref sig .tc .vmem S128x1024 .f32) (harg13 : arg13.IsWhole) {xs0 : Vec Ideal S128x1024 .f32}
    (hS : HasState L b n xs0) (hp : ℕ) (j : Fin 128) (x : Fin 256) :
    carriedS arg13 harg13 xs0 hp (ix2 j x) = ((st L b n j ⟨256 * (hp % 4) + x.val, by omega⟩ : ℝ) : EReal) := by
  refine (harg13.readAt_unread xs0 (stBox hp).toLoadRect (ix2 j x)).trans (Eq.trans (congrArg xs0 (funext fun a => Fin.ext ?_)) (hS j _))
  fin_cases a
  · exact at_zero _
  · show 256 * (hp % 4) + 1 * x.val = 256 * (hp % 4) + x.val
    omega

/-- The carried projections. -/
theorem carried_z {L : Layer} {R : ℕ} (arg16 : Memref sig .tc .vmem S256x4096 .f32) (harg16 : arg16.IsWhole) {xs3 : Vec Ideal S256x4096 .f32}
    (hZ : HasRows L R xs3) (p : ℕ) (_ : p < 4) (q : ℕ) (hq : q < 2) (r : Fin 128) (e : Fin 1024) :
    carriedZ arg16 harg16 xs3 p q (ix2 r e) = ((part L p (R + (128 * q + r.val)) e : ℝ) : EReal) := by
  refine (harg16.readAt_unread xs3 (partBox p q).toLoadRect (ix2 r e)).trans
    (Eq.trans (congrArg xs3 (funext fun a => Fin.ext ?_)) (hZ ⟨128 * q + r.val, by omega⟩ ⟨1024 * (p % 4) + e.val, by omega⟩))
  fin_cases a
  · show 128 * (q % 2) + 1 * r.val = 128 * q + r.val
    omega
  · show 1024 * (p % 4) + 1 * e.val = 1024 * (p % 4) + e.val
    omega

attribute [local irreducible] outPiece stList zaPieces layerRow proj st part in
/-- A point leaves what its reads' fitting says. -/
theorem leaves_of {E : Reads Ideal} {L : Layer} {t : ℕ} (fits : Fits E L (t / 4) (512 * (t % 4)) (256 * nextTile t))
    {o : S512x1024.Idx → EReal} {S : S128x1024.Idx → EReal} {Z : S256x4096.Idx → EReal}
    (ho : o = View.canon (stack [] (outPiece E) 2)) (hS : S = View.canon (stList E 16)) (hZ : Z = View.canon (zaPieces E)) :
    Leaves L t o S Z where
  out r e := (congrFun ho _).trans (out_at fits r e)
  st j e := (congrFun hS _).trans (state_at fits j e)
  za r q := (congrFun hZ _).trans (zaPieces_at fits r q)

variable {m : (ℓ : Loc nD τ sig) → Buf (Elt Ideal) ℓ} {c : Dev nD} (t : Fin cfg0.N)
    (arg2 : Memref sig .tc .vmem S512x1024 .f32) (harg2 : arg2.IsWhole)
    (arg3 : Memref sig .tc .vmem S256x1024 .f32) (harg3 : arg3.IsWhole)
    (arg4 : Memref sig .tc .vmem S4x1024 .f32) (harg4 : arg4.IsWhole)
    (arg5 : Memref sig .tc .vmem S128x256 .i32) (harg5 : arg5.IsWhole)
    (arg6 : Memref sig .tc .vmem S128x256 .bf16) (harg6 : arg6.IsWhole)
    (arg7 : Memref sig .tc .vmem S1024x4096 .bf16) (harg7 : arg7.IsWhole)
    (arg8 : Memref sig .tc .vmem S1x1024 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S512x1024 .f32) (harg12 : arg12.IsWhole)
    (arg13 : Memref sig .tc .vmem S128x1024 .f32) (harg13 : arg13.IsWhole)
    (arg14 : Memref sig .tc .vmem S2x256x1024 .bf16) (harg14 : arg14.IsWhole)
    (arg15 : Memref sig .tc .vmem S2x256x1024 .bf16) (harg15 : arg15.IsWhole)
    (arg16 : Memref sig .tc .vmem S256x4096 .f32) (harg16 : arg16.IsWhole)
    (arg17 : Memref sig .tc .vmem S256x4096 .f32) (harg17 : arg17.IsWhole)

/-- The first point projects its own first rows. -/
theorem first_z (hr : ArgsReal m c) (p : ℕ) (_ : p < 4) (q : ℕ) (hq : q < 2) (r : Fin 128) (e : Fin 1024) :
    arg16.view.readCov (firstZ arg2 harg2 arg7 harg7 arg15 (iblk m c 0 t) (iblk m c 5 t)) (partBox p q).toLoadRect (ix2 r e)
      = ((part (argLayer m c) p (512 * t.val + (128 * q + r.val)) e : ℝ) : EReal) := by
  refine (zRead_at (R := 512 * t.val) arg16 (fun r k => ?_) (fun j k x => w_read t arg7 harg7 hr j k x) [] p q r e).trans ?_
  · refine (xb_read arg15 0 _ [] r k).trans ((x_read t arg2 harg2 hr 0 (by omega) r k).trans ?_)
    rw [show 512 * t.val + (256 * 0 + r.val) = 512 * t.val + r.val by omega]
  · rw [show q % 2 = q by omega]

variable (i : grid0.Coords)

/-- What a point that goes on a sequence leaves. -/
theorem later_leaves (hc0 : ¬cond0_0 i) (hc1 : ¬cond0_1 i) (xs0 : Vec Ideal S128x1024 .f32) (xs3 : Vec Ideal S256x4096 .f32) (hr : ArgsReal m c) (hZ : HasRows (argLayer m c) (512 * t.val) xs3)
    (hS : HasState (argLayer m c) (t.val / 4) (512 * (t.val % 4)) xs0) :
    Leaves (argLayer m c) t.val
      (out0_B_10 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs0 xs3)
      (sout0_B_0 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs0 xs3)
      (sout0_B_3 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs0 xs3) := by
  refine leaves_of (point_fits t
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hr (carriedZ arg16 harg16 xs3) (fun hp _ => carriedS arg13 harg13 xs0 hp) [] [] [] (iblk m c 2 t)
      (carried_z arg16 harg16 hZ) (fun hp h4 j x => carried_s arg13 harg13 hS hp j x)) ?_ ?_ ?_
  · unfold out0_B_10
    rw [View.read_writes_junk_eq_canon, later_out]
  · unfold sout0_B_0
    rw [View.read_writes_junk_eq_canon, later_state]
  · unfold sout0_B_3
    rw [View.read_writes_junk_eq_canon, later_next]

/-- What a sequence's first point leaves. -/
theorem fresh_leaves (hc0 : ¬cond0_0 i) (hc1 : cond0_1 i) (xs3 : Vec Ideal S256x4096 .f32) (hr : ArgsReal m c) (hseq : t.val % 4 = 0) (hZ : HasRows (argLayer m c) (512 * t.val) xs3) :
    Leaves (argLayer m c) t.val
      (out0_C_10 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs3)
      (sout0_C_0 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs3)
      (sout0_C_3 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t) xs3) := by
  refine leaves_of (point_fits t
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hr (carriedZ arg16 harg16 xs3) (freshS arg13) [zeroState] [] [] (iblk m c 2 t)
      (carried_z arg16 harg16 hZ) (fun hp h4 j x => fresh_s (argLayer m c) arg13 rfl (t.val / 4) (by omega) hp h4 j x)) ?_ ?_ ?_
  · unfold out0_C_10
    rw [View.read_writes_junk_eq_canon, fresh_out]
  · unfold sout0_C_0
    rw [View.read_writes_junk_eq_canon, fresh_state]
  · unfold sout0_C_3
    rw [View.read_writes_junk_eq_canon, fresh_next]

/-- What the first point leaves. -/
theorem first_leaves (hc0 : cond0_0 i) (hc1 : cond0_1 i) (hr : ArgsReal m c) (hseq : t.val % 4 = 0) :
    Leaves (argLayer m c) t.val
      (out0_A_10 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t))
      (sout0_A_0 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t))
      (sout0_A_3 c i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 hc1
      (iblk m c 0 t) (iblk m c 1 t) (iblk m c 2 t) (iblk m c 3 t) (iblk m c 4 t) (iblk m c 5 t) (iblk m c 6 t)
      (iblk m c 7 t) (iblk m c 8 t) (iblk m c 9 t)) := by
  refine leaves_of (point_fits t
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17
      hr (fun p q => arg16.view.readCov (firstZ arg2 harg2 arg7 harg7 arg15 (iblk m c 0 t) (iblk m c 5 t)) (partBox p q).toLoadRect) (freshS arg13) [zeroState] (firstX arg2 harg2 (iblk m c 0 t))
      (firstZ arg2 harg2 arg7 harg7 arg15 (iblk m c 0 t) (iblk m c 5 t)) (iblk m c 2 t)
      (first_z t arg2 harg2 arg7 harg7 arg15 arg16 hr) (fun hp h4 j x => fresh_s (argLayer m c) arg13 rfl (t.val / 4) (by omega) hp h4 j x)) ?_ ?_ ?_
  · unfold out0_A_10
    rw [View.read_writes_junk_eq_canon, first_out]
  · unfold sout0_A_0
    rw [View.read_writes_junk_eq_canon, first_state]
  · unfold sout0_A_3
    rw [View.read_writes_junk_eq_canon, first_next]

end Cert.Proof.Gate

end
-- ==== Proof.GateFold.lean ====
module

public import proofs.«01_k».proof.Proof.GatePoint
public import Idealize.ShloMosaic.Lib.Pipeline.ValueKit

/-! # The layer's result over the whole grid -/

@[expose] public section

noncomputable section

namespace Cert.Proof.Gate

open Idealize.ShloMosaic Idealize.ShloMosaic.TcCoe Cert.Kernel4Ideal Cert.Kernel4Ideal.Gen Idealize.SL.Sem

variable {m : (ℓ : Loc nD τ sig) → Buf (Elt Ideal) ℓ} {c : Dev nD}

/-- Point `n` leaves what it should. -/
def Good (m : (ℓ : Loc nD τ sig) → Buf (Elt Ideal) ℓ) (c : Dev nD) (n : ℕ) (hn : n < cfg0.N) : Prop :=
  Leaves (argLayer m c) n (outsAt0 m c n hn).1 (outsAt0 m c n hn).2.1 (outsAt0 m c n hn).2.2

/-- The first point. -/
theorem good_first (hr : ArgsReal m c) (t : Fin cfg0.N) (h0 : t.val % 64 = 0) (h1 : t.val % 4 = 0) : Good m c t.val t.isLt := by
  unfold Good
  rw [outsAt0_A m c t h0 h1]
  dsimp only
  exact first_leaves t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (grid0.coords t) ((hcond0_0 t).mpr h0) ((hcond0_1 t).mpr h1) hr h1

/-- A sequence's first point, from the projections the point before left. -/
theorem good_fresh (hr : ArgsReal m c) (t : Fin cfg0.N) (h0 : ¬t.val % 64 = 0) (h1 : t.val % 4 = 0)
    (h : Good m c (t.val - 1) (Nat.lt_of_le_of_lt (Nat.sub_le _ _) t.isLt)) : Good m c t.val t.isLt := by
  have ht : t.val < 64 := N_0 ▸ t.isLt
  have hZ := h.za
  rw [show 256 * nextTile (t.val - 1) = 512 * t.val by unfold nextTile; omega] at hZ
  unfold Good
  rw [outsAt0_C m c t h0 h1]
  dsimp only
  exact fresh_leaves t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (grid0.coords t) (fun h => h0 ((hcond0_0 t).mp h)) ((hcond0_1 t).mpr h1) _ hr h1 hZ

/-- A point that goes on a sequence, from the state and the projections the point before left. -/
theorem good_later (hr : ArgsReal m c) (t : Fin cfg0.N) (h0 : ¬t.val % 64 = 0) (h1 : ¬t.val % 4 = 0)
    (h : Good m c (t.val - 1) (Nat.lt_of_le_of_lt (Nat.sub_le _ _) t.isLt)) : Good m c t.val t.isLt := by
  have ht : t.val < 64 := N_0 ▸ t.isLt
  have hZ := h.za
  have hS := h.st
  rw [show 256 * nextTile (t.val - 1) = 512 * t.val by unfold nextTile; omega] at hZ
  rw [show (t.val - 1) / 4 = t.val / 4 by omega, show 512 * ((t.val - 1) % 4) + 512 = 512 * (t.val % 4) by omega] at hS
  unfold Good
  rw [outsAt0_B m c t h0 h1]
  dsimp only
  exact later_leaves t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (grid0.coords t) (fun h => h0 ((hcond0_0 t).mp h)) (fun h => h1 ((hcond0_1 t).mp h)) _ _ hr hZ hS

/-- Every point leaves what it should. -/
theorem good (hr : ArgsReal m c) (n : ℕ) (hn : n < cfg0.N) : Good m c n hn := by
  induction n with
  | zero => exact good_first hr ⟨0, hn⟩ (Nat.zero_mod _) (Nat.zero_mod _)
  | succ n ih =>
    have h64 : n + 1 < 64 := N_0 ▸ hn
    have h0 : ¬(n + 1) % 64 = 0 := by omega
    by_cases h1 : (n + 1) % 4 = 0
    · exact good_fresh hr ⟨n + 1, hn⟩ h0 h1 (ih (Nat.lt_of_succ_lt hn))
    · exact good_later hr ⟨n + 1, hn⟩ h0 h1 (ih (Nat.lt_of_succ_lt hn))

/-- The layer's result: row `2048 b + n` is time `n` of sequence `b`. -/
def result4 (L : Layer) (i : S32768x1024.Idx) : EReal := layerRow L ((i 0).val / 2048) ((i 0).val % 2048) (i 1)

/-- Each point writes its own block of rows. -/
theorem idx_out (t : Fin cfg0.N) : win0_10.index t 0 = t.val := by decide +revert

/-- Where a block of rows lies in the result. -/
theorem emb_out (t : Fin cfg0.N) (r : Fin 512) (e : Fin 1024) :
    (win0_10.blk t).view.emb (ix2 r e) = ix2 ⟨512 * t.val + r.val, by have h : t.val < 64 := N_0 ▸ t.isLt; have := r.isLt; show _ < 32768; omega⟩ e := by
  funext a
  refine Fin.ext ?_
  fin_cases a
  · show win0_10.index t 0 * 512 + 1 * r.val = 512 * t.val + r.val
    rw [idx_out t]
    omega
  · exact at_start _ _

/-- The kernel's array after the last point is the layer's result. -/
theorem final4 (hr : ArgsReal m c) : (dats m 0 c).arrAt 10 cfg0.N = result4 (argLayer m c) := by
  refine (dats m 0 c).arrAt_eq_of_covers 10 _ (by decide +kernel) fun t hf y => ?_
  have ht : t.val < 64 := N_0 ▸ t.isLt
  have h : win0_10.index t 0 = t.val := idx_out t
  blk_simp
  rw [after0_10]
  obtain ⟨r, e, rfl⟩ : ∃ (r : Fin 512) (e : Fin 1024), y = ix2 r e := ⟨y 0, y 1, ValueIdx.eq_ix2 y⟩
  refine Eq.trans ?_ (congrArg (result4 (argLayer m c)) (emb_out t r e)).symm
  refine ((good hr t.val t.isLt).out r e).trans ?_
  show layerRow (argLayer m c) _ _ e = layerRow (argLayer m c) ((512 * t.val + r.val) / 2048) ((512 * t.val + r.val) % 2048) e
  congr 1 <;> omega

end Cert.Proof.Gate

end
-- ==== Proof.GateRefValue.lean ====
module

public import proofs.«01_k».proof.Proof.GateRefStep
public import proofs.«01_k».proof.Proof.GateRefRun
public import proofs.«01_k».proof.Proof.GateFold

/-! # The gated recurrence's reference computes the layer -/

@[expose] public section

set_option maxRecDepth 16384

noncomputable section

namespace Cert.Proof.GateRef

open Idealize.ShloMosaic Cert.Reference4Ideal Cert.Reference4Ideal.Step Cert.Proof.Gate

/-- The state carries a layer's inputs: real rows and first weights, and the other weights. -/
structure Carries (L : Layer) (s : State Ideal) : Prop where
  x : ∀ (n : Fin 2048) (b : Fin 16) (e : Fin 1024), s.main_v4_0 (ix3 n b e) = ((L.X (2048 * b.val + n.val) e : ℝ) : EReal)
  w : ∀ (k : Fin 1024) (e : Fin 4096), s.main_v4_1 (ix2 k e) = ((L.w k e : ℝ) : EReal)
  ng : ∀ e, s.main_v4_2 (ix1 e) = L.ng e
  wo : ∀ k e, s.main_v4_3 (ix2 k e) = L.wo k e
  g : ∀ e, s.main_v4_4 (ix1 e) = L.g e
  b : ∀ e, s.main_v4_5 (ix1 e) = L.b e

/-- The state's recurrence is the layer's after `n` steps. -/
def HasSt (L : Layer) (n : ℕ) (s : State Ideal) : Prop :=
  ∀ (b : Fin 16) (h : Fin 8) (d v : Fin 128), s.main_v4_7 (ix4 b h d v) = ((st L b.val n v (col h.val d) : ℝ) : EReal)

variable {L : Layer} {s : State Ideal} {j : ℕ}

/-- The trip's rows are the layer's. -/
theorem in_row (hc : Carries L s) (hj : j < 2048) (b : Fin 16) (e : Fin 1024) :
    b3 j s (ix2 b e) = ((L.X (2048 * b.val + j) e : ℝ) : EReal) := (b3_at s b hj e).trans (hc.x ⟨j, hj⟩ b e)

/-- The trip's projections are the layer's. -/
theorem in_proj (hc : Carries L s) (hj : j < 2048) (b : Fin 16) (e : Fin 4096) :
    b4 j s (ix2 b e) = ((Gate.proj L (2048 * b.val + j) e : ℝ) : EReal) := by
  rw [b4_at, Gate.proj, coe_sum]
  exact Finset.sum_congr rfl fun k _ => by rw [in_row hc hj, hc.w, EReal.coe_mul]

/-- The trip's first part is the layer's. -/
theorem in_query (hc : Carries L s) (hj : j < 2048) (b : Fin 16) (e : Fin 1024) :
    b5 j s (ix2 b e) = ((part L 0 (2048 * b.val + j) e : ℝ) : EReal) := (b5_at j s b e).trans (in_proj hc hj b _)

/-- The trip's second part is the layer's. -/
theorem in_forget (hc : Carries L s) (hj : j < 2048) (b : Fin 16) (e : Fin 1024) :
    b6 j s (ix2 b e) = ((part L 1 (2048 * b.val + j) e : ℝ) : EReal) := (b6_at j s b e).trans (in_proj hc hj b _)

/-- The trip's values are the layer's. -/
theorem in_value (hc : Carries L s) (hj : j < 2048) (b : Fin 16) (e : Fin 1024) :
    b7 j s (ix2 b e) = ((Vr L (2048 * b.val + j) e : ℝ) : EReal) := (b7_at j s b e).trans (in_proj hc hj b _)

/-- The trip's last part is the layer's. -/
theorem in_gate (hc : Carries L s) (hj : j < 2048) (b : Fin 16) (e : Fin 1024) :
    b8 j s (ix2 b e) = ((part L 3 (2048 * b.val + j) e : ℝ) : EReal) := (b8_at j s b e).trans (in_proj hc hj b _)

/-- A head's channel, as the reference counts it. -/
theorem head_col (h : Fin 8) (d : Fin 128) (p : h.val * 128 + d.val < 1024) : (⟨h.val * 128 + d.val, p⟩ : Fin 1024) = col h.val d :=
  Fin.ext (by show h.val * 128 + d.val = 128 * (h.val % 8) + d.val; omega)

/-- A channel's head. -/
theorem col_head (h : Fin 8) (d : Fin 128) : (col h.val d).val / 128 = h.val := by
  show (128 * (h.val % 8) + d.val) / 128 = h.val
  omega

/-- A channel's place in its head. -/
theorem col_place (h : Fin 8) (d : Fin 128) : (⟨(col h.val d).val % 128, by omega⟩ : Fin 128) = d :=
  Fin.ext (by show (128 * (h.val % 8) + d.val) % 128 = d.val; omega)

/-- The trip's forget gates are the layer's. -/
theorem in_G (hc : Carries L s) (hj : j < 2048) (b : Fin 16) (h : Fin 8) (d : Fin 128) :
    b17 j s (ix3 b h d) = ((Gr L (2048 * b.val + j) (col h.val d) : ℝ) : EReal) := by
  rw [b17_at, in_forget hc hj, sigm_coe, head_col]
  rfl

/-- The trip's queries are the layer's. -/
theorem in_Q (hc : Carries L s) (hj : j < 2048) (b : Fin 16) (h : Fin 8) (d : Fin 128) :
    b27 j s (ix3 b h d) = ((Qr L (2048 * b.val + j) (col h.val d) : ℝ) : EReal) := by
  rw [b27_at, in_query hc hj, sigm_coe, head_col, ← EReal.coe_mul]
  rfl

/-- The trip's output gates are the layer's. -/
theorem in_O (hc : Carries L s) (hj : j < 2048) (b : Fin 16) (e : Fin 1024) :
    b72 j s (ix2 b e) = ((Or L (2048 * b.val + j) e : ℝ) : EReal) := by
  rw [b72_at, in_gate hc hj, sigm_coe, ← EReal.coe_mul]
  rfl

/-- The trip's new state is the layer's. -/
theorem new_state (hc : Carries L s) (hj : j < 2048) (hs : HasSt L j s) (b : Fin 16) (h : Fin 8) (d v : Fin 128) :
    b40 j s (ix4 b h d v) = ((st L b.val (j + 1) v (col h.val d) : ℝ) : EReal) := by
  have e : st L b.val (j + 1) v (col h.val d) = Gr L (2048 * b.val + j) (col h.val d) * st L b.val j v (col h.val d)
      + (1 - Gr L (2048 * b.val + j) (col h.val d)) * Vr L (2048 * b.val + j) (col ((col h.val d).val / 128) v) := rfl
  rw [b40_at, in_G hc hj, in_value hc hj, hs, head_col, e, col_head, EReal.coe_add, EReal.coe_mul, EReal.coe_mul, EReal.coe_sub]
  rfl

/-- The trip's read-out is the layer's. -/
theorem read_out (hc : Carries L s) (hj : j < 2048) (hs : HasSt L j s) (b : Fin 16) (h : Fin 8) (v : Fin 128) :
    b45 j s (ix3 b h v) = ((rd L b.val j (col h.val v) : ℝ) : EReal) := by
  rw [b45_at, rd, coe_sum]
  refine Finset.sum_congr rfl fun d _ => ?_
  rw [new_state hc hj hs, in_Q hc hj, col_head, col_place, EReal.coe_mul]

/-- A channel is its head's. -/
theorem col_self (e : Fin 1024) : col (e.val / 128) ⟨e.val % 128, by omega⟩ = e :=
  Fin.ext (by show 128 * (e.val / 128 % 8) + e.val % 128 = e.val; omega)

/-- The trip's gated read-out is the layer's. -/
theorem gated (hc : Carries L s) (hj : j < 2048) (hs : HasSt L j s) (b : Fin 16) (e : Fin 1024) :
    (b63 j s (ix2 b e) * b72 j s (ix2 b e) : EReal) = gatedRow L.ng (rd L b.val j) (Or L (2048 * b.val + j)) e := by
  rw [b63_at, in_O hc hj, hc.ng, read_out hc hj hs, col_self]
  unfold gatedRow
  congr 6
  exact Finset.sum_congr rfl fun v _ => by rw [read_out hc hj hs]

/-- The trip's row is the layer's. -/
theorem out_row (hc : Carries L s) (hj : j < 2048) (hs : HasSt L j s) (b : Fin 16) (e : Fin 1024) :
    b107 j s (ix2 b e) = layerRow L b.val j e := by
  rw [b107_at j s b L hc.g hc.b, layerRow]
  congr 1
  funext e
  rw [b78_at, in_row hc hj, resid]
  congr 1
  exact Finset.sum_congr rfl fun k _ => by rw [gated hc hj hs, hc.wo]

/-- A trip keeps the layer's inputs. -/
theorem carries_step (hc : Carries L s) (n : ℕ) : Carries L (step n s) := ⟨hc.x, hc.w, hc.ng, hc.wo, hc.g, hc.b⟩

/-- After `n` trips the state is the layer's and the first `n` rows of the output are its rows. -/
theorem trips {it : ℕ → State Ideal} (hit : ∀ n, it (n + 1) = step n (it n)) (hc : Carries L (it 0)) (h0 : HasSt L 0 (it 0)) (n : ℕ) (hn : n ≤ 2048) :
    Carries L (it n) ∧ HasSt L n (it n)
    ∧ ∀ (t : Fin 2048) (b : Fin 16) (e : Fin 1024), t.val < n → (it n).main_v4_8 (ix3 t b e) = layerRow L b.val t.val e := by
  induction n with
  | zero => exact ⟨hc, h0, fun t b e h => absurd h (Nat.not_lt_zero _)⟩
  | succ n ih =>
    obtain ⟨ihc, ihs, iho⟩ := ih (by omega)
    rw [hit]
    refine ⟨carries_step ihc n, fun b h d v => ?_, fun t b e ht => ?_⟩
    · rw [step_main_v4_7]
      exact new_state ihc (by omega) ihs b h d v
    · rw [step_main_v4_8, b111_at _ b (by omega)]
      by_cases h : t.val = n
      · rw [if_pos h, out_row ihc (by omega) ihs, h]
      · rw [if_neg h]
        exact iho t b e (by omega)

/-- The result's rows are the output's. -/
theorem result_at (s : State Ideal) (i : S32768x1024.Idx) :
    R_main_v6 s i = s.main_v4_8 (ix3 ⟨(i 0).val % 2048, by omega⟩ ⟨(i 0).val / 2048, by have h : (i 0).val < 32768 := (i 0).isLt; omega⟩ (i 1)) := by
  obtain ⟨n, e, rfl⟩ : ∃ (n : Fin 32768) (e : Fin 1024), i = ix2 n e := ⟨i 0, i 1, ValueIdx.eq_ix2 i⟩
  unfold R_main_v6
  pointwise
  try rfl

/-- The first trip's input, by sequences. -/
theorem first_x (x : S32768x1024.Idx → EReal) (n : Fin 2048) (b : Fin 16) (e : Fin 1024) :
    A_main_v2 (F := Ideal) x (ix3 n b e) = x (ix2 ⟨b.val * 2048 + n.val, by omega⟩ e) := by
  unfold A_main_v2 A_main_v1
  pointwise
  try rfl

/-- The first state is zero. -/
theorem first_st (b : Fin 16) (h : Fin 8) (d v : Fin 128) : K_main_v0 (F := Ideal) (ix4 b h d v) = 0 := by
  unfold K_main_v0 K_main_cst
  pointwise

/-- The first state carries the layer of the arguments. -/
theorem first_carries (x : S32768x1024.Idx → EReal) (w : S1024x4096.Idx → EReal) (ng : S1024.Idx → EReal) (wo : S1024x1024.Idx → EReal)
    (g b : S1024.Idx → EReal) (hr : Gate.Real x w) : Carries (layerOf x w ng wo g b) (init (F := Ideal) w ng wo g b x) := by
  refine ⟨fun n q e => ?_, fun k e => (EReal.coe_toReal (hr.w _).1 (hr.w _).2).symm, fun _ => rfl, fun _ _ => rfl, fun _ => rfl, fun _ => rfl⟩
  have hn : 2048 * q.val + n.val < 32768 := by omega
  refine (first_x x n q e).trans ?_
  unfold layerOf
  dsimp only
  rw [dif_pos hn, EReal.coe_toReal (hr.x _).1 (hr.x _).2]
  congr 3
  omega

/-- What the trips leave is the layer's result. -/
theorem reference_value (m : (ℓ : Loc nD τ sig) → Buf (Elt Ideal) ℓ) (c : Dev nD)
    (hr : Gate.Real (m ((c.tc : Thread nD τ).loc main_arg0)) (m ((c.tc : Thread nD τ).loc main_arg1))) :
    R_main_v6 (states m c 2048) = result4 (layerOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) := by
  have h := trips (it := states m c) (fun _ => rfl) (first_carries _ _ _ _ _ _ hr) (fun b h d v => first_st b h d v) 2048 le_rfl
  funext i
  rw [result_at]
  exact h.2.2 _ _ _ (Nat.mod_lt _ (by decide))

end Cert.Proof.GateRef

end
-- ==== Proof.GateReal.lean ====
module

public import proofs.«01_k».proof.Defs
public import proofs.«01_k».proof.Proof.GateHost

/-! # The precondition of the gated recurrence's value: real rows and first weights -/

@[expose] public section

noncomputable section

namespace Cert.Proof.Gate

open Idealize.ShloMosaic Idealize.ShloMosaic.TcCoe Cert.Kernel4Ideal

/-- The shape relations of the precondition. -/
theorem real_facts : Cert.Pre_real_inputs.Facts where
  bcast_S_S32768x1024 := by decide
  bcast_S_S1024x4096 := by decide

/-- A number whose size is below infinity is real. -/
theorem real_of_abs (x : EReal) (h : BitVec.ofBool (decide (max x (-x) < Ideal.ofBits .f32 0x7F800000#32)) = 1#1) : x ≠ ⊤ ∧ x ≠ ⊥ := by
  have top : Ideal.ofBits .f32 0x7F800000#32 = ⊤ := by simp [Ideal.ofBits, Ideal.ieee]
  rw [top] at h
  refine ⟨fun e => ?_, fun e => ?_⟩ <;> subst e <;> simp at h

/-- The precondition says the rows and the first weights are real. -/
theorem args_real (m : (ℓ : Loc nD τ sig) → Buf (Elt Ideal) ℓ)
    (h : Cert.Pre_Kernel4Ideal_real_inputs (hPre_real_inputs := real_facts) m) (c : Dev nD) : ArgsReal m c := by
  refine ⟨fun i => ?_, fun i => ?_⟩
  · have e := congrFun (h c).1 i
    unfold Cert.Pre_real_inputs.fn at e
    pointwise at e
    exact real_of_abs _ e
  · have e := congrFun (h c).2 i
    unfold Cert.Pre_real_inputs.fn at e
    pointwise at e
    exact real_of_abs _ e

end Cert.Proof.Gate

end
-- ==== Proof.GateRun.lean ====
module

public import proofs.«01_k».proof.Proof.Gen.Kernel4Ideal.Frame

/-! # The gated recurrence's kernel: its run -/

@[expose] public section

noncomputable section

namespace Cert.Proof.Gate

open Idealize.ShloMosaic Idealize.ShloMosaic.TcCoe Cert.Kernel4Ideal Cert.Kernel4Ideal.Gen Idealize.SL.Sem

variable (m : (ℓ : Loc nD τ sig) → Buf (Elt Ideal) ℓ) (ρ : Dev nD → PrngReg)

/-- Every run ends with the kernel's array, and every argument unchanged. -/
theorem kernel_run : θ_run (defs (F := Ideal)) (onTc (τ := τ) (main (F := Ideal))) (s₀ m ρ) fun r => ∀ c : Dev nD,
    r.2.mem ((c : Thread nD τ).loc main_v5) = (dats m 0 c).arrAt 10 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun _ h c => ⟨(h c).1 10,
    ((h c).1 1).trans (((dats m 0 c).arrAt_in 1 rfl _).trans ((A_eq m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 2).trans (((dats m 0 c).arrAt_in 2 rfl _).trans ((A_eq m c 2).trans (V_main_arg6 m c)))⟩)
    (run_main m ρ)

end Cert.Proof.Gate

end
-- ==== Proof.HoldSpec.lean ====
module

public import Idealize.ShloMosaic.Lib.Pointwise

/-! # The discretization of the S5 layer's parameters: the specification

A group's state has a complex rate `a + i b` and the group a logarithm `l` of its time step. Held over one step, the rate
gives the diagonal of the recurrence and a factor for the group's input map. -/

@[expose] public section

noncomputable section

namespace Cert.Proof.Hold

open Idealize.ShloMosaic

/-- The diagonal's real part. -/
def diagRe (a b l : EReal) : EReal := Ideal.exp (Ideal.exp l * a) * Ideal.cos (Ideal.exp l * b)

/-- The diagonal's imaginary part. -/
def diagIm (a b l : EReal) : EReal := Ideal.exp (Ideal.exp l * a) * Ideal.sin (Ideal.exp l * b)

/-- The diagonal's real part without the one. -/
def stepRe (a b l : EReal) : EReal := diagRe a b l - Ideal.ofBits .f32 0x3F800000#32

/-- The input map's factor: its real part. -/
def factorRe (a b l : EReal) : EReal := Ideal.div (stepRe a b l * a + diagIm a b l * b) (a * a + b * b)

/-- The input map's factor: its imaginary part. -/
def factorIm (a b l : EReal) : EReal := Ideal.div (diagIm a b l * a - stepRe a b l * b) (a * a + b * b)

/-- An entry `p + i q` of the input map times the factor: its real part. -/
def mapRe (a b l p q : EReal) : EReal := factorRe a b l * p - factorIm a b l * q

/-- An entry `p + i q` of the input map times the factor: its imaginary part. -/
def mapIm (a b l p q : EReal) : EReal := factorRe a b l * q + factorIm a b l * p

/-- The group of a channel. -/
def grp (n : Fin 1024) : Fin 64 := ⟨n.val / 16, by omega⟩

/-- The place of a channel in its group. -/
def place (n : Fin 1024) : Fin 16 := ⟨n.val % 16, by omega⟩

variable (a b : (⟨2, ![64, 64]⟩ : Shape).Idx → EReal) (l : (⟨1, ![64]⟩ : Shape).Idx → EReal)
  (p q : (⟨3, ![64, 64, 16]⟩ : Shape).Idx → EReal)

/-- The diagonal's real part, a row for each channel. -/
def rowsRe : (⟨2, ![1024, 64]⟩ : Shape).Idx → EReal := fun i =>
  diagRe (a (ix2 (grp (i 0)) (i 1))) (b (ix2 (grp (i 0)) (i 1))) (l (ix1 (grp (i 0))))

/-- The diagonal's imaginary part, a row for each channel. -/
def rowsIm : (⟨2, ![1024, 64]⟩ : Shape).Idx → EReal := fun i =>
  diagIm (a (ix2 (grp (i 0)) (i 1))) (b (ix2 (grp (i 0)) (i 1))) (l (ix1 (grp (i 0))))

/-- The input map's real part, a row for each channel. -/
def inRe : (⟨2, ![1024, 64]⟩ : Shape).Idx → EReal := fun i =>
  mapRe (a (ix2 (grp (i 0)) (i 1))) (b (ix2 (grp (i 0)) (i 1))) (l (ix1 (grp (i 0))))
    (p (ix3 (grp (i 0)) (i 1) (place (i 0)))) (q (ix3 (grp (i 0)) (i 1) (place (i 0))))

/-- The input map's imaginary part, a row for each channel. -/
def inIm : (⟨2, ![1024, 64]⟩ : Shape).Idx → EReal := fun i =>
  mapIm (a (ix2 (grp (i 0)) (i 1))) (b (ix2 (grp (i 0)) (i 1))) (l (ix1 (grp (i 0))))
    (p (ix3 (grp (i 0)) (i 1) (place (i 0)))) (q (ix3 (grp (i 0)) (i 1) (place (i 0))))

end Cert.Proof.Hold

end
-- ==== Proof.HoldResult.lean ====
module

public import proofs.«01_k».proof.Proof.HoldSpec
public import proofs.«01_k».proof.Proof.Gen.Kernel3Ideal.Value
public import Idealize.ShloMosaic.Lib.StableHlo.ReadAt
public import Idealize.ShloMosaic.Lib.Pointwise
public import Idealize.ShloMosaic.Lib.Pipeline.ValueKit

/-! # The discretization's arrays after its run -/

@[expose] public section

noncomputable section

namespace Cert.Proof.Hold

open Idealize.ShloMosaic Idealize.ShloMosaic.TcCoe Cert.Kernel3Ideal Cert.Kernel3Ideal.Gen Idealize.SL.Sem

/-! ## What the kernel computes from its blocks -/

section Body
variable (x0 x1 x2 x3 x4 : Vec Ideal S1024x64 .f32)

/-- A block's only load takes the whole block. -/
theorem load_whole (x : Vec Ideal S1024x64 .f32) : View.ld x r0_0 = x := View.ld_unit_lit _ _ (by decide)

/-- A store of the whole block is what the block is afterwards. -/
theorem store_whole (v : Vec Ideal S1024x64 .f32) : View.canon [(⟨r0_0, v⟩ : View.Piece (Elt Ideal) S1024x64 .f32)] = v := by
  funext y
  refine View.canon_apply_of_pieces (Val := Elt Ideal) v _ ?_ y (cover0_5 _ y)
  intro pc hpc
  simp only [List.mem_cons, List.not_mem_nil, or_false] at hpc
  subst hpc
  intro x
  refine congrArg v (funext fun a => Fin.ext ?_)
  fin_cases a
  · show (x 0).val = 0 + 1 * (x 0).val
    omega
  · show (x 1).val = 0 + 1 * (x 1).val
    omega

/-- The first result, entry by entry. -/
theorem out_re (y : S1024x64.Idx) : out0_5 x0 x1 x2 x3 x4 y = diagRe (x0 y) (x1 y) (x2 y) := by
  unfold out0_5
  rw [store_whole, load_whole, load_whole, load_whole]
  unfold k0_pay6 k0_pay5 k0_pay4 k0_pay3 k0_pay2
  simp only [shapeCast_self]
  rfl

/-- The second result, entry by entry. -/
theorem out_im (y : S1024x64.Idx) : out0_6 x0 x1 x2 x3 x4 y = diagIm (x0 y) (x1 y) (x2 y) := by
  unfold out0_6
  rw [store_whole, load_whole, load_whole, load_whole]
  unfold k0_pay7 k0_pay5 k0_pay4 k0_pay3 k0_pay2
  simp only [shapeCast_self]
  rfl

/-- The factor's real part, entry by entry. -/
theorem pay_factorRe (y : S1024x64.Idx) : k0_pay10 x0 x1 x2 y = factorRe (x0 y) (x1 y) (x2 y) := by
  unfold k0_pay10 k0_pay9 k0_pay8 k0_pay7 k0_pay6 k0_pay5 k0_pay4 k0_pay3 k0_pay2
  simp only [shapeCast_self]
  rfl

/-- The factor's imaginary part, entry by entry. -/
theorem pay_factorIm (y : S1024x64.Idx) : k0_pay11 x0 x1 x2 y = factorIm (x0 y) (x1 y) (x2 y) := by
  unfold k0_pay11 k0_pay9 k0_pay8 k0_pay7 k0_pay6 k0_pay5 k0_pay4 k0_pay3 k0_pay2
  simp only [shapeCast_self]
  rfl

/-- The third result, entry by entry. -/
theorem out_inRe (y : S1024x64.Idx) : out0_7 x0 x1 x2 x3 x4 y = mapRe (x0 y) (x1 y) (x2 y) (x3 y) (x4 y) := by
  unfold out0_7
  rw [store_whole]
  simp only [load_whole]
  unfold k0_pay14 k0_pay12 k0_pay13
  simp only [shapeCast_self]
  exact congrArg₂ (fun u v => (u * x3 y - v * x4 y : EReal)) (pay_factorRe x0 x1 x2 y) (pay_factorIm x0 x1 x2 y)

/-- The fourth result, entry by entry. -/
theorem out_inIm (y : S1024x64.Idx) : out0_8 x0 x1 x2 x3 x4 y = mapIm (x0 y) (x1 y) (x2 y) (x3 y) (x4 y) := by
  unfold out0_8
  rw [store_whole]
  simp only [load_whole]
  unfold k0_pay1 k0_pay15 k0_pay16 k0_pay12 k0_pay13
  simp only [shapeCast_self]
  exact congrArg₂ (fun u v => (u * x4 y + v * x3 y : EReal)) (pay_factorRe x0 x1 x2 y) (pay_factorIm x0 x1 x2 y)

end Body

variable (m : (ℓ : Loc nD τ sig) → Buf (Elt Ideal) ℓ) (c : Dev nD)

/-- The rates' real and imaginary parts, the logarithms of the time steps, and the input map's real and imaginary parts. -/
def rateRe : S64x64.Idx → EReal := m ((c : Thread nD τ).loc main_arg0)
@[inherit_doc rateRe] def rateIm : S64x64.Idx → EReal := m ((c : Thread nD τ).loc main_arg1)
@[inherit_doc rateRe] def logStep : S64.Idx → EReal := m ((c : Thread nD τ).loc main_arg2)
@[inherit_doc rateRe] def givenRe : S64x64x16.Idx → EReal := m ((c : Thread nD τ).loc main_arg3)
@[inherit_doc rateRe] def givenIm : S64x64x16.Idx → EReal := m ((c : Thread nD τ).loc main_arg4)

/-! ## The host's arrays: a row for each channel -/

/-- The rates' real parts. -/
theorem host_0 (n : Fin 1024) (d : Fin 64) : V m c main_v1 (ix2 n d) = rateRe m c (ix2 (grp n) d) := by
  unfold V
  after_reads_at
  rfl

/-- The rates' imaginary parts. -/
theorem host_1 (n : Fin 1024) (d : Fin 64) : V m c main_v3 (ix2 n d) = rateIm m c (ix2 (grp n) d) := by
  unfold V
  after_reads_at
  rfl

/-- The logarithms of the time steps. -/
theorem host_2 (n : Fin 1024) (d : Fin 64) : V m c main_v7 (ix2 n d) = logStep m c (ix1 (grp n)) := by
  unfold V
  after_reads_at
  rfl

/-- The input map's real parts. -/
theorem host_3 (n : Fin 1024) (d : Fin 64) : V m c main_v9 (ix2 n d) = givenRe m c (ix3 (grp n) d (place n)) := by
  unfold V
  after_reads_at
  rfl

/-- The input map's imaginary parts. -/
theorem host_4 (n : Fin 1024) (d : Fin 64) : V m c main_v11 (ix2 n d) = givenIm m c (ix3 (grp n) d (place n)) := by
  unfold V
  after_reads_at
  rfl

/-! ## The blocks: each window shows its whole array -/

/-- A place in a block that starts its array. -/
theorem at_start (b n : ℕ) : 0 * b + 1 * n = n := by omega

/-- The first window's block. -/
theorem block_0 (t : Fin cfg0.N) (n : Fin 1024) (d : Fin 64) : iblk m c 0 t (ix2 n d) = rateRe m c (ix2 (grp n) d) := by
  refine Eq.trans (congrArg (V m c main_v1) (a₂ := ix2 n d) (funext fun a => Fin.ext ?_)) (host_0 m c n d)
  fin_cases a <;> exact at_start _ _

/-- The second window's block. -/
theorem block_1 (t : Fin cfg0.N) (n : Fin 1024) (d : Fin 64) : iblk m c 1 t (ix2 n d) = rateIm m c (ix2 (grp n) d) := by
  refine Eq.trans (congrArg (V m c main_v3) (a₂ := ix2 n d) (funext fun a => Fin.ext ?_)) (host_1 m c n d)
  fin_cases a <;> exact at_start _ _

/-- The third window's block. -/
theorem block_2 (t : Fin cfg0.N) (n : Fin 1024) (d : Fin 64) : iblk m c 2 t (ix2 n d) = logStep m c (ix1 (grp n)) := by
  refine Eq.trans (congrArg (V m c main_v7) (a₂ := ix2 n d) (funext fun a => Fin.ext ?_)) (host_2 m c n d)
  fin_cases a <;> exact at_start _ _

/-- The fourth window's block. -/
theorem block_3 (t : Fin cfg0.N) (n : Fin 1024) (d : Fin 64) : iblk m c 3 t (ix2 n d) = givenRe m c (ix3 (grp n) d (place n)) := by
  refine Eq.trans (congrArg (V m c main_v9) (a₂ := ix2 n d) (funext fun a => Fin.ext ?_)) (host_3 m c n d)
  fin_cases a <;> exact at_start _ _

/-- The fifth window's block. -/
theorem block_4 (t : Fin cfg0.N) (n : Fin 1024) (d : Fin 64) : iblk m c 4 t (ix2 n d) = givenIm m c (ix3 (grp n) d (place n)) := by
  refine Eq.trans (congrArg (V m c main_v11) (a₂ := ix2 n d) (funext fun a => Fin.ext ?_)) (host_4 m c n d)
  fin_cases a <;> exact at_start _ _

/-- Where an entry of a result's block lies in its array. -/
theorem emb_out (t : Fin cfg0.N) (n : Fin 1024) (d : Fin 64) : (win0_5.blk t).view.emb (ix2 n d) = ix2 n d := by
  funext a
  refine Fin.ext ?_
  fin_cases a <;> exact at_start _ _

/-- An entry of a block, by its coordinates. -/
theorem entry (y : S1024x64.Idx) : ∃ (n : Fin 1024) (d : Fin 64), y = ix2 n d := ⟨y 0, y 1, ValueIdx.eq_ix2 y⟩

/-! ## The arrays after the run -/

/-- The diagonal's real part. -/
theorem final_re : (dats m 0 c).arrAt 5 cfg0.N = rowsRe (rateRe m c) (rateIm m c) (logStep m c) := by
  refine (dats m 0 c).arrAt_eq_of_covers 5 _ (by decide +kernel) fun t hf y => ?_
  blk_simp
  rw [after0_5, out_re]
  obtain ⟨n, d, rfl⟩ := entry y
  rw [block_0, block_1, block_2]
  exact (congrArg (rowsRe (rateRe m c) (rateIm m c) (logStep m c)) (emb_out t n d)).symm

/-- The diagonal's imaginary part. -/
theorem final_im : (dats m 0 c).arrAt 6 cfg0.N = rowsIm (rateRe m c) (rateIm m c) (logStep m c) := by
  refine (dats m 0 c).arrAt_eq_of_covers 6 _ (by decide +kernel) fun t hf y => ?_
  blk_simp
  rw [after0_6, out_im]
  obtain ⟨n, d, rfl⟩ := entry y
  rw [block_0, block_1, block_2]
  exact (congrArg (rowsIm (rateRe m c) (rateIm m c) (logStep m c)) (emb_out t n d)).symm

/-- The input map's real part. -/
theorem final_inRe : (dats m 0 c).arrAt 7 cfg0.N = inRe (rateRe m c) (rateIm m c) (logStep m c) (givenRe m c) (givenIm m c) := by
  refine (dats m 0 c).arrAt_eq_of_covers 7 _ (by decide +kernel) fun t hf y => ?_
  blk_simp
  rw [after0_7, out_inRe]
  obtain ⟨n, d, rfl⟩ := entry y
  rw [block_0, block_1, block_2, block_3, block_4]
  exact (congrArg (inRe (rateRe m c) (rateIm m c) (logStep m c) (givenRe m c) (givenIm m c)) (emb_out t n d)).symm

/-- The input map's imaginary part. -/
theorem final_inIm : (dats m 0 c).arrAt 8 cfg0.N = inIm (rateRe m c) (rateIm m c) (logStep m c) (givenRe m c) (givenIm m c) := by
  refine (dats m 0 c).arrAt_eq_of_covers 8 _ (by decide +kernel) fun t hf y => ?_
  blk_simp
  rw [after0_8, out_inIm]
  obtain ⟨n, d, rfl⟩ := entry y
  rw [block_0, block_1, block_2, block_3, block_4]
  exact (congrArg (inIm (rateRe m c) (rateIm m c) (logStep m c) (givenRe m c) (givenIm m c)) (emb_out t n d)).symm

end Cert.Proof.Hold

end
-- ==== Proof.HoldRef.lean ====
module

public import proofs.«01_k».proof.Proof.HoldSpec
public import proofs.«01_k».proof.Proof.Gen.Reference3Ideal.Run
public import Idealize.ShloMosaic.Lib.Pointwise
public import Idealize.ShloMosaic.Lib.ValueIdx

/-! # The discretization's reference, entry by entry -/

@[expose] public section

noncomputable section

namespace Cert.Proof.Hold

open Idealize.ShloMosaic Idealize.ShloMosaic.TcCoe Cert.Reference3Ideal Cert.Reference3Ideal.Gen

variable (a b : FVec Ideal S64x64 .f32) (l : FVec Ideal S64 .f32) (p q : FVec Ideal S64x64x16 .f32)

/-- The time steps, one for each state. -/
def refStep : FVec Ideal S64x64 .f32 :=
  broadcastInDim S64x64 ![0, 1] bcast_S64x1_S64x64_0_1 (broadcastInDim S64x1 ![0] bcast_S64_S64x1_0 (Host.exp l))

/-- The diagonal's real part. -/
def refRe : FVec Ideal S64x64 .f32 := mulf (Host.exp (mulf (refStep l) a)) (Host.cos (mulf (refStep l) b))

/-- The diagonal's imaginary part. -/
def refIm : FVec Ideal S64x64 .f32 := mulf (Host.exp (mulf (refStep l) a)) (Host.sin (mulf (refStep l) b))

/-- The diagonal's real part without the one. -/
def refLess : FVec Ideal S64x64 .f32 := subf (refRe a b l) (broadcastInDim S64x64 ![] bcast_S_S64x64 (constant S_ .f32 0x3F800000#32))

/-- The factor's real part. -/
def refFactorRe : FVec Ideal S64x64 .f32 :=
  Host.divf (addf (mulf (refLess a b l) a) (mulf (refIm a b l) b)) (addf (mulf a a) (mulf b b))

/-- The factor's imaginary part. -/
def refFactorIm : FVec Ideal S64x64 .f32 :=
  Host.divf (subf (mulf (refIm a b l) a) (mulf (refLess a b l) b)) (addf (mulf a a) (mulf b b))

/-- One number per state, repeated for the channels of its group. -/
def refWide (z : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 z)

/-- One row per group, repeated for its channels. -/
def refRows (z : FVec Ideal S64x64 .f32) : FVec Ideal S1024x64 .f32 :=
  shapeCast _ (broadcastInDim S64x16x64 ![0, 1, 2] bcast_S64x1x64_S64x16x64_0_1_2 (broadcastInDim S64x1x64 ![0, 2] bcast_S64x64_S64x1x64_0_2 z))
    shapeCasts_S64x16x64_S1024x64

/-- One row per channel. -/
def refMap (z : FVec Ideal S64x64x16 .f32) : FVec Ideal S1024x64 .f32 :=
  shapeCast _ (transpose S64x16x64 [0, 2, 1] z transposes_S64x64x16_S64x16x64_0_2_1) shapeCasts_S64x16x64_S1024x64

/-- An entry of a repeated row. -/
theorem refRows_at (z : FVec Ideal S64x64 .f32) (n : Fin 1024) (d : Fin 64) : refRows z (ix2 n d) = z (ix2 (grp n) d) := by
  unfold refRows
  pointwise
  rfl

/-- An entry of a channel's row. -/
theorem refMap_at (z : FVec Ideal S64x64x16 .f32) (n : Fin 1024) (d : Fin 64) : refMap z (ix2 n d) = z (ix3 (grp n) d (place n)) := by
  unfold refMap
  pointwise
  rfl

/-- An entry of a repeated number. -/
theorem refWide_at (z : FVec Ideal S64x64 .f32) (g : Fin 64) (d : Fin 64) (h : Fin 16) : refWide z (ix3 g d h) = z (ix2 g d) := by
  unfold refWide
  pointwise

/-- A time step. -/
theorem refStep_at (g : Fin 64) (d : Fin 64) : refStep l (ix2 g d) = Ideal.exp (l (ix1 g)) := by
  unfold refStep
  pointwise

/-- An entry of the diagonal's real part. -/
theorem refRe_at (g : Fin 64) (d : Fin 64) : refRe a b l (ix2 g d) = diagRe (a (ix2 g d)) (b (ix2 g d)) (l (ix1 g)) :=
  congrArg (fun t : EReal => Ideal.exp (t * a (ix2 g d)) * Ideal.cos (t * b (ix2 g d))) (refStep_at l g d)

/-- An entry of the diagonal's imaginary part. -/
theorem refIm_at (g : Fin 64) (d : Fin 64) : refIm a b l (ix2 g d) = diagIm (a (ix2 g d)) (b (ix2 g d)) (l (ix1 g)) :=
  congrArg (fun t : EReal => Ideal.exp (t * a (ix2 g d)) * Ideal.sin (t * b (ix2 g d))) (refStep_at l g d)

/-- An entry of the factor's real part. -/
theorem refFactorRe_at (g : Fin 64) (d : Fin 64) :
    refFactorRe a b l (ix2 g d) = factorRe (a (ix2 g d)) (b (ix2 g d)) (l (ix1 g)) :=
  congrArg₂ (fun r i : EReal => Ideal.div ((r - Ideal.ofBits .f32 0x3F800000#32) * a (ix2 g d) + i * b (ix2 g d))
    (a (ix2 g d) * a (ix2 g d) + b (ix2 g d) * b (ix2 g d))) (refRe_at a b l g d) (refIm_at a b l g d)

/-- An entry of the factor's imaginary part. -/
theorem refFactorIm_at (g : Fin 64) (d : Fin 64) :
    refFactorIm a b l (ix2 g d) = factorIm (a (ix2 g d)) (b (ix2 g d)) (l (ix1 g)) :=
  congrArg₂ (fun r i : EReal => Ideal.div (i * a (ix2 g d) - (r - Ideal.ofBits .f32 0x3F800000#32) * b (ix2 g d))
    (a (ix2 g d) * a (ix2 g d) + b (ix2 g d) * b (ix2 g d))) (refRe_at a b l g d) (refIm_at a b l g d)

/-- Two arrays of rank two are equal when their entries are. -/
theorem ext2 {s r : ℕ} {f g : (⟨2, ![s, r]⟩ : Shape).Idx → EReal} (h : ∀ n d, f (ix2 n d) = g (ix2 n d)) : f = g :=
  funext fun i => by
    rw [ValueIdx.eq_ix2 i]
    exact h _ _

/-- The reference's first result. -/
theorem ref_re : refRows (refRe a b l) = rowsRe a b l := ext2 fun n d => (refRows_at _ n d).trans (refRe_at a b l _ d)

/-- The reference's second result. -/
theorem ref_im : refRows (refIm a b l) = rowsIm a b l := ext2 fun n d => (refRows_at _ n d).trans (refIm_at a b l _ d)

/-- The reference's third result. -/
theorem ref_inRe : refMap (subf (mulf (refWide (refFactorRe a b l)) p) (mulf (refWide (refFactorIm a b l)) q)) = inRe a b l p q :=
  ext2 fun n d => (refMap_at _ n d).trans (congrArg₂ (fun u v : EReal => u * p (ix3 (grp n) d (place n)) - v * q (ix3 (grp n) d (place n)))
    ((refWide_at _ _ _ _).trans (refFactorRe_at a b l _ d)) ((refWide_at _ _ _ _).trans (refFactorIm_at a b l _ d)))

/-- The reference's fourth result. -/
theorem ref_inIm : refMap (addf (mulf (refWide (refFactorRe a b l)) q) (mulf (refWide (refFactorIm a b l)) p)) = inIm a b l p q :=
  ext2 fun n d => (refMap_at _ n d).trans (congrArg₂ (fun u v : EReal => u * q (ix3 (grp n) d (place n)) + v * p (ix3 (grp n) d (place n)))
    ((refWide_at _ _ _ _).trans (refFactorRe_at a b l _ d)) ((refWide_at _ _ _ _).trans (refFactorIm_at a b l _ d)))

end Cert.Proof.Hold

end
-- ==== Proof.Tile.lean ====
module

public import proofs.«01_k».proof.Proof.Stack
public import proofs.«01_k».proof.Proof.Gen.KernelIdeal.Skeleton

@[expose] public section

noncomputable section

namespace Cert.Proof

open Idealize.ShloMosaic Cert.KernelIdeal Cert.KernelIdeal.Gen

/-! # What one tile of the kernel computes

The tile's body is unrolled. Here it is again with its loops rolled up: over the reads its inputs answer, each value it
computes, and each history of writes it leaves in a scratch memory, as a function of loop counters. -/

/-- What one tile reads: the scratch memories it works in and the values its loads of the inputs answer. -/
structure Reads (F : FTy → Type) [FloatOps F] where
  mBu : Memref sig .tc .vmem S512x2048 .f32
  mH : Memref sig .tc .vmem S512x2048 .bf16
  mY : Memref sig .tc .vmem S512x1024 .f32
  mX : Memref sig .tc .vmem S8x512x128 .f32
  mO : Memref sig .tc .vmem S8x512x128 .f32
  x : ℕ → ℕ → ℕ → Vec F S16x128 .f32
  win : Vec F S1024x2048 .bf16
  bd : ℕ → Vec F S1x256x2048 .bf16
  lam : ℕ → ℕ → Vec F S1x1x1024 .f32
  cd : ℕ → Vec F S1x2048x256 .bf16
  d : Vec F S1x1024 .f32
  wg : Vec F S1024x1024 .bf16
  bg : Vec F S1x1024 .f32
  wo : Vec F S1024x1024 .bf16
  g : Vec F S1x1024 .f32
  b : Vec F S1x1024 .f32
  h0 : ℕ → ℕ → Vec F S1x1x16x1024 .f32

/-- The rows of batch `n / 8` and channel block `n % 8` in one half of the transposed tile. -/
@[reducible] def rowsBox (n : ℕ) : Rect S8x512x128 :=
  { off := ![n % 8, 256 * (n / 128 % 2) + n / 8 % 16, 0], size := S1x16x128.size, stride := ![1, 16, 1],
    inb := by
      intro a
      right
      fin_cases a
      · show n % 8 + 1 * (1 - 1) < 8
        omega
      · show 256 * (n / 128 % 2) + n / 8 % 16 + 16 * (16 - 1) < 512
        omega
      · show 0 + 1 * (128 - 1) < 128
        omega
    stride_pos := by decide }

/-- Half a channel block of the transposed tile. -/
@[reducible] def halfBox (h k : ℕ) : Rect S8x512x128 :=
  Rect.unit ![k % 8, 256 * (h % 2), 0] S1x256x128.size (by
    intro a
    fin_cases a
    · show k % 8 + 1 ≤ 8
      omega
    · show 256 * (h % 2) + 256 ≤ 512
      omega
    · show 0 + 128 ≤ 128
      omega)

/-- The rows of the tile, and the columns, that write number `n` of the result fills. -/
@[reducible] def outBox (n : ℕ) : Rect S32x16384 :=
  Rect.unit ![16 * (n / 128 % 2), 1024 * (n / 8 % 16) + 128 * (n % 8)] S16x128.size (by
    intro a
    fin_cases a
    · show 16 * (n / 128 % 2) + 16 ≤ 32
      omega
    · show 1024 * (n / 8 % 16) + 128 * (n % 8) + 128 ≤ 16384
      omega)

/-- The rows of time step `t` and the real (`k = 0`) or imaginary (`k = 1`) columns. -/
@[reducible] def stepBox (t k : ℕ) : Rect S512x2048 :=
  Rect.unit ![16 * (t % 32), 1024 * (k % 2)] S16x1024.size (by
    intro a
    fin_cases a
    · show 16 * (t % 32) + 16 ≤ 512
      omega
    · show 1024 * (k % 2) + 1024 ≤ 2048
      omega)

/-- The whole of the input memory of a slab. -/
@[reducible] def allBox : Rect S512x2048 :=
  Rect.unit ![0, 0] S512x2048.size inb_S512x2048_S512x2048_0_0

/-- The whole of the output memory. -/
@[reducible] def allYBox : Rect S512x1024 :=
  Rect.unit ![0, 0] S512x1024.size inb_S512x1024_S512x1024_0_0

/-- The columns of a slab of 256 channels. -/
@[reducible] def slabBox (s : ℕ) : Rect S512x1024 :=
  Rect.unit ![0, 256 * (s % 4)] S512x256.size (by
    intro a
    fin_cases a
    · show 0 + 512 ≤ 512
      omega
    · show 256 * (s % 4) + 256 ≤ 1024
      omega)

/-- A slab's real or imaginary part of the carried state. -/
@[reducible] def stateBox (s k : ℕ) : Rect S4x2x16x1024 :=
  Rect.unit ![s % 4, k % 2, 0, 0] S1x1x16x1024.size (by
    intro a
    fin_cases a
    · show s % 4 + 1 ≤ 4
      omega
    · show k % 2 + 1 ≤ 2
      omega
    · show 0 + 16 ≤ 16
      omega
    · show 0 + 1024 ≤ 1024
      omega)

/-- A slab's 256 columns lie in the 1024 channels. -/
theorem slabSlices (s : ℕ) : S512x1024.Slices ![0, 256 * (s % 4)] S512x256 := by
  refine ⟨rfl, fun a => ?_⟩
  fin_cases a
  · show 0 + 512 ≤ 512
    omega
  · show 256 * (s % 4) + 256 ≤ 1024
    omega

/-- A block of 128 columns lies in the 1024 channels. -/
theorem blockSlices (k : ℕ) : S256x1024.Slices ![0, 128 * (k % 8)] S256x128 := by
  refine ⟨rfl, fun a => ?_⟩
  fin_cases a
  · show 0 + 256 ≤ 256
    omega
  · show 128 * (k % 8) + 128 ≤ 1024
    omega

variable {F : FTy → Type} [FloatOps F] (E : Reads F)

/-- Write number `n` of the transposed input tile. -/
def xPiece (n : ℕ) : View.Piece (Elt F) S8x512x128 .f32 :=
  ⟨rowsBox n, shapeCast S1x16x128 (E.x (n / 128 % 2) (n / 8 % 16) (n % 8)) shapeCasts_S16x128_S1x16x128⟩

/-- Half a channel block as the tile reads it back. -/
def xBlock (h k : ℕ) : Vec F S1x256x128 .f32 :=
  E.mX.view.readCov (stack [] (xPiece E) (128 * (h % 2) + 128)) (halfBox h k).toLoadRect

/-- The same without its leading axis of one. -/
def xCols (h k : ℕ) : FVec F S256x128 .f32 :=
  shapeCast S256x128 (xBlock E h k) shapeCasts_S1x256x128_S256x128

/-- The input rows of the first half of the tile. -/
def xRows0 : FVec F S256x1024 .f32 :=
  k0_pay136 (xCols E 0 0) (xCols E 0 1) (xCols E 0 2) (xCols E 0 3) (xCols E 0 4) (xCols E 0 5) (xBlock E 0 6) (xBlock E 0 7)

/-- The input rows of the second half of the tile. -/
def xRows1 : FVec F S256x1024 .f32 :=
  k0_pay271 (xCols E 1 0) (xCols E 1 1) (xCols E 1 2) (xCols E 1 3) (xCols E 1 4) (xBlock E 1 5) (xBlock E 1 6) (xBlock E 1 7)

/-- The input projection of the first half. -/
def proj0 : FVec F S256x2048 .f32 :=
  k0_pay137 (xCols E 0 0) (xCols E 0 1) (xCols E 0 2) (xCols E 0 3) (xCols E 0 4) (xCols E 0 5) (xBlock E 0 6) (xBlock E 0 7) E.win

/-- The channels that drive the recurrence. -/
def uTile : FVec F S512x1024 .f32 :=
  k0_pay273 (proj0 E) (xCols E 1 0) (xCols E 1 1) (xCols E 1 2) (xCols E 1 3) (xCols E 1 4) (xBlock E 1 5) (xBlock E 1 6)
    (xBlock E 1 7) E.win

/-- The channels that gate its result. -/
def gateTile : FVec F S512x1024 .f32 :=
  k0_pay274 (proj0 E) (xCols E 1 0) (xCols E 1 1) (xCols E 1 2) (xCols E 1 3) (xCols E 1 4) (xBlock E 1 5) (xBlock E 1 6)
    (xBlock E 1 7) E.win

/-- What drives slab `s`'s states at every row. -/
def buTile (s : ℕ) : FVec F S512x2048 .f32 :=
  matmul dot_S512x256_S256x2048_S512x2048_1_0_0_1_n_n none
    (extractStridedSlice S512x256 ![0, 256 * (s % 4)] (truncf .bf16 (uTile E) bitsLt_bf16_f32) (slabSlices s))
    (shapeCast S256x2048 (E.bd s) shapeCasts_S1x256x2048_S256x2048) (constant S512x2048 .f32 0x00000000#32)

/-- Write number `s` of the memory that holds it. -/
def buPiece (s : ℕ) : View.Piece (Elt F) S512x2048 .f32 :=
  ⟨allBox, shapeCast S512x2048 (buTile E s) shapeCasts_S512x2048_S512x2048⟩

/-- What drives slab `s`'s states at step `t`, real or imaginary part. -/
def drive (s t k : ℕ) : Vec F S16x1024 .f32 :=
  E.mBu.view.readCov (stack [] (buPiece E) (s + 1)) (stepBox t k).toLoadRect

/-- A slab's transition, real or imaginary part, on every batch row. -/
def lamRows (s k : ℕ) : FVec F S16x1024 .f32 :=
  broadcastTo S16x1024 (shapeCast S1x1024 (shapeCast S1x1024 (E.lam s k) shapeCasts_S1x1x1024_S1x1024)
    shapeCasts_S1x1024_S1x1024) broadcasts_S1x1024_S16x1024

/-- One step of slab `s`'s recurrence, on the pair of its state's parts. -/
def stepSlab (s t : ℕ) (h : FVec F S16x1024 .f32 × FVec F S16x1024 .f32) : FVec F S16x1024 .f32 × FVec F S16x1024 .f32 :=
  (addf (subf (mulf (lamRows E s 0) h.1) (mulf (lamRows E s 1) h.2)) (drive E s t 0),
   addf (addf (mulf (lamRows E s 0) h.2) (mulf (lamRows E s 1) h.1)) (drive E s t 1))

/-- Slab `s`'s state after `t` of the tile's steps. -/
def slabState (s t : ℕ) : FVec F S16x1024 .f32 × FVec F S16x1024 .f32 :=
  Nat.rec (shapeCast S16x1024 (E.h0 s 0) shapeCasts_S1x1x16x1024_S16x1024,
    shapeCast S16x1024 (E.h0 s 1) shapeCasts_S1x1x16x1024_S16x1024) (fun t h => stepSlab E s t h) t

/-- One part of it. -/
def statePart (s t k : ℕ) : FVec F S16x1024 .f32 :=
  Nat.rec (slabState E s t).1 (fun _ _ => (slabState E s t).2) k

/-- Write number `n` of the memory of states: slab `n / 64`, step `n / 2 % 32`, part `n % 2`. -/
def hPiece (n : ℕ) : View.Piece (Elt F) S512x2048 .bf16 :=
  ⟨stepBox (n / 2 % 32) (n % 2), shapeCast S16x1024
    (truncf .bf16 (statePart E (n / 64) (n / 2 % 32 + 1) (n % 2)) bitsLt_bf16_f32) shapeCasts_S16x1024_S16x1024⟩

/-- Slab `s`'s states at every row. -/
def hTile (s : ℕ) : Vec F S512x2048 .bf16 :=
  E.mH.view.readCov (stack [] (hPiece E) (64 * s + 64)) allBox.toLoadRect

/-- Write number `s` of the recurrence's output. -/
def yPiece (s : ℕ) : View.Piece (Elt F) S512x1024 .f32 :=
  ⟨slabBox s, shapeCast S512x256 (matmul dot_S512x2048_S2048x256_S512x256_1_0_0_1_n_n none (hTile E s)
    (shapeCast S2048x256 (E.cd s) shapeCasts_S1x2048x256_S2048x256) (constant S512x256 .f32 0x00000000#32))
    shapeCasts_S512x256_S512x256⟩

/-- The recurrence's output at every row. -/
def yTile : Vec F S512x1024 .f32 :=
  E.mY.view.readCov (stack [] (yPiece E) 4) allYBox.toLoadRect

/-- The write of slab `n / 2`'s final state, part `n % 2`. -/
def statePiece (n : ℕ) : View.Piece (Elt F) S4x2x16x1024 .f32 :=
  ⟨stateBox (n / 2) (n % 2), shapeCast S1x1x16x1024 (statePart E (n / 2) 32 (n % 2)) shapeCasts_S16x1024_S1x1x16x1024⟩

/-- The gated output, at every row. -/
def gatedTile : FVec F S512x1024 .bf16 :=
  k0_pay862 (gateTile E) (k0_pay859 (uTile E) (yTile E) E.d) (k0_pay860 (uTile E) (yTile E) E.d) k0_pay861 E.wg E.bg

/-- The normalised result of the first half's rows. -/
def norm0 : FVec F S256x1024 .f32 :=
  k0_pay867 (k0_pay863 E.g) (k0_pay864 E.b)
    (k0_pay865 (xRows0 E) (gateTile E) (k0_pay859 (uTile E) (yTile E) E.d) (k0_pay860 (uTile E) (yTile E) E.d) k0_pay861 E.wg E.bg
      E.wo)
    (k0_pay866 (xRows0 E) (gateTile E) (k0_pay859 (uTile E) (yTile E) E.d) (k0_pay860 (uTile E) (yTile E) E.d) k0_pay861 E.wg E.bg
      E.wo)

/-- The normalised result of the second half's rows. -/
def norm1 : FVec F S256x1024 .f32 :=
  k0_pay1008 (k0_pay1004 E.g) (k0_pay1005 E.b) (k0_pay1006 (xRows1 E) (gatedTile E) E.wo)
    (k0_pay1007 (xRows1 E) (gatedTile E) E.wo)

/-- The normalised result of a half's rows. -/
def norm (h : ℕ) : FVec F S256x1024 .f32 :=
  Nat.rec (norm0 E) (fun _ _ => norm1 E) h

/-- Write number `n` of the transposed result: half `n / 8`, channel block `n % 8`. -/
def rPiece (n : ℕ) : View.Piece (Elt F) S8x512x128 .f32 :=
  ⟨halfBox (n / 8) n, shapeCast S1x256x128
    (extractStridedSlice S256x128 ![0, 128 * (n % 8)] (norm E (n / 8)) (blockSlices n)) shapeCasts_S256x128_S1x256x128⟩

/-- Write number `n` of the result tile. -/
def outPiece (n : ℕ) : View.Piece (Elt F) S32x16384 .f32 :=
  ⟨outBox n, shapeCast S16x128
    (E.mO.view.readCov (stack [] (rPiece E) (8 * (n / 128 % 2) + 8)) (rowsBox n).toLoadRect) shapeCasts_S1x16x128_S16x128⟩

end Cert.Proof

end
-- ==== Proof.TileReads.lean ====
module

public import proofs.«01_k».proof.Proof.Tile

@[expose] public section

noncomputable section

namespace Cert.Proof

open Idealize.ShloMosaic Cert.KernelIdeal Cert.KernelIdeal.Gen Idealize.SL.Sem

variable {F : FTy → Type} [FloatOps F]

/-- The rows `16 h` on of batch `b` and channel block `k` in the tile of inputs. -/
@[reducible] def xBox (h b k : ℕ) : Rect S32x16384 :=
  Rect.unit ![16 * (h % 2), 1024 * (b % 16) + 128 * (k % 8)] S16x128.size (by
    intro a
    fin_cases a
    · show 16 * (h % 2) + 16 ≤ 32
      omega
    · show 1024 * (b % 16) + 128 * (k % 8) + 128 ≤ 16384
      omega)

/-- A slab of the input map. -/
@[reducible] def bdBox (s : ℕ) : Rect S4x256x2048 :=
  Rect.unit ![s % 4, 0, 0] S1x256x2048.size (by
    intro a
    fin_cases a
    · show s % 4 + 1 ≤ 4
      omega
    · show 0 + 256 ≤ 256
      omega
    · show 0 + 2048 ≤ 2048
      omega)

/-- One part of a slab of the transition. -/
@[reducible] def lamBox (s k : ℕ) : Rect S4x2x1024 :=
  Rect.unit ![s % 4, k % 2, 0] S1x1x1024.size (by
    intro a
    fin_cases a
    · show s % 4 + 1 ≤ 4
      omega
    · show k % 2 + 1 ≤ 2
      omega
    · show 0 + 1024 ≤ 1024
      omega)

/-- A slab of the output map. -/
@[reducible] def cdBox (s : ℕ) : Rect S4x2048x256 :=
  Rect.unit ![s % 4, 0, 0] S1x2048x256.size (by
    intro a
    fin_cases a
    · show s % 4 + 1 ≤ 4
      omega
    · show 0 + 2048 ≤ 2048
      omega
    · show 0 + 256 ≤ 256
      omega)

/-- What a tile reads from whole staging memories that hold the given blocks, the carried state apart. -/
def tileReads
    (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg14 : Memref sig .tc .vmem S512x2048 .f32) (arg15 : Memref sig .tc .vmem S512x2048 .bf16)
    (arg16 : Memref sig .tc .vmem S512x1024 .f32) (arg17 : Memref sig .tc .vmem S8x512x128 .f32)
    (arg18 : Memref sig .tc .vmem S8x512x128 .f32) (x0 : Vec F S32x16384 .f32) (x1 : Vec F S1024x2048 .bf16)
    (x2 : Vec F S4x256x2048 .bf16) (x3 : Vec F S4x2x1024 .f32) (x4 : Vec F S4x2048x256 .bf16)
    (x5 : Vec F S1x1024 .f32) (x6 : Vec F S1024x1024 .bf16) (x7 : Vec F S1x1024 .f32) (x8 : Vec F S1024x1024 .bf16)
    (x9 : Vec F S1x1024 .f32) (x10 : Vec F S1x1024 .f32)
    (h0 : ℕ → ℕ → Vec F S1x1x16x1024 .f32) : Reads F where
  mBu := arg14
  mH := arg15
  mY := arg16
  mX := arg17
  mO := arg18
  x h b k := View.readAt (Elt F) arg1.view (xBox h b k).toLoadRect (harg1.unread x0)
  win := View.readAt (Elt F) arg2.view (Rect.unit ![0, 0] S1024x2048.size inb_S1024x2048_S1024x2048_0_0).toLoadRect (harg2.unread x1)
  bd s := View.readAt (Elt F) arg3.view (bdBox s).toLoadRect (harg3.unread x2)
  lam s k := View.readAt (Elt F) arg4.view (lamBox s k).toLoadRect (harg4.unread x3)
  cd s := View.readAt (Elt F) arg5.view (cdBox s).toLoadRect (harg5.unread x4)
  d := View.readAt (Elt F) arg6.view (Rect.unit ![0, 0] S1x1024.size inb_S1x1024_S1x1024_0_0).toLoadRect (harg6.unread x5)
  wg := View.readAt (Elt F) arg7.view (Rect.unit ![0, 0] S1024x1024.size inb_S1024x1024_S1024x1024_0_0).toLoadRect (harg7.unread x6)
  bg := View.readAt (Elt F) arg8.view (Rect.unit ![0, 0] S1x1024.size inb_S1x1024_S1x1024_0_0).toLoadRect (harg8.unread x7)
  wo := View.readAt (Elt F) arg9.view (Rect.unit ![0, 0] S1024x1024.size inb_S1024x1024_S1024x1024_0_0).toLoadRect (harg9.unread x8)
  g := View.readAt (Elt F) arg10.view (Rect.unit ![0, 0] S1x1024.size inb_S1x1024_S1x1024_0_0).toLoadRect (harg10.unread x9)
  b := View.readAt (Elt F) arg11.view (Rect.unit ![0, 0] S1x1024.size inb_S1x1024_S1x1024_0_0).toLoadRect (harg11.unread x10)
  h0 := h0

end Cert.Proof

end
-- ==== Proof.First.lean ====
module

public import proofs.«01_k».proof.Proof.TileReads
public import proofs.«01_k».proof.Proof.Gen.KernelIdeal.Frame

@[expose] public section

set_option maxRecDepth 16384
noncomputable section

namespace Cert.Proof

open Idealize.ShloMosaic Cert.KernelIdeal Cert.KernelIdeal.Gen Idealize.SL.Sem

variable {F : FTy → Type} [FloatOps F]

/-- The first tile's write of a zero state over the whole memory. -/
def zeroPiece : View.Piece (Elt F) S4x2x16x1024 .f32 :=
  ⟨Rect.unit ![0, 0, 0, 0] S4x2x16x1024.size inb_S4x2x16x1024_S4x2x16x1024_0_0_0_0, k0_pay1⟩

variable
    (c : Dev nD) (i : grid0.Coords) (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg12 : Memref sig .tc .vmem S32x16384 .f32) (harg12 : arg12.IsWhole)
    (arg13 : Memref sig .tc .vmem S4x2x16x1024 .f32) (harg13 : arg13.IsWhole)
    (arg14 : Memref sig .tc .vmem S512x2048 .f32) (harg14 : arg14.IsWhole)
    (arg15 : Memref sig .tc .vmem S512x2048 .bf16) (harg15 : arg15.IsWhole)
    (arg16 : Memref sig .tc .vmem S512x1024 .f32) (harg16 : arg16.IsWhole)
    (arg17 : Memref sig .tc .vmem S8x512x128 .f32) (harg17 : arg17.IsWhole)
    (arg18 : Memref sig .tc .vmem S8x512x128 .f32) (harg18 : arg18.IsWhole) (hc0 : cond0_0 i)
    (x0 : Vec F S32x16384 .f32) (x1 : Vec F S1024x2048 .bf16) (x2 : Vec F S4x256x2048 .bf16)
    (x3 : Vec F S4x2x1024 .f32) (x4 : Vec F S4x2048x256 .bf16) (x5 : Vec F S1x1024 .f32)
    (x6 : Vec F S1024x1024 .bf16) (x7 : Vec F S1x1024 .f32) (x8 : Vec F S1024x1024 .bf16) (x9 : Vec F S1x1024 .f32)
    (x10 : Vec F S1x1024 .f32)

/-- The memory of states before slab `s` reads it in the first tile: zero, then the earlier slabs' final states. -/
def firstHistory (s : ℕ) : List (View.Piece (Elt F) S4x2x16x1024 .f32) :=
  match s with
  | 0 => [zeroPiece]
  | 1 => kernelRun0_A.sl.HS0_3 c arg1 harg1 arg2 harg2 arg3 harg3 arg4 harg4 arg13 arg14 arg17 x0 x1 x2 x3
  | 2 => kernelRun0_A.sl.HS0_5 c arg1 harg1 arg2 harg2 arg3 harg3 arg4 harg4 arg13 arg14 arg17 x0 x1 x2 x3
  | _ => kernelRun0_A.sl.HS0_7 c arg1 harg1 arg2 harg2 arg3 harg3 arg4 harg4 arg13 arg14 arg17 x0 x1 x2 x3

/-- The first tile's slabs read their state from there. -/
def fresh (s k : ℕ) : Vec F S1x1x16x1024 .f32 :=
  arg13.view.readCov (firstHistory c arg1 harg1 arg2 harg2 arg3 harg3 arg4 harg4 arg13 arg14 arg17 x0 x1 x2 x3 s) (stateBox s k).toLoadRect

/-- The first tile's writes of its result are the rolled-up tile's. -/
theorem first_out :
    (kernelRun0_A
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      hc0 x0 x1 x2 x3 x4 x5 x6 x7 x8 x9 x10).1
      = stack [] (outPiece (tileReads
        arg1 harg1 arg2 harg2 arg3 harg3 arg4 harg4 arg5 harg5 arg6 harg6 arg7 harg7 arg8 harg8 arg9 harg9 arg10
        harg10 arg11 harg11 arg14 arg15 arg16 arg17 arg18 x0 x1 x2 x3 x4 x5 x6 x7 x8 x9 x10
        (fresh c arg1 harg1 arg2 harg2 arg3 harg3 arg4 harg4 arg13 arg14 arg17 x0 x1 x2 x3))) 256 := by
  sl_kernel_rfl

/-- The first tile's writes of the carried state are the rolled-up tile's, after the zero state. -/
theorem first_state :
    (kernelRun0_A
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      hc0 x0 x1 x2 x3 x4 x5 x6 x7 x8 x9 x10).2.1
      = stack [zeroPiece] (statePiece (tileReads
        arg1 harg1 arg2 harg2 arg3 harg3 arg4 harg4 arg5 harg5 arg6 harg6 arg7 harg7 arg8 harg8 arg9 harg9 arg10
        harg10 arg11 harg11 arg14 arg15 arg16 arg17 arg18 x0 x1 x2 x3 x4 x5 x6 x7 x8 x9 x10
        (fresh c arg1 harg1 arg2 harg2 arg3 harg3 arg4 harg4 arg13 arg14 arg17 x0 x1 x2 x3))) 8 := by
  sl_kernel_rfl

/-- What the history holds before slab `s`: zero, then the rolled-up tile's first `2 s` writes. -/
theorem history_stack (s : ℕ) (hs : s < 4) : firstHistory c arg1 harg1 arg2 harg2 arg3 harg3 arg4 harg4 arg13 arg14 arg17 x0 x1 x2 x3 s
    = stack [zeroPiece] (statePiece (tileReads
        arg1 harg1 arg2 harg2 arg3 harg3 arg4 harg4 arg5 harg5 arg6 harg6 arg7 harg7 arg8 harg8 arg9 harg9 arg10
        harg10 arg11 harg11 arg14 arg15 arg16 arg17 arg18 x0 x1 x2 x3 x4 x5 x6 x7 x8 x9 x10
        (fresh c arg1 harg1 arg2 harg2 arg3 harg3 arg4 harg4 arg13 arg14 arg17 x0 x1 x2 x3))) (2 * s) := by
  match s, hs with
  | 0, _ => sl_kernel_rfl
  | 1, _ => sl_kernel_rfl
  | 2, _ => sl_kernel_rfl
  | 3, _ => sl_kernel_rfl

end Cert.Proof

end
-- ==== Proof.Later.lean ====
module

public import proofs.«01_k».proof.Proof.TileReads
public import proofs.«01_k».proof.Proof.Gen.KernelIdeal.Frame

@[expose] public section

set_option maxRecDepth 16384
noncomputable section

namespace Cert.Proof

open Idealize.ShloMosaic Cert.KernelIdeal Cert.KernelIdeal.Gen Idealize.SL.Sem

variable {F : FTy → Type} [FloatOps F]

/-- A later tile finds its state in the memory carried from the tile before. -/
def carried (arg13 : Memref sig .tc .vmem S4x2x16x1024 .f32) (harg13 : arg13.IsWhole) (xs0 : Vec F S4x2x16x1024 .f32)
    (s k : ℕ) : Vec F S1x1x16x1024 .f32 :=
  View.readAt (Elt F) arg13.view (stateBox s k).toLoadRect (harg13.unread xs0)

variable
    (c : Dev nD) (i : grid0.Coords) (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg12 : Memref sig .tc .vmem S32x16384 .f32) (harg12 : arg12.IsWhole)
    (arg13 : Memref sig .tc .vmem S4x2x16x1024 .f32) (harg13 : arg13.IsWhole)
    (arg14 : Memref sig .tc .vmem S512x2048 .f32) (harg14 : arg14.IsWhole)
    (arg15 : Memref sig .tc .vmem S512x2048 .bf16) (harg15 : arg15.IsWhole)
    (arg16 : Memref sig .tc .vmem S512x1024 .f32) (harg16 : arg16.IsWhole)
    (arg17 : Memref sig .tc .vmem S8x512x128 .f32) (harg17 : arg17.IsWhole)
    (arg18 : Memref sig .tc .vmem S8x512x128 .f32) (harg18 : arg18.IsWhole) (hc0 : ¬cond0_0 i)
    (x0 : Vec F S32x16384 .f32) (x1 : Vec F S1024x2048 .bf16) (x2 : Vec F S4x256x2048 .bf16)
    (x3 : Vec F S4x2x1024 .f32) (x4 : Vec F S4x2048x256 .bf16) (x5 : Vec F S1x1024 .f32)
    (x6 : Vec F S1024x1024 .bf16) (x7 : Vec F S1x1024 .f32) (x8 : Vec F S1024x1024 .bf16) (x9 : Vec F S1x1024 .f32)
    (x10 : Vec F S1x1024 .f32) (xs0 : Vec F S4x2x16x1024 .f32)

/-- A later tile's writes of its result are the rolled-up tile's. -/
theorem later_out :
    (kernelRun0_B
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      hc0 x0 x1 x2 x3 x4 x5 x6 x7 x8 x9 x10 xs0).1
      = stack [] (outPiece (tileReads
        arg1 harg1 arg2 harg2 arg3 harg3 arg4 harg4 arg5 harg5 arg6 harg6 arg7 harg7 arg8 harg8 arg9 harg9 arg10
        harg10 arg11 harg11 arg14 arg15 arg16 arg17 arg18 x0 x1 x2 x3 x4 x5 x6 x7 x8 x9 x10
        (carried arg13 harg13 xs0))) 256 := by
  sl_kernel_rfl

/-- A later tile's writes of the carried state are the rolled-up tile's. -/
theorem later_state :
    (kernelRun0_B
      c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      hc0 x0 x1 x2 x3 x4 x5 x6 x7 x8 x9 x10 xs0).2.1
      = stack [] (statePiece (tileReads
        arg1 harg1 arg2 harg2 arg3 harg3 arg4 harg4 arg5 harg5 arg6 harg6 arg7 harg7 arg8 harg8 arg9 harg9 arg10
        harg10 arg11 harg11 arg14 arg15 arg16 arg17 arg18 x0 x1 x2 x3 x4 x5 x6 x7 x8 x9 x10
        (carried arg13 harg13 xs0))) 8 := by
  sl_kernel_rfl

end Cert.Proof

end
-- ==== Proof.RefRun.lean ====
module

public import proofs.«01_k».proof.Proof.Gen.ReferenceIdeal.Run
public import proofs.«01_k».proof.Proof.Gen.ReferenceIdeal.Step

/-! # The reference's run as its trip iterated -/

@[expose] public section

set_option maxRecDepth 8192

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a valuation of the loop's buffers holds. -/
def held (V0 : Valuation τ sig (Elt F)) : State F where
  main_v11_15 := V0 (Proc.devRef .tc main_v11_15)
  main_v11_16 := V0 (Proc.devRef .tc main_v11_16)
  main_v11_17 := V0 (Proc.devRef .tc main_v11_17)
  main_v11_0 := V0 (Proc.devRef .tc main_v11_0)
  main_v11_1 := V0 (Proc.devRef .tc main_v11_1)
  main_v11_2 := V0 (Proc.devRef .tc main_v11_2)
  main_v11_3 := V0 (Proc.devRef .tc main_v11_3)
  main_v11_4 := V0 (Proc.devRef .tc main_v11_4)
  main_v11_5 := V0 (Proc.devRef .tc main_v11_5)
  main_v11_6 := V0 (Proc.devRef .tc main_v11_6)
  main_v11_7 := V0 (Proc.devRef .tc main_v11_7)
  main_v11_8 := V0 (Proc.devRef .tc main_v11_8)
  main_v11_9 := V0 (Proc.devRef .tc main_v11_9)
  main_v11_10 := V0 (Proc.devRef .tc main_v11_10)
  main_v11_11 := V0 (Proc.devRef .tc main_v11_11)
  main_v11_12 := V0 (Proc.devRef .tc main_v11_12)
  main_v11_13 := V0 (Proc.devRef .tc main_v11_13)

theorem state_ext {s t : State F} (h15 : s.main_v11_15 = t.main_v11_15) (h16 : s.main_v11_16 = t.main_v11_16) (h17 : s.main_v11_17 = t.main_v11_17) (h0 : s.main_v11_0 = t.main_v11_0) (h1 : s.main_v11_1 = t.main_v11_1) (h2 : s.main_v11_2 = t.main_v11_2) (h3 : s.main_v11_3 = t.main_v11_3) (h4 : s.main_v11_4 = t.main_v11_4) (h5 : s.main_v11_5 = t.main_v11_5) (h6 : s.main_v11_6 = t.main_v11_6) (h7 : s.main_v11_7 = t.main_v11_7) (h8 : s.main_v11_8 = t.main_v11_8) (h9 : s.main_v11_9 = t.main_v11_9) (h10 : s.main_v11_10 = t.main_v11_10) (h11 : s.main_v11_11 = t.main_v11_11) (h12 : s.main_v11_12 = t.main_v11_12) (h13 : s.main_v11_13 = t.main_v11_13) : s = t := by
  cases s; cases t; dsimp only at *; subst_vars; rfl

variable {V0 : Valuation τ sig (Elt F)} {j : ℕ}

/-! The values of one trip that the run names, each the step's. -/

theorem row (hn : V0 (Proc.devRef .tc main_v11_14) = constantI S_ 32 (BitVec.ofNat 32 j)) :
    res_main_while0b_v13 V0 = Step.b3 j (held V0) := by
  unfold res_main_while0b_v13
  rw [hn]
  rfl

theorem proj (hn : V0 (Proc.devRef .tc main_v11_14) = constantI S_ 32 (BitVec.ofNat 32 j)) :
    res_main_while0b_v14 V0 = Step.b4 j (held V0) := by
  unfold res_main_while0b_v14
  rw [row hn]
  rfl

theorem proj_u (hn : V0 (Proc.devRef .tc main_v11_14) = constantI S_ 32 (BitVec.ofNat 32 j)) :
    res_main_while0b_v15 V0 = Step.b5 j (held V0) := by
  unfold res_main_while0b_v15
  rw [proj hn]
  rfl

theorem proj_gate (hn : V0 (Proc.devRef .tc main_v11_14) = constantI S_ 32 (BitVec.ofNat 32 j)) :
    res_main_while0b_v16 V0 = Step.b6 j (held V0) := by
  unfold res_main_while0b_v16
  rw [proj hn]
  rfl

theorem grouped (hn : V0 (Proc.devRef .tc main_v11_14) = constantI S_ 32 (BitVec.ofNat 32 j)) :
    res_main_while0b_v17 V0 = Step.b7 j (held V0) := by
  unfold res_main_while0b_v17
  rw [proj_u hn]
  rfl

theorem trip_re (hn : V0 (Proc.devRef .tc main_v11_14) = constantI S_ 32 (BitVec.ofNat 32 j)) :
    res_main_while0b_v27 V0 = Step.b17 j (held V0) := by
  unfold res_main_while0b_v27
  rw [grouped hn]
  rfl

theorem trip_im (hn : V0 (Proc.devRef .tc main_v11_14) = constantI S_ 32 (BitVec.ofNat 32 j)) :
    res_main_while0b_v37 V0 = Step.b27 j (held V0) := by
  unfold res_main_while0b_v37
  rw [grouped hn]
  rfl

theorem trip_y (hn : V0 (Proc.devRef .tc main_v11_14) = constantI S_ 32 (BitVec.ofNat 32 j)) :
    res_main_while0b_v54 V0 = Step.b45 j (held V0) := by
  unfold res_main_while0b_v54
  rw [trip_re hn, trip_im hn, proj_u hn]
  rfl

theorem trip_gelu (hn : V0 (Proc.devRef .tc main_v11_14) = constantI S_ 32 (BitVec.ofNat 32 j)) :
    res_main_while0b_v67 V0 = Step.b62 j (held V0) := by
  unfold res_main_while0b_v67
  rw [trip_y hn]
  rfl

theorem trip_res (hn : V0 (Proc.devRef .tc main_v11_14) = constantI S_ 32 (BitVec.ofNat 32 j)) :
    res_main_while0b_v84 V0 = Step.b90 j (held V0) := by
  unfold res_main_while0b_v84
  rw [row hn, trip_gelu hn, proj_gate hn]
  rfl

theorem trip_mean (hn : V0 (Proc.devRef .tc main_v11_14) = constantI S_ 32 (BitVec.ofNat 32 j)) :
    res_main_while0b_v88 V0 = Step.b96 j (held V0) := by
  unfold res_main_while0b_v88
  rw [trip_res hn]
  rfl

theorem trip_centred (hn : V0 (Proc.devRef .tc main_v11_14) = constantI S_ 32 (BitVec.ofNat 32 j)) :
    res_main_while0b_v90 V0 = Step.b98 j (held V0) := by
  unfold res_main_while0b_v90
  rw [trip_res hn, trip_mean hn]
  rfl

theorem trip_out (hn : V0 (Proc.devRef .tc main_v11_14) = constantI S_ 32 (BitVec.ofNat 32 j)) :
    step_main_v11_17 V0 = Step.b123 j (held V0) := by
  unfold step_main_v11_17
  rw [hn, trip_res hn, trip_mean hn, trip_centred hn]
  rfl

/-- One trip of the loop is one `step` of the state it holds. -/
theorem held_step (hn : V0 (Proc.devRef .tc main_v11_14) = constantI S_ 32 (BitVec.ofNat 32 j)) :
    held (STEP V0) = step j (held V0) :=
  state_ext ((STEP_main_v11_15 V0).trans (trip_re hn)) ((STEP_main_v11_16 V0).trans (trip_im hn))
    ((STEP_main_v11_17 V0).trans (trip_out hn)) (STEP_main_v11_0 V0) (STEP_main_v11_1 V0) (STEP_main_v11_2 V0) (STEP_main_v11_3 V0) (STEP_main_v11_4 V0) (STEP_main_v11_5 V0) (STEP_main_v11_6 V0) (STEP_main_v11_7 V0) (STEP_main_v11_8 V0) (STEP_main_v11_9 V0) (STEP_main_v11_10 V0) (STEP_main_v11_11 V0) (STEP_main_v11_12 V0) (STEP_main_v11_13 V0)

/-- The trip counter counts. -/
theorem counter_step (hn : V0 (Proc.devRef .tc main_v11_14) = constantI S_ 32 (BitVec.ofNat 32 j)) :
    STEP V0 (Proc.devRef .tc main_v11_14) = constantI S_ 32 (BitVec.ofNat 32 (j + 1)) := by
  rw [STEP_main_v11_14]
  unfold step_main_v11_14
  rw [hn]
  funext i
  show BitVec.ofNat 32 j + 1#32 = BitVec.ofNat 32 (j + 1)
  simp only [BitVec.ofNat_add]

variable (m : (ℓ : Loc nD τ sig) → Buf (Elt F) ℓ) (ρ : Dev nD → PrngReg)

/-- The state before the first trip, of the memory the run starts from. -/
def start (c : Dev nD) : State F :=
  init (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

set_option maxRecDepth 65536 in
theorem entry_held (c : Dev nD) : held (entryContents preI m c) = start m c := by
  apply state_ext <;> unfold held start <;> (simp only [entryContents, afterL_cons, afterL_nil]; after_reads_simp) <;> rfl

set_option maxRecDepth 65536 in
theorem entry_counter (c : Dev nD) : entryContents preI m c (Proc.devRef .tc main_v11_14) = constantI S_ 32 (BitVec.ofNat 32 0) := by
  simp only [entryContents, afterL_cons, afterL_nil]
  after_reads_simp
  rfl

theorem result_held (V0 : Valuation τ sig (Elt F)) : out_main_v12 V0 = Step.R_main_v12 (held V0) := rfl

/-- Every run ends with the result that the trips leave in a sequence of states going on by `step`, and every argument unchanged. -/
theorem reference_run (it : Dev nD → ℕ → State F) (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v12) = Step.R_main_v12 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun _ h c => ?_) (Value.run m ρ)
  have hk : ∀ k, held (STEP^[k] (entryContents preI m c)) = it c k
      ∧ (STEP^[k] (entryContents preI m c)) (Proc.devRef .tc main_v11_14) = constantI S_ 32 (BitVec.ofNat 32 k) := by
    intro k
    induction k with
    | zero => exact ⟨(entry_held m c).trans (h0 c).symm, entry_counter m c⟩
    | succ k ih =>
      rw [Function.iterate_succ_apply', hs c k, ← ih.1]
      exact ⟨held_step ih.2, counter_step ih.2⟩
  have hr : ∀ k, out_main_v12 (STEP^[k] (entryContents preI m c)) = Step.R_main_v12 (it c k) := fun k => by
    rw [result_held, (hk k).1]
  exact ⟨(h c).1.trans (hr 2048), (h c).2⟩

end Cert.Proof

end
-- ==== Proof.RefStep.lean ====
module

public import proofs.«01_k».proof.Proof.Gen.ReferenceIdeal.Step
public import proofs.«01_k».proof.Proof.Spec
public import Idealize.ShloMosaic.Lib.DynamicIndex

/-! # One trip of the reference's loop, at an index -/

@[expose] public section

set_option maxRecDepth 16384

noncomputable section

namespace Cert.Proof

open Idealize.ShloMosaic Cert.ReferenceIdeal Cert.ReferenceIdeal.Step

/-- The weights a state of the reference's loop carries. -/
def wOf (s : State Ideal) : Weights where
  win k e := s.main_v11_1 (ix2 k e)
  ar g p := s.main_v11_2 (ix2 g p)
  ai g p := s.main_v11_3 (ix2 g p)
  br g h p := s.main_v11_4 (ix3 g h p)
  bi g h p := s.main_v11_5 (ix3 g h p)
  cr g h p := s.main_v11_6 (ix3 g h p)
  ci g h p := s.main_v11_7 (ix3 g h p)
  d e := s.main_v11_8 (ix1 e)
  wg k e := s.main_v11_9 (ix2 k e)
  bg e := s.main_v11_10 (ix1 e)
  wo k e := s.main_v11_11 (ix2 k e)
  g e := s.main_v11_12 (ix1 e)
  b e := s.main_v11_13 (ix1 e)

/-- Batch row `b` of the reference's state. -/
def stOf (s : State Ideal) (b : Fin 16) : St := (fun g p => s.main_v11_15 (ix3 b g p), fun g p => s.main_v11_16 (ix3 b g p))

/-- Batch row `b` of the input at time `n`. -/
def xOf (s : State Ideal) (b : Fin 16) (n : ℕ) (d : Fin 1024) : EReal :=
  if h : n < 2048 then s.main_v11_0 (ix3 ⟨n, h⟩ b d) else 0

variable (j : ℕ) (s : State Ideal) (b : Fin 16)

theorem starts {j : ℕ} (hj : j < 2048) (i : S_.Idx) (a : Fin 3) :
    BitVec.toInt ((![constantI S_ 32 (BitVec.ofNat 32 j), constantI S_ 32 0#32, constantI S_ 32 0#32] : Fin 3 → S_.Idx → BitVec 32) a i)
      = ((![j, 0, 0] : Fin 3 → ℕ) a : ℤ) := by
  fin_cases a
  · exact toInt_ofNat_of_lt (by omega)
  · rfl
  · rfl

/-- The trip's input row. -/
theorem b3_at {j : ℕ} (hj : j < 2048) (d : Fin 1024) : b3 j s (ix2 b d) = xOf s b j d := by
  have hin : S2048x16x1024.Slices ![j, 0, 0] S1x16x1024 := ⟨rfl, fun a => by fin_cases a <;> simp [Shape.size] <;> omega⟩
  unfold b3 b2 b1 b0
  rw [Host.dynamicSlice_eq_extractStridedSlice _ _ _ ![j, 0, 0] _ hin (fun a => starts hj _ a)]
  pointwise
  simp [xOf, hj]

theorem b5_at (e : Fin 1024) : b5 j s (ix2 b e) = uRow (wOf s) (fun d => b3 j s (ix2 b d)) e := by
  unfold b5 b4
  pointwise
  rfl

theorem b6_at (e : Fin 1024) : b6 j s (ix2 b e) = gateRow (wOf s) (fun d => b3 j s (ix2 b d)) e := by
  unfold b6 b4
  pointwise
  rfl

/-- The next state, real half. -/
theorem b17_at (g p : Fin 64) : b17 j s (ix3 b g p) = (next (wOf s) (fun e => b5 j s (ix2 b e)) (stOf s b)).1 g p := by
  unfold b17 b16 b15 b14 b13 b12 b11 b10 b9 b8 b7
  pointwise
  rfl

/-- The next state, imaginary half. -/
theorem b27_at (g p : Fin 64) : b27 j s (ix3 b g p) = (next (wOf s) (fun e => b5 j s (ix2 b e)) (stOf s b)).2 g p := by
  unfold b27 b26 b25 b24 b23 b22 b21 b20 b19 b18 b7
  pointwise
  rfl

theorem b45_at (e : Fin 1024) : b45 j s (ix2 b e)
    = yRow (wOf s) (fun e => b5 j s (ix2 b e)) (fun g p => b17 j s (ix3 b g p), fun g p => b27 j s (ix3 b g p)) e := by
  unfold b45 b44 b43 b42 b41 b40 b39 b38 b37 b36 b35 b34 b33 b32 b31 b30 b29 b28
  pointwise
  rfl

theorem b90_at (e : Fin 1024) : b90 j s (ix2 b e)
    = resRow (wOf s) (fun e => b3 j s (ix2 b e)) (fun e => b45 j s (ix2 b e)) (fun e => b6 j s (ix2 b e)) e := by
  unfold b90 b89 b88 b87 b86 b85 b84 b83 b82 b81 b80 b79 b78 b77 b76 b75 b74 b73 b72 b71 b70 b69 b68 b67 b66 b65 b64 b63 b62 b61 b60 b59 b58 b57
    b56 b55 b54 b53 b52 b51 b50 b49 b48 b47 b46
  pointwise
  rfl

theorem b119_at (e : Fin 1024) : b119 j s (ix2 b e) = normRow (wOf s) (fun e => b90 j s (ix2 b e)) e := by
  unfold b119 b118 b117 b116 b115 b114 b113 b112 b111 b110 b109 b108 b107 b106 b105 b104 b103 b102 b101 b100 b99 b98 b97 b96 b95 b94 b93 b92 b91
  pointwise
  rfl

theorem clamped {j : ℕ} (hj : j < 2048) (i : S_.Idx) (h : (3 : ℕ) = 3) (a : Fin 3) :
    Host.clampedStart S2048x16x1024 S1x16x1024 h (fun k => BitVec.toInt
      ((![constantI S_ 32 (BitVec.ofNat 32 j), constantI S_ 32 0#32, constantI S_ 32 0#32] : Fin 3 → S_.Idx → BitVec 32) k i)) a
      = (![j, 0, 0] : Fin 3 → ℕ) a := by
  refine Host.clampedStart_of_le (s := S2048x16x1024) (t := S1x16x1024) h _ a _ (starts hj i a) ?_
  match a with
  | 0 => show j + 1 ≤ 2048; omega
  | 1 => show 0 + 16 ≤ 16; omega
  | 2 => show 0 + 1024 ≤ 1024; omega

/-- The stacked output after the trip: row `j` is the trip's, the others are kept. -/
theorem b123_at {j : ℕ} (hj : j < 2048) (t : Fin 2048) (d : Fin 1024) :
    b123 j s (ix3 t b d) = if t.val = j then b119 j s (ix2 b d) else s.main_v11_17 (ix3 t b d) := by
  have h0 := clamped hj (Shape.Idx.first Gen.h_S_) rfl 0
  have h1 := clamped hj (Shape.Idx.first Gen.h_S_) rfl 1
  have h2 := clamped hj (Shape.Idx.first Gen.h_S_) rfl 2
  unfold b123 b122 b121 b120
  pointwise
  simp only [h0, h1, h2]
  by_cases h : t.val = j
  · rw [dif_pos (by simp; omega), if_pos h]; rfl
  · rw [dif_neg (by simp; omega), if_neg h]

theorem next_state (hj : j < 2048) : stOf (step j s) b = next (wOf s) (uRow (wOf s) (xOf s b j)) (stOf s b) := by
  have hx : (fun d => b3 j s (ix2 b d)) = xOf s b j := funext fun d => b3_at s b hj d
  have hu : (fun e => b5 j s (ix2 b e)) = uRow (wOf s) (xOf s b j) := funext fun e => (b5_at j s b e).trans (by rw [hx])
  refine Prod.ext (funext fun g => funext fun p => ?_) (funext fun g => funext fun p => ?_)
  · exact (b17_at j s b g p).trans (by rw [hu])
  · exact (b27_at j s b g p).trans (by rw [hu])

/-- The trip's output row. -/
theorem out_row (hj : j < 2048) (d : Fin 1024) :
    b119 j s (ix2 b d) = outRow (wOf s) (xOf s b j) (next (wOf s) (uRow (wOf s) (xOf s b j)) (stOf s b)) d := by
  have hx : (fun d => b3 j s (ix2 b d)) = xOf s b j := funext fun d => b3_at s b hj d
  have hu : (fun e => b5 j s (ix2 b e)) = uRow (wOf s) (xOf s b j) := funext fun e => (b5_at j s b e).trans (by rw [hx])
  have hg : (fun e => b6 j s (ix2 b e)) = gateRow (wOf s) (xOf s b j) := funext fun e => (b6_at j s b e).trans (by rw [hx])
  have hs := next_state j s b hj
  have hy : (fun e => b45 j s (ix2 b e)) = yRow (wOf s) (uRow (wOf s) (xOf s b j)) (next (wOf s) (uRow (wOf s) (xOf s b j)) (stOf s b)) :=
    funext fun e => (b45_at j s b e).trans (by rw [hu, ← hs]; rfl)
  have hr : (fun e => b90 j s (ix2 b e)) = _ := funext fun e => (b90_at j s b e).trans (by rw [hx, hy, hg])
  rw [b119_at, hr]; rfl

end Cert.Proof

end
-- ==== Proof.RefValue.lean ====
module

public import proofs.«01_k».proof.Proof.RefRun
public import proofs.«01_k».proof.Proof.RefStep

/-! # The reference's result is the specification -/

@[expose] public section

set_option maxRecDepth 16384

noncomputable section

namespace Cert.Proof

open Idealize.ShloMosaic Cert.ReferenceIdeal Cert.ReferenceIdeal.Step

/-- The layer's weights as functions of the arguments of the call, all of them arrays of extended reals. -/
def weights (win : S1024x2048.Idx → EReal) (abr abi bbr bbi : S1024x64.Idx → EReal) (cr ci : S64x16x64.Idx → EReal) (d : S1024.Idx → EReal)
    (wg : S1024x1024.Idx → EReal) (bg : S1024.Idx → EReal) (wo : S1024x1024.Idx → EReal) (g b : S1024.Idx → EReal) : Weights where
  win k e := win (ix2 k e)
  ar gr p := abr (ix2 (chan gr 0) p)
  ai gr p := abi (ix2 (chan gr 0) p)
  br gr h p := bbr (ix2 (chan gr h) p)
  bi gr h p := bbi (ix2 (chan gr h) p)
  cr gr h p := cr (ix3 gr h p)
  ci gr h p := ci (ix3 gr h p)
  d e := d (ix1 e)
  wg k e := wg (ix2 k e)
  bg e := bg (ix1 e)
  wo k e := wo (ix2 k e)
  g e := g (ix1 e)
  b e := b (ix1 e)

/-- Batch row `b` of the input at time `n` (zero past the last time, which nothing reads). -/
def inputRow (x : S2048x16384.Idx → EReal) (b : Fin 16) (n : ℕ) (d : Fin 1024) : EReal :=
  if h : n < 2048 then x (ix2 ⟨n, h⟩ ⟨b.val * 1024 + d.val, by omega⟩) else 0

/-- The loop's state after `n` trips. -/
def trips (s : State Ideal) : ℕ → State Ideal
  | 0 => s
  | n + 1 => step n (trips s n)

theorem trips_wOf (s : State Ideal) (n : ℕ) : wOf (trips s n) = wOf s := by
  induction n with
  | zero => rfl
  | succ n ih => rw [← ih]; rfl

theorem trips_xOf (s : State Ideal) (n : ℕ) : xOf (trips s n) = xOf s := by
  induction n with
  | zero => rfl
  | succ n ih => rw [← ih]; rfl

/-- After `n` trips the carried state is the specification's, and the first `n` rows of the stacked output are its outputs. -/
theorem trips_at (s : State Ideal) (h0 : ∀ b, stOf s b = (fun _ _ => 0, fun _ _ => 0)) (n : ℕ) (hn : n ≤ 2048) :
    (∀ b, stOf (trips s n) b = stateAt (wOf s) (xOf s b) n)
    ∧ ∀ (t : Fin 2048) (b : Fin 16) (d : Fin 1024), t.val < n → (trips s n).main_v11_17 (ix3 t b d) = outAt (wOf s) (xOf s b) t.val d := by
  induction n with
  | zero => exact ⟨h0, fun t b d h => absurd h (Nat.not_lt_zero _)⟩
  | succ n ih =>
    obtain ⟨ihs, iho⟩ := ih (by omega)
    refine ⟨fun b => ?_, fun t b d ht => ?_⟩
    · show stOf (step n (trips s n)) b = _
      rw [next_state _ _ _ (by omega), trips_wOf, trips_xOf, ihs]; rfl
    · show b123 n (trips s n) (ix3 t b d) = _
      rw [b123_at _ _ (by omega)]
      by_cases h : t.val = n
      · rw [if_pos h, out_row _ _ _ (by omega), trips_wOf, trips_xOf, ihs, h]; rfl
      · rw [if_neg h]; exact iho t b d (by omega)

/-- The array both programs compute. -/
def result (W : Weights) (x : S2048x16384.Idx → EReal) : S2048x16384.Idx → EReal :=
  fun i => outAt W (inputRow x ⟨(i 1).val / 1024, by have := (i 1).isLt; exact Nat.div_lt_of_lt_mul this⟩) (i 0).val ⟨(i 1).val % 1024, by omega⟩

section Init

variable (x : S2048x16384.Idx → EReal) (win : S1024x2048.Idx → EReal) (abr abi bbr bbi : S1024x64.Idx → EReal) (cr ci : S64x16x64.Idx → EReal)
    (d : S1024.Idx → EReal) (wg : S1024x1024.Idx → EReal) (bg : S1024.Idx → EReal) (wo : S1024x1024.Idx → EReal) (g b : S1024.Idx → EReal)

theorem init_ar (gr p : Fin 64) : A_main_v2 (F := Ideal) x abr abi bbr bbi (ix2 gr p) = abr (ix2 (chan gr 0) p) := by
  unfold A_main_v2 A_main_v1 A_main_v0
  pointwise
  rfl

theorem init_ai (gr p : Fin 64) : A_main_v5 (F := Ideal) x abr abi bbr bbi (ix2 gr p) = abi (ix2 (chan gr 0) p) := by
  unfold A_main_v5 A_main_v4 A_main_v3
  pointwise
  rfl

theorem init_br (gr : Fin 64) (h : Fin 16) (p : Fin 64) : A_main_v6 (F := Ideal) x abr abi bbr bbi (ix3 gr h p) = bbr (ix2 (chan gr h) p) := by
  unfold A_main_v6
  pointwise
  rfl

theorem init_bi (gr : Fin 64) (h : Fin 16) (p : Fin 64) : A_main_v7 (F := Ideal) x abr abi bbr bbi (ix3 gr h p) = bbi (ix2 (chan gr h) p) := by
  unfold A_main_v7
  pointwise
  rfl

theorem init_x (t : Fin 2048) (r : Fin 16) (e : Fin 1024) :
    A_main_v9 (F := Ideal) x abr abi bbr bbi (ix3 t r e) = x (ix2 t ⟨r.val * 1024 + e.val, by omega⟩) := by
  unfold A_main_v9
  pointwise

theorem init_zero (r : Fin 16) (g p : Fin 64) : K_main_v8 (F := Ideal) (ix3 r g p) = 0 := by
  unfold K_main_v8 K_main_cst
  pointwise

theorem init_weights : wOf (init (F := Ideal) win cr ci d wg bg wo g b x abr abi bbr bbi) = weights win abr abi bbr bbi cr ci d wg bg wo g b := by
  unfold wOf weights init
  congr 1
  · exact funext fun gr => funext fun p => init_ar x abr abi bbr bbi gr p
  · exact funext fun gr => funext fun p => init_ai x abr abi bbr bbi gr p
  · exact funext fun gr => funext fun h => funext fun p => init_br x abr abi bbr bbi gr h p
  · exact funext fun gr => funext fun h => funext fun p => init_bi x abr abi bbr bbi gr h p

theorem init_input (r : Fin 16) : xOf (init (F := Ideal) win cr ci d wg bg wo g b x abr abi bbr bbi) r = inputRow x r := by
  funext n e
  unfold xOf inputRow init
  split
  · exact init_x x abr abi bbr bbi _ r e
  · rfl

theorem init_state (r : Fin 16) : stOf (init (F := Ideal) win cr ci d wg bg wo g b x abr abi bbr bbi) r = (fun _ _ => 0, fun _ _ => 0) :=
  Prod.ext (funext fun g => funext fun p => init_zero r g p) (funext fun g => funext fun p => init_zero r g p)

/-- What the reference returns is the specification's array. -/
theorem reference_result :
    R_main_v12 (trips (init (F := Ideal) win cr ci d wg bg wo g b x abr abi bbr bbi) 2048)
      = result (weights win abr abi bbr bbi cr ci d wg bg wo g b) x := by
  have h := (trips_at _ (init_state x win abr abi bbr bbi cr ci d wg bg wo g b) 2048 le_rfl).2
  simp only [init_weights, init_input] at h
  funext i
  idx_vars i
  unfold R_main_v12
  pointwise
  rw [h _ _ _ (by omega)]
  rfl

end Init

end Cert.Proof

end
-- ==== Proof.HostPrep.lean ====
module

public import proofs.«01_k».proof.Proof.RefValue
public import proofs.«01_k».proof.Proof.Gen.KernelIdeal.Frame
public import Idealize.ShloMosaic.Lib.StableHlo.ReadAt
public import Idealize.ShloMosaic.Lib.Pointwise
public import Idealize.ShloMosaic.Lib.Pipeline.ValueKit

/-! # The arrays the kernel's program hands to the kernel, entry by entry

The lines before the kernel lay the input and output maps out as block diagonal matrices and put the transition's real and
imaginary parts side by side; here each entry of what the kernel's windows show is read off the arguments. -/

@[expose] public section

noncomputable section

namespace Cert.Proof

open Idealize.ShloMosaic Idealize.ShloMosaic.TcCoe Cert.KernelIdeal Cert.KernelIdeal.Gen Idealize.SL.Sem

variable (m : (ℓ : Loc nD τ sig) → Buf (Elt Ideal) ℓ) (c : Dev nD)

/-- The weights of the specification, from the program's arguments. -/
def argWeights : Weights :=
  weights (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- The input array. -/
def argInput : S2048x16384.Idx → EReal := m ((c : Thread nD τ).loc main_arg0)

/-- Where the identity matrix has its ones. -/
theorem eye_bit : ∀ a b : Fin 16, IntOp.cmpi CmpIPredicate.eq (IntOp.addi (BitVec.ofNat 32 a.val) 0#32) (BitVec.ofNat 32 b.val)
    = if a.val = b.val then 1#1 else 0#1 := by
  decide

/-- An entry of the identity matrix. -/
theorem eye_at (a b : ℕ) (ha : a < 16) (hb : b < 16) : FloatOps.uitofp (F := Ideal) FTy.f32
    (IntOp.cmpi CmpIPredicate.eq (IntOp.addi (BitVec.ofNat 32 a) 0#32) (BitVec.ofNat 32 b)) = if a = b then (1 : EReal) else 0 := by
  rw [eye_bit ⟨a, ha⟩ ⟨b, hb⟩]
  dsimp only
  split
  · show (((1#1).toNat : ℝ) : EReal) = 1
    simp
  · show (((0#1).toNat : ℝ) : EReal) = 0
    simp

/-- A number times an entry of the identity matrix. -/
theorem masked (x y : EReal) (a b : ℕ) (ha : a < 16) (hb : b < 16) (h : x = y) : x * FloatOps.uitofp (F := Ideal) FTy.f32
    (IntOp.cmpi CmpIPredicate.eq (IntOp.addi (BitVec.ofNat 32 a) 0#32) (BitVec.ofNat 32 b)) = if a = b then y else 0 := by
  rw [eye_at a b ha hb, h]
  split
  · exact mul_one y
  · exact mul_zero y

/-- Its negation. -/
theorem neg_masked (x y : EReal) (a b : ℕ) (ha : a < 16) (hb : b < 16) (h : x = y) : -(x * FloatOps.uitofp (F := Ideal) FTy.f32
    (IntOp.cmpi CmpIPredicate.eq (IntOp.addi (BitVec.ofNat 32 a) 0#32) (BitVec.ofNat 32 b))) = if a = b then -y else 0 := by
  rw [masked x y a b ha hb h]
  split
  · rfl
  · exact neg_zero

/-! ## The host's arrays -/

/-- The input map's real part, block diagonal. -/
theorem host_bdR (s : Fin 4) (k : Fin 256) (n : Fin 1024) : V m c main_v21 (ix3 s k ⟨n.val, by omega⟩) = if k.val / 16 = n.val / 64 then
    (argWeights m c).br ⟨16 * s.val + k.val / 16, by omega⟩ ⟨k.val % 16, by omega⟩ ⟨n.val % 64, by omega⟩ else (0 : EReal) := by
  unfold V
  after_reads_at
  after_reads_at
  refine masked _ _ (k.val / 16) (n.val / 64) (by omega) (by omega) ?_
  refine congrArg (m ((c : Thread nD τ).loc main_arg4)) (congrArg₂ ix2 (Fin.ext ?_) rfl)
  show s.val * 256 + k.val / 16 * 16 + k.val % 16 = (16 * s.val + k.val / 16) * 16 + k.val % 16
  omega

/-- The input map's imaginary part, block diagonal. -/
theorem host_bdI (s : Fin 4) (k : Fin 256) (n : Fin 1024) : V m c main_v21 (ix3 s k ⟨1024 + n.val, by omega⟩) = if k.val / 16 = n.val / 64 then
    (argWeights m c).bi ⟨16 * s.val + k.val / 16, by omega⟩ ⟨k.val % 16, by omega⟩ ⟨n.val % 64, by omega⟩ else (0 : EReal) := by
  unfold V
  after_reads_at
  after_reads_at
  refine masked _ _ (k.val / 16) (n.val / 64) (by omega) (by omega) ?_
  refine congrArg (m ((c : Thread nD τ).loc main_arg5)) (congrArg₂ ix2 (Fin.ext ?_) rfl)
  show s.val * 256 + k.val / 16 * 16 + k.val % 16 = (16 * s.val + k.val / 16) * 16 + k.val % 16
  omega

/-- The output map's real part, block diagonal. -/
theorem host_cdR (s : Fin 4) (n : Fin 1024) (k : Fin 256) : V m c main_v40 (ix3 s ⟨n.val, by omega⟩ k) = if n.val / 64 = k.val / 16 then
    (argWeights m c).cr ⟨16 * s.val + k.val / 16, by omega⟩ ⟨k.val % 16, by omega⟩ ⟨n.val % 64, by omega⟩ else (0 : EReal) := by
  unfold V
  after_reads_at
  after_reads_at
  refine masked _ _ (n.val / 64) (k.val / 16) (by omega) (by omega) ?_
  refine congrArg (m ((c : Thread nD τ).loc main_arg6)) (congrArg (ix3 · _ _) (Fin.ext ?_))
  show s.val * 16 + k.val / 16 = 16 * s.val + k.val / 16
  omega

/-- The output map's imaginary part, block diagonal. -/
theorem host_cdI (s : Fin 4) (n : Fin 1024) (k : Fin 256) : V m c main_v40 (ix3 s ⟨1024 + n.val, by omega⟩ k) = if n.val / 64 = k.val / 16 then
    -(argWeights m c).ci ⟨16 * s.val + k.val / 16, by omega⟩ ⟨k.val % 16, by omega⟩ ⟨n.val % 64, by omega⟩ else (0 : EReal) := by
  unfold V
  after_reads_at
  after_reads_at
  refine neg_masked _ _ (n.val / 64) (k.val / 16) (by omega) (by omega) ?_
  refine congrArg (m ((c : Thread nD τ).loc main_arg7)) (congrArg (ix3 · _ _) (Fin.ext ?_))
  show s.val * 16 + k.val / 16 = 16 * s.val + k.val / 16
  omega

/-- The transition's real part, one entry for each state. -/
theorem host_lamR (s : Fin 4) (n : Fin 1024) : V m c main_v47 (ix3 s 0 n)
    = (argWeights m c).ar ⟨16 * s.val + n.val / 64, by omega⟩ ⟨n.val % 64, by omega⟩ := by
  unfold V
  after_reads_at
  refine congrArg (m ((c : Thread nD τ).loc main_arg2)) (congrArg₂ ix2 (Fin.ext ?_) rfl)
  show 16 * (s.val * 16 + n.val / 64) = (16 * s.val + n.val / 64) * 16 + 0
  omega

/-- The transition's imaginary part, one entry for each state. -/
theorem host_lamI (s : Fin 4) (n : Fin 1024) : V m c main_v47 (ix3 s 1 n)
    = (argWeights m c).ai ⟨16 * s.val + n.val / 64, by omega⟩ ⟨n.val % 64, by omega⟩ := by
  unfold V
  after_reads_at
  refine congrArg (m ((c : Thread nD τ).loc main_arg3)) (congrArg₂ ix2 (Fin.ext ?_) rfl)
  show 16 * (s.val * 16 + n.val / 64) = (16 * s.val + n.val / 64) * 16 + 0
  omega

/-- The first weight matrix. -/
theorem host_win (k : Fin 1024) (e : Fin 2048) : V m c main_v48 (ix2 k e) = (argWeights m c).win k e := by
  unfold V
  after_reads_at
  try rfl

/-- The weight matrix of the gated unit. -/
theorem host_wg (k : Fin 1024) (e : Fin 1024) : V m c main_v50 (ix2 k e) = (argWeights m c).wg k e := by
  unfold V
  after_reads_at
  try rfl

/-- The last weight matrix. -/
theorem host_wo (k : Fin 1024) (e : Fin 1024) : V m c main_v52 (ix2 k e) = (argWeights m c).wo k e := by
  unfold V
  after_reads_at
  try rfl

/-- The skip weights, as a row. -/
theorem host_d (e : Fin 1024) : V m c main_v49 (ix2 0 e) = (argWeights m c).d e := by
  unfold V
  after_reads_at
  try rfl

/-- The bias of the gated unit, as a row. -/
theorem host_bg (e : Fin 1024) : V m c main_v51 (ix2 0 e) = (argWeights m c).bg e := by
  unfold V
  after_reads_at
  try rfl

/-- The scale of the normalization, as a row. -/
theorem host_g (e : Fin 1024) : V m c main_v53 (ix2 0 e) = (argWeights m c).g e := by
  unfold V
  after_reads_at
  try rfl

/-- The shift of the normalization, as a row. -/
theorem host_b (e : Fin 1024) : V m c main_v54 (ix2 0 e) = (argWeights m c).b e := by
  unfold V
  after_reads_at
  try rfl

/-! ## The blocks the windows show -/

/-- The input's block at a point: the point's number. -/
theorem idx_x (t : Fin cfg0.N) : win0_0.index t 0 = t.val := by decide +revert

/-- The input's window shows 32 rows of the input. -/
theorem block_x (t : Fin cfg0.N) (r : Fin 32) (n : Fin 16384) :
    iblk m c 0 t (ix2 r n) = argInput m c (ix2 ⟨32 * t.val + r.val, by have h : t.val < 64 := N_0 ▸ t.isLt; omega⟩ n) := by
  refine Eq.trans (b := V m c main_arg0 (ix2 ⟨32 * t.val + r.val, by have h : t.val < 64 := N_0 ▸ t.isLt; omega⟩ n)) ?_
    (congrFun (V_main_arg0 m c) _)
  blk_ext [iblk]
  · have h : win0_0.index t 0 = t.val := idx_x t
    rw [h]
    omega
  · show 0 * 16384 + n.val = n.val
    omega

/-- A place in a block that starts its array. -/
theorem at_start (b n : ℕ) : 0 * b + 1 * n = n := by omega

/-! Every other window shows its whole array at every point. -/

theorem block_1 (t : Fin cfg0.N) (i : S1024x2048.Idx) : iblk m c 1 t i = V m c main_v48 i := by
  refine congrArg (V m c main_v48) (funext fun a => Fin.ext ?_)
  fin_cases a <;> exact at_start _ _

theorem block_2 (t : Fin cfg0.N) (i : S4x256x2048.Idx) : iblk m c 2 t i = V m c main_v21 i := by
  refine congrArg (V m c main_v21) (funext fun a => Fin.ext ?_)
  fin_cases a <;> exact at_start _ _

theorem block_3 (t : Fin cfg0.N) (i : S4x2x1024.Idx) : iblk m c 3 t i = V m c main_v47 i := by
  refine congrArg (V m c main_v47) (funext fun a => Fin.ext ?_)
  fin_cases a <;> exact at_start _ _

theorem block_4 (t : Fin cfg0.N) (i : S4x2048x256.Idx) : iblk m c 4 t i = V m c main_v40 i := by
  refine congrArg (V m c main_v40) (funext fun a => Fin.ext ?_)
  fin_cases a <;> exact at_start _ _

theorem block_5 (t : Fin cfg0.N) (i : S1x1024.Idx) : iblk m c 5 t i = V m c main_v49 i := by
  refine congrArg (V m c main_v49) (funext fun a => Fin.ext ?_)
  fin_cases a <;> exact at_start _ _

theorem block_6 (t : Fin cfg0.N) (i : S1024x1024.Idx) : iblk m c 6 t i = V m c main_v50 i := by
  refine congrArg (V m c main_v50) (funext fun a => Fin.ext ?_)
  fin_cases a <;> exact at_start _ _

theorem block_7 (t : Fin cfg0.N) (i : S1x1024.Idx) : iblk m c 7 t i = V m c main_v51 i := by
  refine congrArg (V m c main_v51) (funext fun a => Fin.ext ?_)
  fin_cases a <;> exact at_start _ _

theorem block_8 (t : Fin cfg0.N) (i : S1024x1024.Idx) : iblk m c 8 t i = V m c main_v52 i := by
  refine congrArg (V m c main_v52) (funext fun a => Fin.ext ?_)
  fin_cases a <;> exact at_start _ _

theorem block_9 (t : Fin cfg0.N) (i : S1x1024.Idx) : iblk m c 9 t i = V m c main_v53 i := by
  refine congrArg (V m c main_v53) (funext fun a => Fin.ext ?_)
  fin_cases a <;> exact at_start _ _

theorem block_10 (t : Fin cfg0.N) (i : S1x1024.Idx) : iblk m c 10 t i = V m c main_v54 i := by
  refine congrArg (V m c main_v54) (funext fun a => Fin.ext ?_)
  fin_cases a <;> exact at_start _ _
-- ==== Proof.TileIn.lean ====
module

public import proofs.«01_k».proof.Proof.Tile
public import proofs.«01_k».proof.Proof.Spec

@[expose] public section

set_option maxRecDepth 16384
noncomputable section

namespace Cert.Proof

open Idealize.ShloMosaic Cert.KernelIdeal Cert.KernelIdeal.Gen

/-! # The tile's input projection and recurrence, at an index -/

/-- A tile reads the layer's weights, the inputs `X t b` of its 32 time steps and the states `H b` its batch rows start in. -/
structure Fits (E : Reads Ideal) (W : Weights) (X : ℕ → Fin 16 → Fin 1024 → EReal) (H : Fin 16 → St) : Prop where
  x : ∀ (h k : ℕ) (b : Fin 16) (r : Fin 16) (l : Fin 128) (_ : h < 2) (hk : k < 8),
    E.x h b.val k (ix2 r l) = X (16 * h + r.val) b ⟨128 * k + l.val, by omega⟩
  win : ∀ (k : Fin 1024) (e : Fin 2048), E.win (ix2 k e) = W.win k e
  bdR : ∀ (s : ℕ) (hs : s < 4) (c : Fin 256) (n : Fin 1024), E.bd s (ix3 0 c ⟨n.val, by omega⟩)
    = if c.val / 16 = n.val / 64 then W.br ⟨16 * s + c.val / 16, by omega⟩ ⟨c.val % 16, by omega⟩ ⟨n.val % 64, by omega⟩ else 0
  bdI : ∀ (s : ℕ) (hs : s < 4) (c : Fin 256) (n : Fin 1024), E.bd s (ix3 0 c ⟨1024 + n.val, by omega⟩)
    = if c.val / 16 = n.val / 64 then W.bi ⟨16 * s + c.val / 16, by omega⟩ ⟨c.val % 16, by omega⟩ ⟨n.val % 64, by omega⟩ else 0
  lamR : ∀ (s : ℕ) (hs : s < 4) (n : Fin 1024), E.lam s 0 (ix3 0 0 n) = W.ar ⟨16 * s + n.val / 64, by omega⟩ ⟨n.val % 64, by omega⟩
  lamI : ∀ (s : ℕ) (hs : s < 4) (n : Fin 1024), E.lam s 1 (ix3 0 0 n) = W.ai ⟨16 * s + n.val / 64, by omega⟩ ⟨n.val % 64, by omega⟩
  cdR : ∀ (s : ℕ) (hs : s < 4) (n : Fin 1024) (c : Fin 256), E.cd s (ix3 0 ⟨n.val, by omega⟩ c)
    = if n.val / 64 = c.val / 16 then W.cr ⟨16 * s + c.val / 16, by omega⟩ ⟨c.val % 16, by omega⟩ ⟨n.val % 64, by omega⟩ else 0
  cdI : ∀ (s : ℕ) (hs : s < 4) (n : Fin 1024) (c : Fin 256), E.cd s (ix3 0 ⟨1024 + n.val, by omega⟩ c)
    = if n.val / 64 = c.val / 16 then -W.ci ⟨16 * s + c.val / 16, by omega⟩ ⟨c.val % 16, by omega⟩ ⟨n.val % 64, by omega⟩ else 0
  d : ∀ e : Fin 1024, E.d (ix2 0 e) = W.d e
  wg : ∀ k e : Fin 1024, E.wg (ix2 k e) = W.wg k e
  bg : ∀ e : Fin 1024, E.bg (ix2 0 e) = W.bg e
  wo : ∀ k e : Fin 1024, E.wo (ix2 k e) = W.wo k e
  g : ∀ e : Fin 1024, E.g (ix2 0 e) = W.g e
  b : ∀ e : Fin 1024, E.b (ix2 0 e) = W.b e
  hR : ∀ (s : ℕ) (hs : s < 4) (b : Fin 16) (n : Fin 1024), E.h0 s 0 (ix4 0 0 b n)
    = (H b).1 ⟨16 * s + n.val / 64, by omega⟩ ⟨n.val % 64, by omega⟩
  hI : ∀ (s : ℕ) (hs : s < 4) (b : Fin 16) (n : Fin 1024), E.h0 s 1 (ix4 0 0 b n)
    = (H b).2 ⟨16 * s + n.val / 64, by omega⟩ ⟨n.val % 64, by omega⟩

variable {E : Reads Ideal} {W : Weights} {X : ℕ → Fin 16 → Fin 1024 → EReal} {H : Fin 16 → St} (fits : Fits E W X H)
include fits

/-- The block of the transposed tile the kernel reads back holds the inputs, one row per time step and batch row. -/
theorem xBlock_at (h k : ℕ) (hh : h < 2) (hk : k < 8) (r : Fin 256) (l : Fin 128) :
    xBlock E h k (ix3 0 r l) = X (16 * h + r.val / 16) ⟨r.val % 16, by omega⟩ ⟨128 * k + l.val, by omega⟩ := by
  have hb := fits.x h k ⟨r.val % 16, by omega⟩ ⟨r.val / 16, by omega⟩ l hh hk
  unfold xBlock
  rw [View.readCov_eq_canon']
  refine (canon_stack (k := h * 128 + (r.val % 16) * 8 + k) [] (xPiece E) (by omega) (ix3 0 ⟨r.val / 16, by omega⟩ l) _ ?_ ?_).trans ?_
  · funext a
    refine Fin.ext ?_
    fin_cases a
    · show (h * 128 + r.val % 16 * 8 + k) % 8 + 1 * 0 = k % 8 + 1 * 0
      omega
    · show 256 * ((h * 128 + r.val % 16 * 8 + k) / 128 % 2) + (h * 128 + r.val % 16 * 8 + k) / 8 % 16 + 16 * (r.val / 16)
        = 256 * (h % 2) + 1 * r.val
      omega
    · rfl
  · intro q hq hq'
    by_cases hc : q % 8 = k
    · refine not_mem_set 1 fun j => ?_
      show 256 * (h % 2) + 1 * r.val ≠ 256 * (q / 128 % 2) + q / 8 % 16 + 16 * j.val
      omega
    · refine not_mem_set 0 fun j => ?_
      have hj : j.val < 1 := j.isLt
      show k % 8 + 1 * 0 ≠ q % 8 + 1 * j.val
      omega
  · have e1 : (h * 128 + r.val % 16 * 8 + k) / 128 % 2 = h := by omega
    have e2 : (h * 128 + r.val % 16 * 8 + k) / 8 % 16 = r.val % 16 := by omega
    have e3 : (h * 128 + r.val % 16 * 8 + k) % 8 = k := by omega
    refine Eq.trans ?_ hb
    unfold xPiece
    dsimp only
    rw [e1, e2, e3]
    pointwise

theorem xCols_at (h k : ℕ) (hh : h < 2) (hk : k < 8) (r : Fin 256) (l : Fin 128) :
    xCols E h k (ix2 r l) = X (16 * h + r.val / 16) ⟨r.val % 16, by omega⟩ ⟨128 * k + l.val, by omega⟩ := by
  refine Eq.trans ?_ (xBlock_at fits h k hh hk r l)
  unfold xCols
  pointwise

theorem xCols_as {h k t : ℕ} {r : Fin 256} {l : Fin 128} {b : Fin 16} {d : Fin 1024} (hh : h < 2) (hk : k < 8)
    (ht : 16 * h + r.val / 16 = t) (hb : r.val % 16 = b.val) (hd : 128 * k + l.val = d.val) : xCols E h k (ix2 r l) = X t b d := by
  have e1 : (⟨r.val % 16, by omega⟩ : Fin 16) = b := Fin.ext hb
  have e2 : (⟨128 * k + l.val, by omega⟩ : Fin 1024) = d := Fin.ext hd
  exact (xCols_at fits h k hh hk r l).trans (by rw [ht, e1, e2])

theorem xBlock_as {h k t : ℕ} {r : Fin 256} {l : Fin 128} {b : Fin 16} {d : Fin 1024} (hh : h < 2) (hk : k < 8)
    (ht : 16 * h + r.val / 16 = t) (hb : r.val % 16 = b.val) (hd : 128 * k + l.val = d.val) : xBlock E h k (ix3 0 r l) = X t b d := by
  have e1 : (⟨r.val % 16, by omega⟩ : Fin 16) = b := Fin.ext hb
  have e2 : (⟨128 * k + l.val, by omega⟩ : Fin 1024) = d := Fin.ext hd
  exact (xBlock_at fits h k hh hk r l).trans (by rw [ht, e1, e2])

attribute [local irreducible] xCols xBlock

/-- The first half's rows, side by side again. -/
theorem xRows0_at (r : Fin 256) (d : Fin 1024) : xRows0 E (ix2 r d) = X (r.val / 16) ⟨r.val % 16, by omega⟩ d := by
  unfold xRows0 k0_pay136
  pointwise
  iterate 6
    split
    · exact xCols_as (h := 0) fits (by omega) (by omega) (by omega) rfl (by dsimp only; omega)
  iterate 1
    split
    · exact xBlock_as (h := 0) fits (by omega) (by omega) (by omega) rfl (by dsimp only; omega)
  exact xBlock_as (h := 0) fits (by omega) (by omega) (by omega) rfl (by dsimp only; omega)

/-- The second half's rows. -/
theorem xRows1_at (r : Fin 256) (d : Fin 1024) : xRows1 E (ix2 r d) = X (16 + r.val / 16) ⟨r.val % 16, by omega⟩ d := by
  unfold xRows1 k0_pay271
  pointwise
  iterate 5
    split
    · exact xCols_as (h := 1) fits (by omega) (by omega) (by omega) rfl (by dsimp only; omega)
  iterate 2
    split
    · exact xBlock_as (h := 1) fits (by omega) (by omega) (by omega) rfl (by dsimp only; omega)
  exact xBlock_as (h := 1) fits (by omega) (by omega) (by omega) rfl (by dsimp only; omega)

theorem proj0_at (r : Fin 256) (e : Fin 2048) :
    proj0 E (ix2 r e) = ∑ k, X (r.val / 16) ⟨r.val % 16, by omega⟩ k * W.win k e := by
  unfold proj0 k0_pay137
  pointwise
  exact Finset.sum_congr rfl fun k _ => congrArg₂ (· * ·) (xRows0_at fits r k) (fits.win k e)

theorem proj_at (r : Fin 512) (e : Fin 2048) :
    k0_pay272 (proj0 E) (xCols E 1 0) (xCols E 1 1) (xCols E 1 2) (xCols E 1 3) (xCols E 1 4) (xBlock E 1 5) (xBlock E 1 6)
      (xBlock E 1 7) E.win (ix2 r e) = ∑ k, X (r.val / 16) ⟨r.val % 16, by omega⟩ k * W.win k e := by
  unfold k0_pay272
  pointwise
  split
  · rename_i h
    exact proj0_at fits ⟨r.val, h⟩ e
  · refine Finset.sum_congr rfl fun k _ => congrArg₂ (· * ·) ((xRows1_at fits ⟨r.val - 256, by omega⟩ k).trans ?_) (fits.win k e)
    have e1 : 16 + (r.val - 256) / 16 = r.val / 16 := by omega
    have e2 : (⟨(r.val - 256) % 16, by omega⟩ : Fin 16) = ⟨r.val % 16, by omega⟩ := Fin.ext (by dsimp only; omega)
    dsimp only
    rw [e1, e2]

/-- The channels that drive the recurrence, at row `r`: time step `r / 16` of batch row `r % 16`. -/
theorem uTile_at (r : Fin 512) (e : Fin 1024) : uTile E (ix2 r e) = uRow W (X (r.val / 16) ⟨r.val % 16, by omega⟩) e := by
  unfold uTile k0_pay273
  pointwise
  exact proj_at fits r ⟨e.val, by omega⟩

/-- The channels that gate its result. -/
theorem gateTile_at (r : Fin 512) (e : Fin 1024) : gateTile E (ix2 r e) = gateRow W (X (r.val / 16) ⟨r.val % 16, by omega⟩) e := by
  unfold gateTile k0_pay274
  pointwise
  exact proj_at fits r ⟨1024 + e.val, by omega⟩

omit fits in
/-- A sum over the 256 channels of a slab with only one group's terms is that group's sum. -/
theorem sum_group (g : Fin 16) (β : Fin 256 → EReal) (u : Fin 256 → EReal) :
    ∑ c, u c * (if c.val / 16 = g.val then β c else 0)
      = ∑ h : Fin 16, β ⟨g.val * 16 + h.val, by omega⟩ * u ⟨g.val * 16 + h.val, by omega⟩ := by
  rw [← (finProdFinEquiv (m := 16) (n := 16)).sum_comp, Fintype.sum_prod_type, Finset.sum_eq_single g]
  · refine Finset.sum_congr rfl fun h _ => ?_
    have e1 : (finProdFinEquiv (g, h) : Fin 256) = ⟨g.val * 16 + h.val, by omega⟩ := Fin.ext (by simp [finProdFinEquiv]; omega)
    rw [e1, if_pos (by dsimp only; omega), mul_comm]
  · intro g' _ hg
    refine Finset.sum_eq_zero fun h _ => ?_
    have hne : g'.val ≠ g.val := fun e => hg (Fin.ext e)
    rw [if_neg (by simp [finProdFinEquiv]; omega), mul_zero]
  · intro h
    exact absurd (Finset.mem_univ g) h

/-- What drives slab `s`'s states, real columns. -/
theorem buTile_re (s : ℕ) (hs : s < 4) (r : Fin 512) (n : Fin 1024) : buTile E s (ix2 r ⟨n.val, by omega⟩)
    = inR W (uRow W (X (r.val / 16) ⟨r.val % 16, by omega⟩)) ⟨16 * s + n.val / 64, by omega⟩ ⟨n.val % 64, by omega⟩ := by
  unfold buTile
  pointwise
  refine Eq.trans (Finset.sum_congr rfl fun c _ => congrArg₂ (· * ·) (uTile_at fits r _) (fits.bdR s hs c n)) ?_
  refine (sum_group ⟨n.val / 64, by omega⟩ (fun c => W.br ⟨16 * s + c.val / 16, by omega⟩ ⟨c.val % 16, by omega⟩ ⟨n.val % 64, by omega⟩)
    (fun c => uRow W (X (r.val / 16) ⟨r.val % 16, by omega⟩) ⟨256 * (s % 4) + c.val, by omega⟩)).trans ?_
  refine Finset.sum_congr rfl fun h _ => congrArg₂ (· * ·) ?_ (congrArg _ (Fin.ext ?_))
  · have e1 : (⟨16 * s + (n.val / 64 * 16 + h.val) / 16, by omega⟩ : Fin 64) = ⟨16 * s + n.val / 64, by omega⟩ :=
      Fin.ext (by dsimp only; omega)
    have e2 : (⟨(n.val / 64 * 16 + h.val) % 16, by omega⟩ : Fin 16) = h := Fin.ext (by dsimp only; omega)
    dsimp only
    rw [e1, e2]
  · show 256 * (s % 4) + (n.val / 64 * 16 + h.val) = (16 * s + n.val / 64) * 16 + h.val
    omega

/-- What drives slab `s`'s states, imaginary columns. -/
theorem buTile_im (s : ℕ) (hs : s < 4) (r : Fin 512) (n : Fin 1024) : buTile E s (ix2 r ⟨1024 + n.val, by omega⟩)
    = inI W (uRow W (X (r.val / 16) ⟨r.val % 16, by omega⟩)) ⟨16 * s + n.val / 64, by omega⟩ ⟨n.val % 64, by omega⟩ := by
  unfold buTile
  pointwise
  refine Eq.trans (Finset.sum_congr rfl fun c _ => congrArg₂ (· * ·) (uTile_at fits r _) (fits.bdI s hs c n)) ?_
  refine (sum_group ⟨n.val / 64, by omega⟩ (fun c => W.bi ⟨16 * s + c.val / 16, by omega⟩ ⟨c.val % 16, by omega⟩ ⟨n.val % 64, by omega⟩)
    (fun c => uRow W (X (r.val / 16) ⟨r.val % 16, by omega⟩) ⟨256 * (s % 4) + c.val, by omega⟩)).trans ?_
  refine Finset.sum_congr rfl fun h _ => congrArg₂ (· * ·) ?_ (congrArg _ (Fin.ext ?_))
  · have e1 : (⟨16 * s + (n.val / 64 * 16 + h.val) / 16, by omega⟩ : Fin 64) = ⟨16 * s + n.val / 64, by omega⟩ :=
      Fin.ext (by dsimp only; omega)
    have e2 : (⟨(n.val / 64 * 16 + h.val) % 16, by omega⟩ : Fin 16) = h := Fin.ext (by dsimp only; omega)
    dsimp only
    rw [e1, e2]
  · show 256 * (s % 4) + (n.val / 64 * 16 + h.val) = (16 * s + n.val / 64) * 16 + h.val
    omega

omit fits in
/-- The memory of inputs holds, after slab `s`'s write, slab `s`'s. -/
theorem drive_eq (s t k : ℕ) (ht : t < 32) (hk : k < 2) (b : Fin 16) (n : Fin 1024) : drive E s t k (ix2 b n)
    = buTile E s (ix2 ⟨16 * t + b.val, by omega⟩ ⟨1024 * k + n.val, by omega⟩) := by
  unfold drive
  rw [View.readCov_eq_canon']
  refine (canon_stack (k := s) [] (buPiece E) (by omega) (ix2 ⟨16 * t + b.val, by omega⟩ ⟨1024 * k + n.val, by omega⟩) _ ?_ ?_).trans ?_
  · funext a
    refine Fin.ext ?_
    fin_cases a
    · show 0 + 1 * (16 * t + b.val) = 16 * (t % 32) + 1 * b.val
      omega
    · show 0 + 1 * (1024 * k + n.val) = 1024 * (k % 2) + 1 * n.val
      omega
  · omega
  · unfold buPiece
    dsimp only
    pointwise

theorem drive_re (s t : ℕ) (hs : s < 4) (ht : t < 32) (b : Fin 16) (n : Fin 1024) : drive E s t 0 (ix2 b n)
    = inR W (uRow W (X t b)) ⟨16 * s + n.val / 64, by omega⟩ ⟨n.val % 64, by omega⟩ := by
  have e0 : (⟨1024 * 0 + n.val, by omega⟩ : Fin 2048) = ⟨n.val, by omega⟩ := Fin.ext (by dsimp only; omega)
  have e1 : (16 * t + b.val) / 16 = t := by omega
  have e2 : (⟨(16 * t + b.val) % 16, by omega⟩ : Fin 16) = b := Fin.ext (by dsimp only; omega)
  refine (drive_eq s t 0 ht (by omega) b n).trans ?_
  rw [e0, buTile_re fits s hs]
  dsimp only
  rw [e1, e2]

theorem drive_im (s t : ℕ) (hs : s < 4) (ht : t < 32) (b : Fin 16) (n : Fin 1024) : drive E s t 1 (ix2 b n)
    = inI W (uRow W (X t b)) ⟨16 * s + n.val / 64, by omega⟩ ⟨n.val % 64, by omega⟩ := by
  have e0 : (⟨1024 * 1 + n.val, by omega⟩ : Fin 2048) = ⟨1024 + n.val, by omega⟩ := rfl
  have e1 : (16 * t + b.val) / 16 = t := by omega
  have e2 : (⟨(16 * t + b.val) % 16, by omega⟩ : Fin 16) = b := Fin.ext (by dsimp only; omega)
  refine (drive_eq s t 1 ht (by omega) b n).trans ?_
  rw [e0, buTile_im fits s hs]
  dsimp only
  rw [e1, e2]

end Cert.Proof

end
-- ==== Proof.TileFits.lean ====
module

public import proofs.«01_k».proof.Proof.HostPrep
public import proofs.«01_k».proof.Proof.TileIn
public import proofs.«01_k».proof.Proof.TileReads
public import Idealize.ShloMosaic.Lib.WholeRead

/-! # What a tile reads at a grid point is the layer's weights and that tile's inputs -/

@[expose] public section

set_option maxRecDepth 16384
noncomputable section

namespace Cert.Proof

open Idealize.ShloMosaic Idealize.ShloMosaic.TcCoe Cert.KernelIdeal Cert.KernelIdeal.Gen Idealize.SL.Sem

variable (m : (ℓ : Loc nD τ sig) → Buf (Elt Ideal) ℓ) (c : Dev nD) (t : Fin cfg0.N)
    (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg14 : Memref sig .tc .vmem S512x2048 .f32) (arg15 : Memref sig .tc .vmem S512x2048 .bf16)
    (arg16 : Memref sig .tc .vmem S512x1024 .f32) (arg17 : Memref sig .tc .vmem S8x512x128 .f32)
    (arg18 : Memref sig .tc .vmem S8x512x128 .f32)
    (h0 : ℕ → ℕ → Vec Ideal S1x1x16x1024 .f32)

theorem at_zero (n : ℕ) : 0 + 1 * n = n := by omega

/-- The inputs of the tile at point `n`: time `32 n + t`, batch row by batch row. -/
def tileInput (n : ℕ) (t : ℕ) (b : Fin 16) (d : Fin 1024) : EReal := inputRow (argInput m c) b (32 * n + t) d

set_option maxHeartbeats 4000000 in
/-- Where the tile at a point reads its blocks, it reads the weights and its inputs; the states are those it is handed. -/
theorem tile_fits (H : Fin 16 → St)
    (hR : ∀ (s : ℕ) (_ : s < 4) (b : Fin 16) (n : Fin 1024), h0 s 0 (ix4 0 0 b n) = (H b).1 ⟨16 * s + n.val / 64, by omega⟩ ⟨n.val % 64, by omega⟩)
    (hI : ∀ (s : ℕ) (_ : s < 4) (b : Fin 16) (n : Fin 1024), h0 s 1 (ix4 0 0 b n) = (H b).2 ⟨16 * s + n.val / 64, by omega⟩ ⟨n.val % 64, by omega⟩) :
    Fits (tileReads arg1 harg1 arg2 harg2 arg3 harg3 arg4 harg4 arg5 harg5 arg6 harg6 arg7 harg7 arg8 harg8 arg9 harg9 arg10 harg10 arg11 harg11 arg14 arg15 arg16 arg17 arg18 (iblk m c 0 t) (iblk m c 1 t) (iblk m c 2 t) (iblk m c 3 t) (iblk m c 4 t) (iblk m c 5 t) (iblk m c 6 t) (iblk m c 7 t) (iblk m c 8 t) (iblk m c 9 t) (iblk m c 10 t) h0)
      (argWeights m c) (tileInput m c t.val) H where
  x h k b r l hh hk := by
    refine (harg1.readAt_unread (iblk m c 0 t) (xBox h b.val k).toLoadRect (ix2 r l)).trans ?_
    have ht : t.val < 64 := N_0 ▸ t.isLt
    have e : (xBox h b.val k).toLoadRect.idx (ix2 r l) = ix2 ⟨16 * h + r.val, by omega⟩ ⟨b.val * 1024 + (128 * k + l.val), by omega⟩ := by
      funext a
      refine Fin.ext ?_
      fin_cases a
      · show 16 * (h % 2) + 1 * r.val = 16 * h + r.val
        omega
      · show 1024 * (b.val % 16) + 128 * (k % 8) + 1 * l.val = b.val * 1024 + (128 * k + l.val)
        omega
    rw [e, block_x]
    unfold tileInput inputRow
    rw [dif_pos (by omega)]
  win k e := by
    refine (harg2.readAt_unread (iblk m c 1 t) (Rect.unit ![0, 0] S1024x2048.size inb_S1024x2048_S1024x2048_0_0).toLoadRect (ix2 k e)).trans ((block_1 m c t _).trans ?_)
    refine Eq.trans (congrArg _ (funext fun a => Fin.ext ?_)) (host_win m c k e)
    fin_cases a
    · exact at_zero _
    · exact at_zero _
  bdR s hs k n := by
    refine (harg3.readAt_unread (iblk m c 2 t) (bdBox s).toLoadRect (ix3 0 k ⟨n.val, by omega⟩)).trans ((block_2 m c t _).trans ?_)
    refine Eq.trans (congrArg _ (funext fun a => Fin.ext ?_)) (host_bdR m c ⟨s, hs⟩ k n)
    fin_cases a
    · show s % 4 + 1 * 0 = s
      omega
    · exact at_zero _
    · exact at_zero _
  bdI s hs k n := by
    refine (harg3.readAt_unread (iblk m c 2 t) (bdBox s).toLoadRect (ix3 0 k ⟨1024 + n.val, by omega⟩)).trans ((block_2 m c t _).trans ?_)
    refine Eq.trans (congrArg _ (funext fun a => Fin.ext ?_)) (host_bdI m c ⟨s, hs⟩ k n)
    fin_cases a
    · show s % 4 + 1 * 0 = s
      omega
    · exact at_zero _
    · exact at_zero _
  lamR s hs n := by
    refine (harg4.readAt_unread (iblk m c 3 t) (lamBox s 0).toLoadRect (ix3 0 0 n)).trans ((block_3 m c t _).trans ?_)
    refine Eq.trans (congrArg _ (funext fun a => Fin.ext ?_)) (host_lamR m c ⟨s, hs⟩ n)
    fin_cases a
    · show s % 4 + 1 * 0 = s
      omega
    · rfl
    · exact at_zero _
  lamI s hs n := by
    refine (harg4.readAt_unread (iblk m c 3 t) (lamBox s 1).toLoadRect (ix3 0 0 n)).trans ((block_3 m c t _).trans ?_)
    refine Eq.trans (congrArg _ (funext fun a => Fin.ext ?_)) (host_lamI m c ⟨s, hs⟩ n)
    fin_cases a
    · show s % 4 + 1 * 0 = s
      omega
    · rfl
    · exact at_zero _
  cdR s hs n k := by
    refine (harg5.readAt_unread (iblk m c 4 t) (cdBox s).toLoadRect (ix3 0 ⟨n.val, by omega⟩ k)).trans ((block_4 m c t _).trans ?_)
    refine Eq.trans (congrArg _ (funext fun a => Fin.ext ?_)) (host_cdR m c ⟨s, hs⟩ n k)
    fin_cases a
    · show s % 4 + 1 * 0 = s
      omega
    · exact at_zero _
    · exact at_zero _
  cdI s hs n k := by
    refine (harg5.readAt_unread (iblk m c 4 t) (cdBox s).toLoadRect (ix3 0 ⟨1024 + n.val, by omega⟩ k)).trans ((block_4 m c t _).trans ?_)
    refine Eq.trans (congrArg _ (funext fun a => Fin.ext ?_)) (host_cdI m c ⟨s, hs⟩ n k)
    fin_cases a
    · show s % 4 + 1 * 0 = s
      omega
    · exact at_zero _
    · exact at_zero _
  d e := by
    refine (harg6.readAt_unread (iblk m c 5 t) (Rect.unit ![0, 0] S1x1024.size inb_S1x1024_S1x1024_0_0).toLoadRect (ix2 0 e)).trans ((block_5 m c t _).trans ?_)
    refine Eq.trans (congrArg _ (funext fun a => Fin.ext ?_)) (host_d m c e)
    fin_cases a
    · exact at_zero _
    · exact at_zero _
  wg k e := by
    refine (harg7.readAt_unread (iblk m c 6 t) (Rect.unit ![0, 0] S1024x1024.size inb_S1024x1024_S1024x1024_0_0).toLoadRect (ix2 k e)).trans ((block_6 m c t _).trans ?_)
    refine Eq.trans (congrArg _ (funext fun a => Fin.ext ?_)) (host_wg m c k e)
    fin_cases a
    · exact at_zero _
    · exact at_zero _
  bg e := by
    refine (harg8.readAt_unread (iblk m c 7 t) (Rect.unit ![0, 0] S1x1024.size inb_S1x1024_S1x1024_0_0).toLoadRect (ix2 0 e)).trans ((block_7 m c t _).trans ?_)
    refine Eq.trans (congrArg _ (funext fun a => Fin.ext ?_)) (host_bg m c e)
    fin_cases a
    · exact at_zero _
    · exact at_zero _
  wo k e := by
    refine (harg9.readAt_unread (iblk m c 8 t) (Rect.unit ![0, 0] S1024x1024.size inb_S1024x1024_S1024x1024_0_0).toLoadRect (ix2 k e)).trans ((block_8 m c t _).trans ?_)
    refine Eq.trans (congrArg _ (funext fun a => Fin.ext ?_)) (host_wo m c k e)
    fin_cases a
    · exact at_zero _
    · exact at_zero _
  g e := by
    refine (harg10.readAt_unread (iblk m c 9 t) (Rect.unit ![0, 0] S1x1024.size inb_S1x1024_S1x1024_0_0).toLoadRect (ix2 0 e)).trans ((block_9 m c t _).trans ?_)
    refine Eq.trans (congrArg _ (funext fun a => Fin.ext ?_)) (host_g m c e)
    fin_cases a
    · exact at_zero _
    · exact at_zero _
  b e := by
    refine (harg11.readAt_unread (iblk m c 10 t) (Rect.unit ![0, 0] S1x1024.size inb_S1x1024_S1x1024_0_0).toLoadRect (ix2 0 e)).trans ((block_10 m c t _).trans ?_)
    refine Eq.trans (congrArg _ (funext fun a => Fin.ext ?_)) (host_b m c e)
    fin_cases a
    · exact at_zero _
    · exact at_zero _
  hR := hR
  hI := hI

end Cert.Proof

end
-- ==== Proof.TileState.lean ====
module

public import proofs.«01_k».proof.Proof.TileIn

@[expose] public section

set_option maxRecDepth 16384
noncomputable section

namespace Cert.Proof

open Idealize.ShloMosaic Cert.KernelIdeal Cert.KernelIdeal.Gen

/-! # The tile's states and the recurrence's output, at an index -/

/-- The state after `t` inputs, from the state `h`. -/
def runFrom (W : Weights) (x : ℕ → Fin 1024 → EReal) (h : St) : ℕ → St
  | 0 => h
  | t + 1 => next W (uRow W (x t)) (runFrom W x h t)

/-- Running on from the state after `n` inputs gives the later states. -/
theorem runFrom_stateAt (W : Weights) (x : ℕ → Fin 1024 → EReal) (n t : ℕ) :
    runFrom W (fun t => x (n + t)) (stateAt W x n) t = stateAt W x (n + t) := by
  induction t with
  | zero => rfl
  | succ t ih =>
    show next W (uRow W (x (n + t))) (runFrom W (fun t => x (n + t)) (stateAt W x n) t) = next W (uRow W (x (n + t))) (stateAt W x (n + t))
    rw [ih]

variable {E : Reads Ideal} {W : Weights} {X : ℕ → Fin 16 → Fin 1024 → EReal} {H : Fin 16 → St} (fits : Fits E W X H)

theorem lamRows_at (s k : ℕ) (b : Fin 16) (n : Fin 1024) : lamRows E s k (ix2 b n) = E.lam s k (ix3 0 0 n) := by
  unfold lamRows
  pointwise

include fits

/-- Slab `s`'s state after `t` of the tile's steps is its groups' part of the layer's state. -/
theorem slabState_at (s : ℕ) (hs : s < 4) (b : Fin 16) (n : Fin 1024) (t : ℕ) (ht : t ≤ 32) :
    (slabState E s t).1 (ix2 b n)
        = (runFrom W (fun t => X t b) (H b) t).1 ⟨16 * s + n.val / 64, by omega⟩ ⟨n.val % 64, by omega⟩
      ∧ (slabState E s t).2 (ix2 b n)
        = (runFrom W (fun t => X t b) (H b) t).2 ⟨16 * s + n.val / 64, by omega⟩ ⟨n.val % 64, by omega⟩ := by
  induction t with
  | zero =>
    refine ⟨Eq.trans ?_ (fits.hR s hs b n), Eq.trans ?_ (fits.hI s hs b n)⟩
    · show (shapeCast S16x1024 (E.h0 s 0) shapeCasts_S1x1x16x1024_S16x1024) (ix2 b n) = _
      pointwise
    · show (shapeCast S16x1024 (E.h0 s 1) shapeCasts_S1x1x16x1024_S16x1024) (ix2 b n) = _
      pointwise
  | succ t ih =>
    obtain ⟨h1, h2⟩ := ih (by omega)
    have l1 := (lamRows_at (E := E) s 0 b n).trans (fits.lamR s hs n)
    have l2 := (lamRows_at (E := E) s 1 b n).trans (fits.lamI s hs n)
    have d1 := drive_re fits s t hs (by omega) b n
    have d2 := drive_im fits s t hs (by omega) b n
    refine ⟨?_, ?_⟩
    · show (addf (subf (mulf (lamRows E s 0) (slabState E s t).1) (mulf (lamRows E s 1) (slabState E s t).2)) (drive E s t 0)) (ix2 b n) = _
      pointwise
      rw [l1, l2, d1, h1, h2]
      rfl
    · show (addf (addf (mulf (lamRows E s 0) (slabState E s t).2) (mulf (lamRows E s 1) (slabState E s t).1)) (drive E s t 1)) (ix2 b n) = _
      pointwise
      rw [l1, l2, d2, h1, h2]
      rfl

omit fits in
/-- The memory of states, after slab `s`, holds slab `s`'s state after every step. -/
theorem hTile_eq (s k : ℕ) (hs : s < 4) (hk : k < 2) (r : Fin 512) (n : Fin 1024) : hTile E s (ix2 r ⟨1024 * k + n.val, by omega⟩)
    = statePart E s (r.val / 16 + 1) k (ix2 ⟨r.val % 16, by omega⟩ n) := by
  unfold hTile
  rw [View.readCov_eq_canon']
  refine (canon_stack (k := 64 * s + 2 * (r.val / 16) + k) [] (hPiece E) (by omega) (ix2 ⟨r.val % 16, by omega⟩ n) _ ?_ ?_).trans ?_
  · funext a
    refine Fin.ext ?_
    fin_cases a
    · show 16 * ((64 * s + 2 * (r.val / 16) + k) / 2 % 32 % 32) + 1 * (r.val % 16) = 0 + 1 * r.val
      omega
    · show 1024 * ((64 * s + 2 * (r.val / 16) + k) % 2 % 2) + 1 * n.val = 0 + 1 * (1024 * k + n.val)
      omega
  · intro q hq hq'
    by_cases hc : q / 2 % 32 = r.val / 16
    · refine not_mem_set 1 fun j => ?_
      have hj : j.val < 1024 := j.isLt
      show 0 + 1 * (1024 * k + n.val) ≠ 1024 * (q % 2 % 2) + 1 * j.val
      omega
    · refine not_mem_set 0 fun j => ?_
      have hj : j.val < 16 := j.isLt
      show 0 + 1 * r.val ≠ 16 * (q / 2 % 32 % 32) + 1 * j.val
      omega
  · have e1 : (64 * s + 2 * (r.val / 16) + k) / 64 = s := by omega
    have e2 : (64 * s + 2 * (r.val / 16) + k) / 2 % 32 = r.val / 16 := by omega
    have e3 : (64 * s + 2 * (r.val / 16) + k) % 2 = k := by omega
    unfold hPiece
    dsimp only
    rw [e1, e2, e3]
    pointwise

theorem hTile_re (s : ℕ) (hs : s < 4) (r : Fin 512) (n : Fin 1024) : hTile E s (ix2 r ⟨n.val, by omega⟩)
    = (runFrom W (fun t => X t ⟨r.val % 16, by omega⟩) (H ⟨r.val % 16, by omega⟩) (r.val / 16 + 1)).1
        ⟨16 * s + n.val / 64, by omega⟩ ⟨n.val % 64, by omega⟩ := by
  have e0 : (⟨n.val, by omega⟩ : Fin 2048) = ⟨1024 * 0 + n.val, by omega⟩ := Fin.ext (by dsimp only; omega)
  rw [e0]
  exact (hTile_eq s 0 hs (by omega) r n).trans (slabState_at fits s hs _ n _ (by omega)).1

theorem hTile_im (s : ℕ) (hs : s < 4) (r : Fin 512) (n : Fin 1024) : hTile E s (ix2 r ⟨1024 + n.val, by omega⟩)
    = (runFrom W (fun t => X t ⟨r.val % 16, by omega⟩) (H ⟨r.val % 16, by omega⟩) (r.val / 16 + 1)).2
        ⟨16 * s + n.val / 64, by omega⟩ ⟨n.val % 64, by omega⟩ :=
  (hTile_eq s 1 hs (by omega) r n).trans (slabState_at fits s hs _ n _ (by omega)).2

omit fits in
/-- A sum over a slab's 1024 state columns with only one group's terms is that group's sum. -/
theorem sum_states (g : Fin 16) (γ : Fin 1024 → EReal) (h : Fin 1024 → EReal) :
    ∑ n, h n * (if n.val / 64 = g.val then γ n else 0)
      = ∑ p : Fin 64, γ ⟨g.val * 64 + p.val, by omega⟩ * h ⟨g.val * 64 + p.val, by omega⟩ := by
  rw [← (finProdFinEquiv (m := 16) (n := 64)).sum_comp, Fintype.sum_prod_type, Finset.sum_eq_single g]
  · refine Finset.sum_congr rfl fun p _ => ?_
    have e1 : (finProdFinEquiv (g, p) : Fin 1024) = ⟨g.val * 64 + p.val, by omega⟩ := Fin.ext (by simp [finProdFinEquiv]; omega)
    rw [e1, if_pos (by dsimp only; omega), mul_comm]
  · intro g' _ hg
    refine Finset.sum_eq_zero fun p _ => ?_
    have hne : g'.val ≠ g.val := fun e => hg (Fin.ext e)
    rw [if_neg (by simp [finProdFinEquiv]; omega), mul_zero]
  · intro h
    exact absurd (Finset.mem_univ g) h

omit fits in
/-- A sum over the real and the imaginary columns is the two sums. -/
theorem sum_halves (f : Fin 2048 → EReal) :
    ∑ n, f n = (∑ n : Fin 1024, f ⟨n.val, by omega⟩) + ∑ n : Fin 1024, f ⟨1024 + n.val, by omega⟩ :=
  Fin.sum_univ_add (a := 1024) (b := 1024) f

/-- The real part of `C h`, at every row and channel. -/
theorem yTile_at (r : Fin 512) (e : Fin 1024) : yTile E (ix2 r e)
    = ∑ p, (W.cr ⟨e.val / 16, by omega⟩ ⟨e.val % 16, by omega⟩ p
          * (runFrom W (fun t => X t ⟨r.val % 16, by omega⟩) (H ⟨r.val % 16, by omega⟩) (r.val / 16 + 1)).1 ⟨e.val / 16, by omega⟩ p
        - W.ci ⟨e.val / 16, by omega⟩ ⟨e.val % 16, by omega⟩ p
          * (runFrom W (fun t => X t ⟨r.val % 16, by omega⟩) (H ⟨r.val % 16, by omega⟩) (r.val / 16 + 1)).2 ⟨e.val / 16, by omega⟩ p) := by
  have hs : e.val / 256 < 4 := by omega
  unfold yTile
  rw [View.readCov_eq_canon']
  refine (canon_stack (k := e.val / 256) [] (yPiece E) (by omega) (ix2 r ⟨e.val % 256, by omega⟩) _ ?_ ?_).trans ?_
  · funext a
    refine Fin.ext ?_
    fin_cases a
    · rfl
    · show 256 * (e.val / 256 % 4) + 1 * (e.val % 256) = 0 + 1 * e.val
      omega
  · intro q hq hq'
    refine not_mem_set 1 fun j => ?_
    have hj : j.val < 256 := j.isLt
    show 0 + 1 * e.val ≠ 256 * (q % 4) + 1 * j.val
    omega
  · unfold yPiece
    dsimp only
    pointwise
    refine (sum_halves _).trans ?_
    refine (congrArg₂ (· + ·)
      ((Finset.sum_congr rfl fun n _ => congrArg₂ (· * ·) (hTile_re fits (e.val / 256) hs r n) (fits.cdR (e.val / 256) hs n ⟨e.val % 256, by omega⟩)).trans
        (sum_states ⟨e.val % 256 / 16, by omega⟩ _ _))
      ((Finset.sum_congr rfl fun n _ => congrArg₂ (· * ·) (hTile_im fits (e.val / 256) hs r n) (fits.cdI (e.val / 256) hs n ⟨e.val % 256, by omega⟩)).trans
        (sum_states ⟨e.val % 256 / 16, by omega⟩ _ _))).trans ?_
    refine Finset.sum_add_distrib.symm.trans (Finset.sum_congr rfl fun p _ => ?_)
    have e1 : (⟨16 * (e.val / 256) + e.val % 256 / 16, by omega⟩ : Fin 64) = ⟨e.val / 16, by omega⟩ := Fin.ext (by dsimp only; omega)
    have e2 : (⟨e.val % 256 % 16, by omega⟩ : Fin 16) = ⟨e.val % 16, by omega⟩ := Fin.ext (by dsimp only; omega)
    have e3 : (⟨16 * (e.val / 256) + (e.val % 256 / 16 * 64 + p.val) / 64, by omega⟩ : Fin 64) = ⟨e.val / 16, by omega⟩ :=
      Fin.ext (by dsimp only; omega)
    have e4 : (⟨(e.val % 256 / 16 * 64 + p.val) % 64, by omega⟩ : Fin 64) = p := Fin.ext (by dsimp only; omega)
    dsimp only
    rw [e1, e2, e3, e4, sub_eq_add_neg, EReal.neg_mul]

end Cert.Proof

end
-- ==== Proof.TileOut.lean ====
module

public import proofs.«01_k».proof.Proof.TileState

@[expose] public section

set_option maxRecDepth 16384
noncomputable section

namespace Cert.Proof

open Idealize.ShloMosaic Cert.KernelIdeal Cert.KernelIdeal.Gen

/-! # What follows the recurrence in a tile, at an index -/

/-- The kernel's cube is taken in the other order. -/
theorem gelu_eq (y : EReal) : y * (Ideal.ofBits .f32 1056964608#32 * (1 + Ideal.tanh (Ideal.ofBits .f32 1061962282#32
    * (y + Ideal.ofBits .f32 1027024659#32 * (y * (y * y)))))) = gelu y := by
  unfold gelu
  rw [mul_comm y (y * y)]

/-- The gated unit and the silu gate, from the recurrence's output with the skip connection. -/
theorem gated_at (gate v w : FVec Ideal S512x1024 .f32) (hw : ∀ (r : Fin 512) (e : Fin 1024), v (ix2 r e) * (Ideal.ofBits .f32 1056964608#32 * w (ix2 r e)) = gelu (v (ix2 r e)))
    (wg : Vec Ideal S1024x1024 .bf16) (bg : Vec Ideal S1x1024 .f32) (r : Fin 512) (e : Fin 1024) :
    k0_pay862 gate v w k0_pay861 wg bg (ix2 r e)
      = gelu (v (ix2 r e)) * sigm ((∑ k, gelu (v (ix2 r k)) * wg (ix2 k e)) + bg (ix2 0 e)) * (gate (ix2 r e) * sigm (gate (ix2 r e))) := by
  unfold k0_pay862 k0_pay861
  pointwise
  simp only [hw]
  rfl

theorem tanhPart_at (u y : FVec Ideal S512x1024 .f32) (d : Vec Ideal S1x1024 .f32) (r : Fin 512) (e : Fin 1024) :
    k0_pay859 u y d (ix2 r e) * (Ideal.ofBits .f32 1056964608#32 * k0_pay860 u y d (ix2 r e)) = gelu (k0_pay859 u y d (ix2 r e)) := by
  rw [← gelu_eq]
  unfold k0_pay860
  pointwise

variable {E : Reads Ideal} {W : Weights} {X : ℕ → Fin 16 → Fin 1024 → EReal} {H : Fin 16 → St} (fits : Fits E W X H)
include fits

/-- The recurrence's output with the skip connection. -/
theorem skip_at (r : Fin 512) (e : Fin 1024) : k0_pay859 (uTile E) (yTile E) E.d (ix2 r e)
    = yRow W (uRow W (X (r.val / 16) ⟨r.val % 16, by omega⟩))
        (runFrom W (fun t => X t ⟨r.val % 16, by omega⟩) (H ⟨r.val % 16, by omega⟩) (r.val / 16 + 1)) e := by
  unfold k0_pay859
  pointwise
  rw [yTile_at fits, uTile_at fits, fits.d]
  rfl

theorem gatedTile_at (r : Fin 512) (e : Fin 1024) : gatedTile E (ix2 r e)
    = gluRow W (yRow W (uRow W (X (r.val / 16) ⟨r.val % 16, by omega⟩))
        (runFrom W (fun t => X t ⟨r.val % 16, by omega⟩) (H ⟨r.val % 16, by omega⟩) (r.val / 16 + 1)))
        (gateRow W (X (r.val / 16) ⟨r.val % 16, by omega⟩)) e := by
  unfold gatedTile
  rw [gated_at _ _ _ (tanhPart_at _ _ _)]
  simp only [skip_at fits, gateTile_at fits, fits.wg, fits.bg]
  rfl

omit fits in
/-- The normalised row of the first half from its residual row. -/
theorem norm0_row (W : Weights) (x : FVec Ideal S256x1024 .f32) (gate v w : FVec Ideal S512x1024 .f32) (wg wo : Vec Ideal S1024x1024 .bf16)
    (bg g b : Vec Ideal S1x1024 .f32) (r : Fin 256) (e : Fin 1024) (hg : ∀ e, g (ix2 0 e) = W.g e) (hb : ∀ e, b (ix2 0 e) = W.b e) :
    k0_pay867 (k0_pay863 g) (k0_pay864 b) (k0_pay865 x gate v w k0_pay861 wg bg wo) (k0_pay866 x gate v w k0_pay861 wg bg wo) (ix2 r e)
      = normRow W (fun e => Ideal.ofBits .f32 1071072509#32 * x (ix2 r e)
          + ∑ k, k0_pay862 gate v w k0_pay861 wg bg (ix2 ⟨r.val, by omega⟩ k) * wo (ix2 k e)) e := by
  unfold k0_pay867 k0_pay863 k0_pay864 k0_pay866 k0_pay865
  pointwise
  rw [hg, hb]
  rfl

omit fits in
/-- The normalised row of the second half from its residual row. -/
theorem norm1_row (W : Weights) (x : FVec Ideal S256x1024 .f32) (gated : FVec Ideal S512x1024 .bf16) (wo : Vec Ideal S1024x1024 .bf16)
    (g b : Vec Ideal S1x1024 .f32) (r : Fin 256) (e : Fin 1024) (hg : ∀ e, g (ix2 0 e) = W.g e) (hb : ∀ e, b (ix2 0 e) = W.b e) :
    k0_pay1008 (k0_pay1004 g) (k0_pay1005 b) (k0_pay1006 x gated wo) (k0_pay1007 x gated wo) (ix2 r e)
      = normRow W (fun e => Ideal.ofBits .f32 1071072509#32 * x (ix2 r e)
          + ∑ k, gated (ix2 ⟨256 + r.val, by omega⟩ k) * wo (ix2 k e)) e := by
  unfold k0_pay1008 k0_pay1004 k0_pay1005 k0_pay1007 k0_pay1006
  pointwise
  rw [hg, hb]
  rfl

/-- The tile's result at a row of the first half. -/
theorem norm0_at (r : Fin 256) (e : Fin 1024) : norm0 E (ix2 r e) = outRow W (X (r.val / 16) ⟨r.val % 16, by omega⟩)
    (runFrom W (fun t => X t ⟨r.val % 16, by omega⟩) (H ⟨r.val % 16, by omega⟩) (r.val / 16 + 1)) e := by
  have hgt := fun k => gatedTile_at fits ⟨r.val, by omega⟩ k
  unfold gatedTile at hgt
  unfold norm0
  rw [norm0_row W _ _ _ _ _ _ _ _ _ r e fits.g fits.b]
  simp only [hgt, xRows0_at fits, fits.wo]
  rfl

/-- The tile's result at a row of the second half. -/
theorem norm1_at (r : Fin 256) (e : Fin 1024) : norm1 E (ix2 r e) = outRow W (X (16 + r.val / 16) ⟨r.val % 16, by omega⟩)
    (runFrom W (fun t => X t ⟨r.val % 16, by omega⟩) (H ⟨r.val % 16, by omega⟩) (16 + r.val / 16 + 1)) e := by
  have e1 : (256 + r.val) / 16 = 16 + r.val / 16 := by omega
  have e2 : (⟨(256 + r.val) % 16, by omega⟩ : Fin 16) = ⟨r.val % 16, by omega⟩ := Fin.ext (by dsimp only; omega)
  have hgt := fun k => gatedTile_at fits ⟨256 + r.val, by omega⟩ k
  simp only [e1, e2] at hgt
  unfold norm1
  rw [norm1_row W _ _ _ _ _ r e fits.g fits.b]
  simp only [hgt, xRows1_at fits, fits.wo]
  rfl

/-- The tile's result, half `h`. -/
theorem norm_at (h : ℕ) (hh : h < 2) (r : Fin 256) (e : Fin 1024) : norm E h (ix2 r e)
    = outRow W (X (16 * h + r.val / 16) ⟨r.val % 16, by omega⟩)
        (runFrom W (fun t => X t ⟨r.val % 16, by omega⟩) (H ⟨r.val % 16, by omega⟩) (16 * h + r.val / 16 + 1)) e := by
  match h, hh with
  | 0, _ =>
    have e1 : 16 * 0 + r.val / 16 = r.val / 16 := by omega
    rw [e1]
    exact norm0_at fits r e
  | 1, _ => exact norm1_at fits r e

/-- What a write of the result tile reads back from the transposed result. -/
theorem result_block (n : ℕ) (hn : n < 256) (r : Fin 16) (l : Fin 128) :
    E.mO.view.readCov (stack [] (rPiece E) (8 * (n / 128 % 2) + 8)) (rowsBox n).toLoadRect (ix3 0 r l)
      = outRow W (X (16 * (n / 128) + r.val) ⟨n / 8 % 16, by omega⟩)
          (runFrom W (fun t => X t ⟨n / 8 % 16, by omega⟩) (H ⟨n / 8 % 16, by omega⟩) (16 * (n / 128) + r.val + 1))
          ⟨128 * (n % 8) + l.val, by omega⟩ := by
  rw [View.readCov_eq_canon']
  refine (canon_stack (k := 8 * (n / 128) + n % 8) [] (rPiece E) (by omega) (ix3 0 ⟨16 * r.val + n / 8 % 16, by omega⟩ l) _ ?_ ?_).trans ?_
  · funext a
    refine Fin.ext ?_
    fin_cases a
    · show (8 * (n / 128) + n % 8) % 8 + 1 * 0 = n % 8 + 1 * 0
      omega
    · show 256 * ((8 * (n / 128) + n % 8) / 8 % 2) + 1 * (16 * r.val + n / 8 % 16) = 256 * (n / 128 % 2) + n / 8 % 16 + 16 * r.val
      omega
    · rfl
  · intro q hq hq'
    refine not_mem_set 0 fun j => ?_
    have hj : j.val < 1 := j.isLt
    show n % 8 + 1 * 0 ≠ q % 8 + 1 * j.val
    omega
  · have e1 : (8 * (n / 128) + n % 8) / 8 = n / 128 := by omega
    have e2 : (8 * (n / 128) + n % 8) % 8 = n % 8 := by omega
    have e3 : (16 * r.val + n / 8 % 16) / 16 = r.val := by omega
    have e4 : (⟨(16 * r.val + n / 8 % 16) % 16, by omega⟩ : Fin 16) = ⟨n / 8 % 16, by omega⟩ := Fin.ext (by dsimp only; omega)
    unfold rPiece
    dsimp only
    pointwise
    simp only [e1, e2]
    refine (norm_at fits (n / 128) (by omega) _ _).trans ?_
    simp only [e3, e4]

omit fits in
theorem squeeze_at (v : Vec Ideal S1x16x128 .f32) (r : Fin 16) (l : Fin 128) :
    shapeCast S16x128 v shapeCasts_S1x16x128_S16x128 (ix2 r l) = v (ix3 0 r l) := by
  pointwise

omit fits in
theorem outPiece_at (n : ℕ) (r : Fin 16) (l : Fin 128) : (outPiece E n).2 (ix2 r l)
    = E.mO.view.readCov (stack [] (rPiece E) (8 * (n / 128 % 2) + 8)) (rowsBox n).toLoadRect (ix3 0 r l) :=
  squeeze_at (E.mO.view.readCov (stack [] (rPiece E) (8 * (n / 128 % 2) + 8)) (rowsBox n).toLoadRect) r l

theorem result_block_as {n t : ℕ} {b : Fin 16} {e : Fin 1024} (hn : n < 256) (r : Fin 16) (l : Fin 128)
    (ht : 16 * (n / 128) + r.val = t) (hb : n / 8 % 16 = b.val) (he : 128 * (n % 8) + l.val = e.val) :
    E.mO.view.readCov (stack [] (rPiece E) (8 * (n / 128 % 2) + 8)) (rowsBox n).toLoadRect (ix3 0 r l)
      = outRow W (X t b) (runFrom W (fun t => X t b) (H b) (t + 1)) e := by
  have e1 : (⟨n / 8 % 16, by omega⟩ : Fin 16) = b := Fin.ext hb
  have e2 : (⟨128 * (n % 8) + l.val, by omega⟩ : Fin 1024) = e := Fin.ext he
  exact (result_block fits n hn r l).trans (by rw [ht, e1, e2])

/-- The tile's result: row `t`, batch row `b`, channel `e`. -/
theorem tile_out (t : Fin 32) (b : Fin 16) (e : Fin 1024) :
    View.canon (stack [] (outPiece E) 256) (ix2 t ⟨1024 * b.val + e.val, by omega⟩)
      = outRow W (X t.val b) (runFrom W (fun t => X t b) (H b) (t.val + 1)) e := by
  refine (canon_stack (k := 128 * (t.val / 16) + 8 * b.val + e.val / 128) [] (outPiece E) (by omega)
    (ix2 ⟨t.val % 16, by omega⟩ ⟨e.val % 128, by omega⟩) _ ?_ ?_).trans ?_
  · funext a
    refine Fin.ext ?_
    fin_cases a
    · show 16 * ((128 * (t.val / 16) + 8 * b.val + e.val / 128) / 128 % 2) + 1 * (t.val % 16) = t.val
      omega
    · show 1024 * ((128 * (t.val / 16) + 8 * b.val + e.val / 128) / 8 % 16) + 128 * ((128 * (t.val / 16) + 8 * b.val + e.val / 128) % 8)
        + 1 * (e.val % 128) = 1024 * b.val + e.val
      omega
  · intro q hq hq'
    by_cases hc : q / 128 % 2 = t.val / 16
    · refine not_mem_set 1 fun j => ?_
      have hj : j.val < 128 := j.isLt
      show 1024 * b.val + e.val ≠ 1024 * (q / 8 % 16) + 128 * (q % 8) + 1 * j.val
      omega
    · refine not_mem_set 0 fun j => ?_
      have hj : j.val < 16 := j.isLt
      show t.val ≠ 16 * (q / 128 % 2) + 1 * j.val
      omega
  · refine Eq.trans ?_ (result_block_as fits (n := 128 * (t.val / 16) + 8 * b.val + e.val / 128) (by omega) ⟨t.val % 16, by omega⟩
      ⟨e.val % 128, by omega⟩ (by dsimp only; omega) (by omega) (by dsimp only; omega))
    exact outPiece_at _ _ _

/-- The state the tile leaves: slab `s`, real columns. -/
theorem tile_state (base : List (View.Piece (Elt Ideal) S4x2x16x1024 .f32)) (s k : ℕ) (hs : s < 4) (hk : k < 2) (b : Fin 16) (n : Fin 1024) :
    View.canon (stack base (statePiece E) 8) (ix4 ⟨s, by omega⟩ ⟨k, by omega⟩ b n) = statePart E s 32 k (ix2 b n) := by
  refine (canon_stack (k := 2 * s + k) base (statePiece E) (by omega) (ix4 0 0 b n) _ ?_ ?_).trans ?_
  · funext a
    refine Fin.ext ?_
    fin_cases a
    · show (2 * s + k) / 2 % 4 + 1 * 0 = s
      omega
    · show (2 * s + k) % 2 % 2 + 1 * 0 = k
      omega
    · show 0 + 1 * b.val = b.val
      omega
    · show 0 + 1 * n.val = n.val
      omega
  · intro q hq hq'
    by_cases hc : q / 2 % 4 = s
    · refine not_mem_set 1 fun j => ?_
      have hj : j.val < 1 := j.isLt
      show k ≠ q % 2 % 2 + 1 * j.val
      omega
    · refine not_mem_set 0 fun j => ?_
      have hj : j.val < 1 := j.isLt
      show s ≠ q / 2 % 4 + 1 * j.val
      omega
  · have e1 : (2 * s + k) / 2 = s := by omega
    have e2 : (2 * s + k) % 2 = k := by omega
    unfold statePiece
    dsimp only
    rw [e1, e2]
    pointwise

end Cert.Proof

end
-- ==== Proof.Point.lean ====
module

public import proofs.«01_k».proof.Proof.First
public import proofs.«01_k».proof.Proof.Later
public import proofs.«01_k».proof.Proof.TileFits
public import proofs.«01_k».proof.Proof.TileOut
public import Idealize.ShloMosaic.Lib.Pipeline.ValueKit

/-! # One grid point: what a tile leaves in its output block and in the carried state -/

@[expose] public section

set_option maxRecDepth 16384
noncomputable section

namespace Cert.Proof

open Idealize.ShloMosaic Idealize.ShloMosaic.TcCoe Cert.KernelIdeal Cert.KernelIdeal.Gen Idealize.SL.Sem

/-- The carried memory holds the states `H` of the batch rows: real parts and imaginary parts, slab by slab. -/
def Holds (S : S4x2x16x1024.Idx → EReal) (H : Fin 16 → St) : Prop :=
  ∀ (s : ℕ) (hs : s < 4) (b : Fin 16) (n : Fin 1024),
    S (ix4 ⟨s, hs⟩ 0 b n) = (H b).1 ⟨16 * s + n.val / 64, by omega⟩ ⟨n.val % 64, by omega⟩
      ∧ S (ix4 ⟨s, hs⟩ 1 b n) = (H b).2 ⟨16 * s + n.val / 64, by omega⟩ ⟨n.val % 64, by omega⟩

theorem statePart_zero (E : Reads Ideal) (s t : ℕ) : statePart E s t 0 = (slabState E s t).1 := rfl

theorem statePart_one (E : Reads Ideal) (s t : ℕ) : statePart E s t 1 = (slabState E s t).2 := rfl

attribute [local irreducible] runFrom slabState statePart in
/-- After a tile the carried memory holds the states its 32 steps lead to. -/
theorem holds_after {E : Reads Ideal} {W : Weights} {X : ℕ → Fin 16 → Fin 1024 → EReal} {H : Fin 16 → St} (fits : Fits E W X H)
    (base : List (View.Piece (Elt Ideal) S4x2x16x1024 .f32)) :
    Holds (View.canon (stack base (statePiece E) 8)) (fun b => runFrom W (fun t => X t b) (H b) 32) := by
  intro s hs b n
  dsimp only
  have h := slabState_at fits s hs b n 32 (Nat.le_refl _)
  have h0 := tile_state fits base s 0 hs (by decide) b n
  have h1 := tile_state fits base s 1 hs (by decide) b n
  rw [statePart_zero] at h0
  rw [statePart_one] at h1
  exact ⟨h0.trans h.1, h1.trans h.2⟩

/-- The memory of states the first tile starts from is zero everywhere. -/
theorem zero_state (y : S4x2x16x1024.Idx) : View.canon [(zeroPiece : View.Piece (Elt Ideal) S4x2x16x1024 .f32)] y = (0 : EReal) := by
  unfold zeroPiece
  rw [View.canon_cons_unit_lit _ _ _ (by intro a; fin_cases a <;> rfl)]
  pointwise [k0_pay1]

variable (m : (ℓ : Loc nD τ sig) → Buf (Elt Ideal) ℓ) (c : Dev nD) (t : Fin cfg0.N)

/-- What a tile's output block holds, its batch rows having entered in the states `H`. -/
def Leaves (o : S32x16384.Idx → EReal) (H : Fin 16 → St) : Prop :=
  ∀ (r : Fin 32) (b : Fin 16) (e : Fin 1024), o (ix2 r ⟨1024 * b.val + e.val, by omega⟩)
    = outRow (argWeights m c) (tileInput m c t.val r.val b)
        (runFrom (argWeights m c) (fun k => tileInput m c t.val k b) (H b) (r.val + 1)) e

section Later
variable
    (i : grid0.Coords) (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg12 : Memref sig .tc .vmem S32x16384 .f32) (harg12 : arg12.IsWhole)
    (arg13 : Memref sig .tc .vmem S4x2x16x1024 .f32) (harg13 : arg13.IsWhole)
    (arg14 : Memref sig .tc .vmem S512x2048 .f32) (harg14 : arg14.IsWhole)
    (arg15 : Memref sig .tc .vmem S512x2048 .bf16) (harg15 : arg15.IsWhole)
    (arg16 : Memref sig .tc .vmem S512x1024 .f32) (harg16 : arg16.IsWhole)
    (arg17 : Memref sig .tc .vmem S8x512x128 .f32) (harg17 : arg17.IsWhole)
    (arg18 : Memref sig .tc .vmem S8x512x128 .f32) (harg18 : arg18.IsWhole) (hc0 : ¬cond0_0 i)
    (xs0 : Vec Ideal S4x2x16x1024 .f32)

/-- What a later tile reads, entered in the states the carried memory holds. -/
theorem later_fits (H : Fin 16 → St) (hH : Holds xs0 H) :
    Fits (tileReads arg1 harg1 arg2 harg2 arg3 harg3 arg4 harg4 arg5 harg5 arg6 harg6 arg7 harg7 arg8 harg8 arg9 harg9 arg10 harg10 arg11 harg11 arg14 arg15 arg16 arg17 arg18 (iblk m c 0 t) (iblk m c 1 t) (iblk m c 2 t) (iblk m c 3 t) (iblk m c 4 t) (iblk m c 5 t) (iblk m c 6 t) (iblk m c 7 t) (iblk m c 8 t) (iblk m c 9 t) (iblk m c 10 t) (carried arg13 harg13 xs0)) (argWeights m c) (tileInput m c t.val) H := by
  have h : ∀ (s : ℕ) (hs : s < 4) (k : ℕ) (hk : k < 2) (b : Fin 16) (n : Fin 1024),
      carried arg13 harg13 xs0 s k (ix4 0 0 b n) = xs0 (ix4 ⟨s, hs⟩ ⟨k, hk⟩ b n) := by
    intro s hs k hk b n
    refine (harg13.readAt_unread xs0 (stateBox s k).toLoadRect (ix4 0 0 b n)).trans (congrArg xs0 (funext fun a => Fin.ext ?_))
    fin_cases a
    · show s % 4 + 1 * 0 = s
      omega
    · show k % 2 + 1 * 0 = k
      omega
    · exact at_zero _
    · exact at_zero _
  exact tile_fits m c t arg1 harg1 arg2 harg2 arg3 harg3 arg4 harg4 arg5 harg5 arg6 harg6 arg7 harg7 arg8 harg8 arg9 harg9 arg10 harg10 arg11 harg11 arg14 arg15 arg16 arg17 arg18 (carried arg13 harg13 xs0) H
    (fun s hs b n => (h s hs 0 (by decide) b n).trans (hH s hs b n).1) (fun s hs b n => (h s hs 1 (by decide) b n).trans (hH s hs b n).2)

/-- A later tile's output block. -/
theorem later_leaves (H : Fin 16 → St) (hH : Holds xs0 H) :
    Leaves m c t (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0) H := by
  intro r b e
  unfold out0_B_11
  rw [View.read_writes_junk_eq_canon, later_out]
  exact tile_out (later_fits m c t arg1 harg1 arg2 harg2 arg3 harg3 arg4 harg4 arg5 harg5 arg6 harg6 arg7 harg7 arg8 harg8 arg9 harg9 arg10 harg10 arg11 harg11 arg13 harg13 arg14 arg15 arg16 arg17 arg18 xs0 H hH) r b e

/-- A later tile's carried memory. -/
theorem later_holds (H : Fin 16 → St) (hH : Holds xs0 H) :
    Holds (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (iblk m c 0 t) (iblk m c 1 t) (iblk m c 2 t) (iblk m c 3 t) (iblk m c 4 t) (iblk m c 5 t) (iblk m c 6 t) (iblk m c 7 t) (iblk m c 8 t) (iblk m c 9 t) (iblk m c 10 t) xs0)
      (fun b => runFrom (argWeights m c) (fun k => tileInput m c t.val k b) (H b) 32) := by
  unfold sout0_B_0
  rw [View.read_writes_junk_eq_canon, later_state]
  exact holds_after (later_fits m c t arg1 harg1 arg2 harg2 arg3 harg3 arg4 harg4 arg5 harg5 arg6 harg6 arg7 harg7 arg8 harg8 arg9 harg9 arg10 harg10 arg11 harg11 arg13 harg13 arg14 arg15 arg16 arg17 arg18 xs0 H hH) []

end Later

section First
variable
    (i : grid0.Coords) (arg1 : Memref sig .tc .vmem S32x16384 .f32) (harg1 : arg1.IsWhole)
    (arg2 : Memref sig .tc .vmem S1024x2048 .bf16) (harg2 : arg2.IsWhole)
    (arg3 : Memref sig .tc .vmem S4x256x2048 .bf16) (harg3 : arg3.IsWhole)
    (arg4 : Memref sig .tc .vmem S4x2x1024 .f32) (harg4 : arg4.IsWhole)
    (arg5 : Memref sig .tc .vmem S4x2048x256 .bf16) (harg5 : arg5.IsWhole) (arg6 : Memref sig .tc .vmem S1x1024 .f32)
    (harg6 : arg6.IsWhole) (arg7 : Memref sig .tc .vmem S1024x1024 .bf16) (harg7 : arg7.IsWhole)
    (arg8 : Memref sig .tc .vmem S1x1024 .f32) (harg8 : arg8.IsWhole) (arg9 : Memref sig .tc .vmem S1024x1024 .bf16)
    (harg9 : arg9.IsWhole) (arg10 : Memref sig .tc .vmem S1x1024 .f32) (harg10 : arg10.IsWhole)
    (arg11 : Memref sig .tc .vmem S1x1024 .f32) (harg11 : arg11.IsWhole)
    (arg12 : Memref sig .tc .vmem S32x16384 .f32) (harg12 : arg12.IsWhole)
    (arg13 : Memref sig .tc .vmem S4x2x16x1024 .f32) (harg13 : arg13.IsWhole)
    (arg14 : Memref sig .tc .vmem S512x2048 .f32) (harg14 : arg14.IsWhole)
    (arg15 : Memref sig .tc .vmem S512x2048 .bf16) (harg15 : arg15.IsWhole)
    (arg16 : Memref sig .tc .vmem S512x1024 .f32) (harg16 : arg16.IsWhole)
    (arg17 : Memref sig .tc .vmem S8x512x128 .f32) (harg17 : arg17.IsWhole)
    (arg18 : Memref sig .tc .vmem S8x512x128 .f32) (harg18 : arg18.IsWhole) (hc0 : cond0_0 i)

/-- The state every batch row starts in. -/
def zeroSt : St := (fun _ _ => 0, fun _ _ => 0)

include arg5 harg5 arg6 harg6 arg7 harg7 arg8 harg8 arg9 harg9 arg10 harg10 arg11 harg11 arg15 arg16 arg18 in
/-- The first tile reads zero states. -/
theorem fresh_zero (s : ℕ) (hs : s < 4) (k : ℕ) (hk : k < 2) (b : Fin 16) (n : Fin 1024) :
    fresh c arg1 harg1 arg2 harg2 arg3 harg3 arg4 harg4 arg13 arg14 arg17 (iblk m c 0 t) (iblk m c 1 t) (iblk m c 2 t) (iblk m c 3 t) s k (ix4 0 0 b n) = (0 : EReal) := by
  unfold fresh
  rw [View.readCov_eq_canon', history_stack c arg1 harg1 arg2 harg2 arg3 harg3 arg4 harg4 arg5 harg5 arg6 harg6 arg7 harg7 arg8 harg8 arg9 harg9 arg10 harg10 arg11 harg11 arg13 arg14 arg15 arg16 arg17 arg18 (iblk m c 0 t) (iblk m c 1 t) (iblk m c 2 t) (iblk m c 3 t) (iblk m c 4 t) (iblk m c 5 t) (iblk m c 6 t) (iblk m c 7 t) (iblk m c 8 t) (iblk m c 9 t) (iblk m c 10 t) s hs]
  refine (canon_stack_base _ _ _ fun l hl => not_mem_set 0 fun j => ?_).trans (zero_state _)
  have hj : j.val < 1 := j.isLt
  show s % 4 + 1 * 0 ≠ l / 2 % 4 + 1 * j.val
  omega

/-- What the first tile reads: its batch rows enter in the zero state. -/
theorem first_fits :
    Fits (tileReads arg1 harg1 arg2 harg2 arg3 harg3 arg4 harg4 arg5 harg5 arg6 harg6 arg7 harg7 arg8 harg8 arg9 harg9 arg10 harg10 arg11 harg11 arg14 arg15 arg16 arg17 arg18 (iblk m c 0 t) (iblk m c 1 t) (iblk m c 2 t) (iblk m c 3 t) (iblk m c 4 t) (iblk m c 5 t) (iblk m c 6 t) (iblk m c 7 t) (iblk m c 8 t) (iblk m c 9 t) (iblk m c 10 t) (fresh c arg1 harg1 arg2 harg2 arg3 harg3 arg4 harg4 arg13 arg14 arg17 (iblk m c 0 t) (iblk m c 1 t) (iblk m c 2 t) (iblk m c 3 t))) (argWeights m c) (tileInput m c t.val) (fun _ => zeroSt) :=
  tile_fits m c t arg1 harg1 arg2 harg2 arg3 harg3 arg4 harg4 arg5 harg5 arg6 harg6 arg7 harg7 arg8 harg8 arg9 harg9 arg10 harg10 arg11 harg11 arg14 arg15 arg16 arg17 arg18 _ _
    (fun s hs b n => fresh_zero m c t arg1 harg1 arg2 harg2 arg3 harg3 arg4 harg4 arg5 harg5 arg6 harg6 arg7 harg7 arg8 harg8 arg9 harg9 arg10 harg10 arg11 harg11 arg13 arg14 arg15 arg16 arg17 arg18 s hs 0 (by decide) b n) (fun s hs b n => fresh_zero m c t arg1 harg1 arg2 harg2 arg3 harg3 arg4 harg4 arg5 harg5 arg6 harg6 arg7 harg7 arg8 harg8 arg9 harg9 arg10 harg10 arg11 harg11 arg13 arg14 arg15 arg16 arg17 arg18 s hs 1 (by decide) b n)

/-- The first tile's output block. -/
theorem first_leaves :
    Leaves m c t (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (iblk m c 0 t) (iblk m c 1 t) (iblk m c 2 t) (iblk m c 3 t) (iblk m c 4 t) (iblk m c 5 t) (iblk m c 6 t) (iblk m c 7 t) (iblk m c 8 t) (iblk m c 9 t) (iblk m c 10 t)) (fun _ => zeroSt) := by
  intro r b e
  unfold out0_A_11
  rw [View.read_writes_junk_eq_canon, first_out]
  exact tile_out (first_fits m c t arg1 harg1 arg2 harg2 arg3 harg3 arg4 harg4 arg5 harg5 arg6 harg6 arg7 harg7 arg8 harg8 arg9 harg9 arg10 harg10 arg11 harg11 arg13 arg14 arg15 arg16 arg17 arg18) r b e

/-- The first tile's carried memory. -/
theorem first_holds :
    Holds (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (iblk m c 0 t) (iblk m c 1 t) (iblk m c 2 t) (iblk m c 3 t) (iblk m c 4 t) (iblk m c 5 t) (iblk m c 6 t) (iblk m c 7 t) (iblk m c 8 t) (iblk m c 9 t) (iblk m c 10 t))
      (fun b => runFrom (argWeights m c) (fun k => tileInput m c t.val k b) zeroSt 32) := by
  unfold sout0_A_0
  rw [View.read_writes_junk_eq_canon, first_state]
  exact holds_after (first_fits m c t arg1 harg1 arg2 harg2 arg3 harg3 arg4 harg4 arg5 harg5 arg6 harg6 arg7 harg7 arg8 harg8 arg9 harg9 arg10 harg10 arg11 harg11 arg13 arg14 arg15 arg16 arg17 arg18) _

end First

end Cert.Proof

end
-- ==== Proof.Fold.lean ====
module

public import proofs.«01_k».proof.Proof.Point
public import proofs.«01_k».proof.Proof.Gen.KernelIdeal.Value

/-! # The kernel's result over the whole grid is the specification -/

@[expose] public section

noncomputable section

namespace Cert.Proof

open Idealize.ShloMosaic Idealize.ShloMosaic.TcCoe Cert.KernelIdeal Cert.KernelIdeal.Gen Idealize.SL.Sem

variable (m : (ℓ : Loc nD τ sig) → Buf (Elt Ideal) ℓ) (c : Dev nD)

/-- The specification's state of batch row `b` before time `n`. -/
def stateOf (n : ℕ) (b : Fin 16) : St := stateAt (argWeights m c) (inputRow (argInput m c) b) n

/-- The steps of the tile at point `n` continue the specification's run. -/
theorem tile_run (n k : ℕ) (b : Fin 16) :
    runFrom (argWeights m c) (fun k => tileInput m c n k b) (stateOf m c (32 * n) b) k = stateOf m c (32 * n + k) b :=
  runFrom_stateAt (argWeights m c) (inputRow (argInput m c) b) (32 * n) k

attribute [local irreducible] runFrom stateAt

/-- The first point, from zero states. -/
theorem point_first (t : Fin cfg0.N) (h0 : t.val % 64 = 0) :
    Holds (outsAt0 m c t.val t.isLt).2 (fun b => runFrom (argWeights m c) (fun k => tileInput m c t.val k b) zeroSt 32)
      ∧ Leaves m c t (outsAt0 m c t.val t.isLt).1 (fun _ => zeroSt) := by
  rw [outsAt0_A m c t h0]
  dsimp only
  exact And.intro (first_holds m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0)) (first_leaves m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0))

/-- A later point, from the states the point before left. -/
theorem point_later (t : Fin cfg0.N) (h0 : ¬t.val % 64 = 0) (H : Fin 16 → St)
    (hH : Holds (outsAt0 m c (t.val - 1) (Nat.lt_of_le_of_lt (Nat.sub_le _ _) t.isLt)).2 H) :
    Holds (outsAt0 m c t.val t.isLt).2 (fun b => runFrom (argWeights m c) (fun k => tileInput m c t.val k b) (H b) 32)
      ∧ Leaves m c t (outsAt0 m c t.val t.isLt).1 H := by
  rw [outsAt0_B m c t h0]
  dsimp only
  exact And.intro (later_holds m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) _ H hH)
    (later_leaves m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) _ H hH)

/-- Every batch row starts in the zero state. -/
theorem stateOf_zero : (fun _ => zeroSt) = stateOf m c (32 * 0) := by
  funext b
  unfold stateOf stateAt zeroSt
  rfl

/-- After point `n` the carried memory holds the specification's states after `32 (n + 1)` times. -/
theorem fold_state (n : ℕ) (hn : n < cfg0.N) : Holds (outsAt0 m c n hn).2 (stateOf m c (32 * n + 32)) := by
  have e : stateOf m c (32 * n + 32) = fun b => runFrom (argWeights m c) (fun k => tileInput m c n k b) (stateOf m c (32 * n) b) 32 :=
    funext fun b => (tile_run m c n 32 b).symm
  rw [e]
  induction n with
  | zero =>
    rw [← stateOf_zero m c]
    exact (point_first m c ⟨0, hn⟩ (Nat.zero_mod _)).1
  | succ n ih =>
    have h64 : n + 1 < 64 := N_0 ▸ hn
    have h := ih (Nat.lt_of_succ_lt hn) (funext fun b => (tile_run m c n 32 b).symm)
    have e' : (fun b => runFrom (argWeights m c) (fun k => tileInput m c n k b) (stateOf m c (32 * n) b) 32) = stateOf m c (32 * (n + 1)) :=
      funext fun b => tile_run m c n 32 b
    rw [e'] at h
    exact (point_later m c ⟨n + 1, hn⟩ (by show ¬(n + 1) % 64 = 0; omega) _ h).1

/-- Point `n` leaves 32 rows of the specification's result in its output block. -/
theorem fold_out (n : ℕ) (hn : n < cfg0.N) (r : Fin 32) (b : Fin 16) (e : Fin 1024) :
    (outsAt0 m c n hn).1 (ix2 r ⟨1024 * b.val + e.val, by omega⟩)
      = outAt (argWeights m c) (inputRow (argInput m c) b) (32 * n + r.val) e := by
  have key : Leaves m c ⟨n, hn⟩ (outsAt0 m c n hn).1 (stateOf m c (32 * n)) := by
    cases n with
    | zero =>
      rw [← stateOf_zero m c]
      exact (point_first m c ⟨0, hn⟩ (Nat.zero_mod _)).2
    | succ n =>
      have h64 : n + 1 < 64 := N_0 ▸ hn
      exact (point_later m c ⟨n + 1, hn⟩ (by show ¬(n + 1) % 64 = 0; omega) _ (fold_state m c n (Nat.lt_of_succ_lt hn))).2
  refine (key r b e).trans ?_
  rw [tile_run]
  rfl

/-- The kernel's result is the specification's. -/
theorem kernel_result : Cert.KernelIdeal.Value.G11 m c = result (argWeights m c) (argInput m c) := by
  funext i
  have hr : (i 0).val < 2048 := (i 0).isLt
  have hc : (i 1).val < 16384 := (i 1).isLt
  have hp : Value.pt11Of i = (i 0).val / 32 := by
    show 1 * ((i 0).val / 32 - 0) + 1 * ((i 1).val / 16384 - 0) = (i 0).val / 32
    omega
  have hN : Value.pt11Of i < cfg0.N := by rw [hp]; exact lt_of_lt_of_eq (by omega : (i 0).val / 32 < 64) N_0.symm
  unfold Value.G11
  rw [dif_pos hN, ← Value.outsAt0_sweep m c _ hN]
  have hl : Value.loc11Of i = ix2 ⟨(i 0).val % 32, by omega⟩ ⟨1024 * ((i 1).val / 1024) + (i 1).val % 1024, by omega⟩ := by
    funext a
    refine Fin.ext ?_
    fin_cases a
    · rfl
    · show (i 1).val % 16384 = 1024 * ((i 1).val / 1024) + (i 1).val % 1024
      omega
  rw [hl]
  refine (fold_out m c _ hN ⟨(i 0).val % 32, by omega⟩ ⟨(i 1).val / 1024, by omega⟩ ⟨(i 1).val % 1024, by omega⟩).trans ?_
  unfold result
  refine congrArg (fun n => outAt (argWeights m c) (inputRow (argInput m c) ⟨(i 1).val / 1024, by omega⟩) n ⟨(i 1).val % 1024, by omega⟩) ?_
  show 32 * Value.pt11Of i + (i 0).val % 32 = (i 0).val
  omega

end Cert.Proof

end
-- ==== Proof.ProjTile.lean ====
module

public import proofs.«01_k».proof.Proof.Gen.Kernel2Ideal.Value
public import Idealize.ShloMosaic.Lib.Pointwise
public import Idealize.ShloMosaic.Lib.ValueIdx
public import Idealize.ShloMosaic.Lib.Pipeline.ValueKit

/-! # What the attention projection leaves in a tile

The kernel projects 512 rows at a time. A head's queries and keys are then turned: each is multiplied by one table, and
its other half (a rotation by half a head) by another, and the two are added. -/

@[expose] public section

set_option maxRecDepth 16384
noncomputable section

namespace Cert.Proof.Proj

open Idealize.ShloMosaic Idealize.ShloMosaic.TcCoe Cert.Kernel2Ideal Cert.Kernel2Ideal.Gen Idealize.SL.Sem

/-- The position a half turn of a head away. -/
def across (d : Fin 128) : Fin 128 := ⟨(d.val + 64) % 128, by omega⟩

/-- One head's rows: columns `o` to `o + 127` of the projection, turned by the tables. -/
def headTile (o : ℕ) (hs : S512x4096.Slices ![0, o] S512x128) (z : FVec Ideal S512x4096 .f32) (C S : FVec Ideal S512x128 .f32) :
    FVec Ideal S1x1x512x128 .bf16 :=
  shapeCast S1x1x512x128 (truncf .bf16 (addf (mulf (extractStridedSlice S512x128 ![0, o] z hs) C)
    (mulf (dynamicRotate 1 64#32 none (extractStridedSlice S512x128 ![0, o] z hs) rotates_S512x128_d1) S)) bitsLt_bf16_f32)
    shapeCasts_S512x128_S1x1x512x128

/-- An entry of one head's rows. -/
theorem headTile_at (o : ℕ) (hs : S512x4096.Slices ![0, o] S512x128) (ho : o + 128 ≤ 4096) (z : FVec Ideal S512x4096 .f32)
    (C S : FVec Ideal S512x128 .f32) (r : Fin 512) (d : Fin 128) :
    headTile o hs z C S (ix4 0 0 r d) = (z (ix2 r ⟨o + d.val, by omega⟩) * C (ix2 r d)
      + z (ix2 r ⟨o + (across d).val, by have := (across d).isLt; omega⟩) * S (ix2 r d) : EReal) := by
  unfold headTile
  pointwise
  congr 4

/-- An entry of the projection: a row of the tile times a column of the weights. -/
theorem projected_at (x : FVec Ideal S512x1024 .f32) (w : FVec Ideal S1024x4096 .bf16) (r : Fin 512) (e : Fin 4096) :
    (k0_pay1 x w : FVec Ideal S512x4096 .f32) (ix2 r e) = (∑ k : Fin 1024, x (ix2 r k) * w (ix2 k e) : EReal) := by
  pointwise [k0_pay1]

/-- All heads' rows, the columns of the first starting at `o`. -/
def headsTile (o : ℕ) (ho : o + 1024 ≤ 4096) (z : FVec Ideal S512x4096 .f32) (C S : FVec Ideal S512x128 .f32) : FVec Ideal S1x8x512x128 .bf16 :=
  fun y => (z (ix2 (y 2) ⟨o + 128 * (y 1).val + (y 3).val, by have h1 : (y 1).val < 8 := (y 1).isLt; have h3 : (y 3).val < 128 := (y 3).isLt; omega⟩) * C (ix2 (y 2) (y 3))
    + z (ix2 (y 2) ⟨o + 128 * (y 1).val + (across (y 3)).val, by have h1 : (y 1).val < 8 := (y 1).isLt; have h3 := (across (y 3)).isLt; omega⟩) * S (ix2 (y 2) (y 3)) : EReal)

/-- Head `h`'s rows are the part of all heads' rows under its store. -/
theorem headTile_piece (o : ℕ) (ho : o + 1024 ≤ 4096) (h : ℕ) (hh : h < 8) (p : ℕ) (hp : p = o + 128 * h) (hs : S512x4096.Slices ![0, p] S512x128)
    (inb : ∀ a, (![0, h, 0, 0] : Fin 4 → ℕ) a + S1x1x512x128.size a ≤ S1x8x512x128.size a)
    (z : FVec Ideal S512x4096 .f32) (C S : FVec Ideal S512x128 .f32) (x : S1x1x512x128.Idx) :
    headTile p hs z C S x = headsTile o ho z C S ((Rect.unit (s := S1x8x512x128) ![0, h, 0, 0] S1x1x512x128.size inb).idx x) := by
  subst hp
  obtain ⟨r, d, rfl⟩ : ∃ (r : Fin 512) (d : Fin 128), x = ix4 0 0 r d := by
    refine ⟨x 2, x 3, funext fun a => ?_⟩
    fin_cases a
    · exact Subsingleton.elim (α := Fin 1) _ _
    · exact Subsingleton.elim (α := Fin 1) _ _
    · rfl
    · rfl
  have e : (Rect.unit (s := S1x8x512x128) ![0, h, 0, 0] S1x1x512x128.size inb).idx (ix4 0 0 r d) = ix4 0 ⟨h, hh⟩ r d := by
    funext a
    refine Fin.ext ?_
    fin_cases a
    · rfl
    · show h + 1 * 0 = h
      omega
    · show 0 + 1 * r.val = r.val
      omega
    · show 0 + 1 * d.val = d.val
      omega
  rw [e]
  exact headTile_at (o + 128 * h) hs (by omega) z C S r d

/-- A tile of queries: every head's, turned by the scaled tables. -/
theorem out_queries (x0 : Vec Ideal S512x1024 .f32) (x1 : Vec Ideal S1024x4096 .bf16) (x2 x3 x4 x5 : Vec Ideal S512x128 .f32) :
    out0_6 x0 x1 x2 x3 x4 x5 = headsTile 0 (by omega) (k0_pay1 x0 x1) x2 x3 := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_2 = x3 := View.ld_unit_lit _ _ (by decide)
  have t2 : k0_pay2 x2 = x2 := shapeCast_self _ _
  have t3 : k0_pay3 x3 = x3 := shapeCast_self _ _
  unfold out0_6 k0_pay41 k0_pay42 k0_pay43
  have p0 : k0_pay6 x0 x1 x2 x3 = headTile 0 slices_S512x4096_o0_0_S512x128 (k0_pay1 x0 x1) x2 x3 := by
    show headTile 0 slices_S512x4096_o0_0_S512x128 (k0_pay1 x0 x1) (k0_pay2 x2) (k0_pay3 x3) = _
    rw [t2, t3]
  rw [e0, e1, e2, e3, t2, t3, p0]
  funext y
  refine View.canon_apply_of_pieces (Val := Elt Ideal) (headsTile 0 (by omega) (k0_pay1 x0 x1) x2 x3) _ ?_ y (cover0_6 _ _ _ _ _ _ _ _ y)
  intro pc hpc
  simp only [List.mem_cons, List.not_mem_nil, or_false] at hpc
  rcases hpc with rfl | rfl | rfl | rfl | rfl | rfl | rfl | rfl
  exacts [headTile_piece 0 _ 7 (by omega) 896 rfl slices_S512x4096_o0_896_S512x128 inb_S1x8x512x128_S1x1x512x128_0_7_0_0 _ _ _,
    headTile_piece 0 _ 6 (by omega) 768 rfl slices_S512x4096_o0_768_S512x128 inb_S1x8x512x128_S1x1x512x128_0_6_0_0 _ _ _,
    headTile_piece 0 _ 5 (by omega) 640 rfl slices_S512x4096_o0_640_S512x128 inb_S1x8x512x128_S1x1x512x128_0_5_0_0 _ _ _,
    headTile_piece 0 _ 4 (by omega) 512 rfl slices_S512x4096_o0_512_S512x128 inb_S1x8x512x128_S1x1x512x128_0_4_0_0 _ _ _,
    headTile_piece 0 _ 3 (by omega) 384 rfl slices_S512x4096_o0_384_S512x128 inb_S1x8x512x128_S1x1x512x128_0_3_0_0 _ _ _,
    headTile_piece 0 _ 2 (by omega) 256 rfl slices_S512x4096_o0_256_S512x128 inb_S1x8x512x128_S1x1x512x128_0_2_0_0 _ _ _,
    headTile_piece 0 _ 1 (by omega) 128 rfl slices_S512x4096_o0_128_S512x128 inb_S1x8x512x128_S1x1x512x128_0_1_0_0 _ _ _,
    headTile_piece 0 _ 0 (by omega) 0 rfl slices_S512x4096_o0_0_S512x128 inb_S1x8x512x128_S1x1x512x128_0_0_0_0 _ _ _]

/-- A tile of keys: every head's, turned by the plain tables. -/
theorem out_keys (x0 : Vec Ideal S512x1024 .f32) (x1 : Vec Ideal S1024x4096 .bf16) (x2 x3 x4 x5 : Vec Ideal S512x128 .f32) :
    out0_7 x0 x1 x2 x3 x4 x5 = headsTile 1024 (by omega) (k0_pay1 x0 x1) x4 x5 := by
  have e0 : View.ld x0 r0_0 = x0 := View.ld_unit_lit _ _ (by decide)
  have e1 : View.ld x1 r0_1 = x1 := View.ld_unit_lit _ _ (by decide)
  have e4 : View.ld x4 r0_2 = x4 := View.ld_unit_lit _ _ (by decide)
  have e5 : View.ld x5 r0_2 = x5 := View.ld_unit_lit _ _ (by decide)
  have t4 : k0_pay4 x4 = x4 := shapeCast_self _ _
  have t5 : k0_pay5 x5 = x5 := shapeCast_self _ _
  unfold out0_7 k0_pay41 k0_pay44 k0_pay45
  have p0 : k0_pay7 x0 x1 x4 x5 = headTile 1024 slices_S512x4096_o0_1024_S512x128 (k0_pay1 x0 x1) x4 x5 := by
    show headTile 1024 slices_S512x4096_o0_1024_S512x128 (k0_pay1 x0 x1) (k0_pay4 x4) (k0_pay5 x5) = _
    rw [t4, t5]
  rw [e0, e1, e4, e5, t4, t5, p0]
  funext y
  refine View.canon_apply_of_pieces (Val := Elt Ideal) (headsTile 1024 (by omega) (k0_pay1 x0 x1) x4 x5) _ ?_ y (cover0_7 _ _ _ _ _ _ _ _ y)
  intro pc hpc
  simp only [List.mem_cons, List.not_mem_nil, or_false] at hpc
  rcases hpc with rfl | rfl | rfl | rfl | rfl | rfl | rfl | rfl
  exacts [headTile_piece 1024 _ 7 (by omega) 1920 rfl slices_S512x4096_o0_1920_S512x128 inb_S1x8x512x128_S1x1x512x128_0_7_0_0 _ _ _,
    headTile_piece 1024 _ 6 (by omega) 1792 rfl slices_S512x4096_o0_1792_S512x128 inb_S1x8x512x128_S1x1x512x128_0_6_0_0 _ _ _,
    headTile_piece 1024 _ 5 (by omega) 1664 rfl slices_S512x4096_o0_1664_S512x128 inb_S1x8x512x128_S1x1x512x128_0_5_0_0 _ _ _,
    headTile_piece 1024 _ 4 (by omega) 1536 rfl slices_S512x4096_o0_1536_S512x128 inb_S1x8x512x128_S1x1x512x128_0_4_0_0 _ _ _,
    headTile_piece 1024 _ 3 (by omega) 1408 rfl slices_S512x4096_o0_1408_S512x128 inb_S1x8x512x128_S1x1x512x128_0_3_0_0 _ _ _,
    headTile_piece 1024 _ 2 (by omega) 1280 rfl slices_S512x4096_o0_1280_S512x128 inb_S1x8x512x128_S1x1x512x128_0_2_0_0 _ _ _,
    headTile_piece 1024 _ 1 (by omega) 1152 rfl slices_S512x4096_o0_1152_S512x128 inb_S1x8x512x128_S1x1x512x128_0_1_0_0 _ _ _,
    headTile_piece 1024 _ 0 (by omega) 1024 rfl slices_S512x4096_o0_1024_S512x128 inb_S1x8x512x128_S1x1x512x128_0_0_0_0 _ _ _]

/-- A tile of values, transposed. -/
theorem out_values (x0 : Vec Ideal S512x1024 .f32) (x1 : Vec Ideal S1024x4096 .bf16) (x2 x3 x4 x5 : Vec Ideal S512x128 .f32) (h : Fin 8) (d : Fin 128) (r : Fin 512) :
    out0_8 x0 x1 x2 x3 x4 x5 (ix4 0 h d r) = k0_pay1 x0 x1 (ix2 r ⟨2048 + 128 * h.val + d.val, by omega⟩) := by
  have e0 : View.ld x0 r0_0 = x0 := View.ld_unit_lit _ _ (by decide)
  have e1 : View.ld x1 r0_1 = x1 := View.ld_unit_lit _ _ (by decide)
  unfold out0_8 k0_pay41
  rw [e0, e1]
  refine (Value.canon8_eq x0 x1 _).trans ?_
  refine congrArg (k0_pay1 x0 x1) (funext fun a => Fin.ext ?_)
  fin_cases a
  · rfl
  · show h.val * 128 + d.val + 2048 = 2048 + 128 * h.val + d.val
    omega

/-- A tile of gates: the projection's last columns through the gate's function. -/
theorem out_gates (x0 : Vec Ideal S512x1024 .f32) (x1 : Vec Ideal S1024x4096 .bf16) (x2 x3 x4 x5 : Vec Ideal S512x128 .f32) (r : Fin 512) (e : Fin 1024) :
    out0_9 x0 x1 x2 x3 x4 x5 (ix2 r e) = (k0_pay1 x0 x1 (ix2 r ⟨3072 + e.val, by omega⟩) * FloatOps.logistic (F := Ideal) (φ := .f32) (k0_pay1 x0 x1 (ix2 r ⟨3072 + e.val, by omega⟩)) : EReal) := by
  have e0 : View.ld x0 r0_0 = x0 := View.ld_unit_lit _ _ (by decide)
  have e1 : View.ld x1 r0_1 = x1 := View.ld_unit_lit _ _ (by decide)
  unfold out0_9 k0_pay41
  rw [e0, e1]
  refine (Value.canon9_eq x0 x1 _).trans ?_
  have ei : Value.ix9_0 (ix2 r e) = ix2 r ⟨3072 + e.val, by omega⟩ := by
    funext a
    refine Fin.ext ?_
    fin_cases a
    · rfl
    · show e.val + 3072 = 3072 + e.val
      omega
  exact congrArg (fun i => (k0_pay1 x0 x1 i * FloatOps.logistic (F := Ideal) (φ := .f32) (k0_pay1 x0 x1 i) : EReal)) ei

end Cert.Proof.Proj

end
-- ==== Proof.ProjSpec.lean ====
module

public import proofs.«01_k».proof.Proof.Spec
public import Idealize.ShloMosaic.Lib.ValueIdx

/-! # The attention layer's projection: the specification

Every token's row is multiplied by the weights. The first three quarters of the columns are, head by head, the queries, the
keys and the values; the last quarter is the gate. Queries and keys are turned by the angles of the token's position. -/

@[expose] public section

noncomputable section

namespace Cert.Proof.Proj

open Idealize.ShloMosaic

/-- An entry of the projection. -/
def projected (x : (⟨2, ![32768, 1024]⟩ : Shape).Idx → EReal) (w : (⟨2, ![1024, 4096]⟩ : Shape).Idx → EReal) (n : Fin 32768) (e : Fin 4096) : EReal :=
  ∑ k : Fin 1024, x (ix2 n k) * w (ix2 k e)

/-- What the queries are scaled by. -/
def scale : EReal := Ideal.ofBits .f32 1040356334#32

/-- The two halves of a head turned by the angles with the given cosines and sines. -/
def turned (z : Fin 128 → EReal) (cs sn : Fin 64 → EReal) (d : Fin 128) : EReal :=
  if h : d.val < 64 then z d * cs ⟨d.val, h⟩ - z ⟨64 + d.val, by omega⟩ * sn ⟨d.val, h⟩
  else z d * cs ⟨d.val - 64, by omega⟩ + z ⟨d.val - 64, by omega⟩ * sn ⟨d.val - 64, by omega⟩

variable (x : (⟨2, ![32768, 1024]⟩ : Shape).Idx → EReal) (w : (⟨2, ![1024, 4096]⟩ : Shape).Idx → EReal)
  (cs sn : (⟨2, ![2048, 64]⟩ : Shape).Idx → EReal)

/-- Head `h` of sequence `b` at position `s`, the columns of the first head starting at `o`. -/
def head (o : ℕ) (ho : o + 1024 ≤ 4096) (b : Fin 16) (h : Fin 8) (s : Fin 2048) (d : Fin 128) : EReal :=
  projected x w ⟨2048 * b.val + s.val, by omega⟩ ⟨o + 128 * h.val + d.val, by omega⟩

/-- The queries, scaled. -/
def queries : (⟨4, ![16, 8, 2048, 128]⟩ : Shape).Idx → EReal := fun i =>
  turned (head x w 0 (by omega) (i 0) (i 1) (i 2)) (fun d => cs (ix2 (i 2) d)) (fun d => sn (ix2 (i 2) d)) (i 3) * scale

/-- The keys. -/
def keys : (⟨4, ![16, 8, 2048, 128]⟩ : Shape).Idx → EReal := fun i =>
  turned (head x w 1024 (by omega) (i 0) (i 1) (i 2)) (fun d => cs (ix2 (i 2) d)) (fun d => sn (ix2 (i 2) d)) (i 3)

/-- The values, positions last. -/
def values : (⟨4, ![16, 8, 128, 2048]⟩ : Shape).Idx → EReal := fun i => head x w 2048 (by omega) (i 0) (i 1) (i 3) (i 2)

/-- A gate: an entry of the projection times its logistic. -/
def gate (n : Fin 32768) (e : Fin 1024) : EReal :=
  projected x w n ⟨3072 + e.val, by omega⟩ * sigm (projected x w n ⟨3072 + e.val, by omega⟩)

/-- The gates. -/
def gates : (⟨2, ![32768, 1024]⟩ : Shape).Idx → EReal := fun i => gate x w (i 0) (i 1)

/-- An entry of the first half of a turned head. -/
theorem turned_lo (z : Fin 128 → EReal) (cs sn : Fin 64 → EReal) (d : Fin 64) :
    turned z cs sn ⟨d.val, by omega⟩ = z ⟨d.val, by omega⟩ * cs d - z ⟨64 + d.val, by omega⟩ * sn d := by
  unfold turned
  rw [dif_pos d.isLt]

/-- An entry of the second half of a turned head. -/
theorem turned_hi (z : Fin 128 → EReal) (cs sn : Fin 64 → EReal) (d : Fin 64) :
    turned z cs sn ⟨64 + d.val, by omega⟩ = z ⟨64 + d.val, by omega⟩ * cs d + z ⟨d.val, by omega⟩ * sn d := by
  have e : 64 + d.val - 64 = d.val := by omega
  unfold turned
  rw [dif_neg (by show ¬ 64 + d.val < 64; omega)]
  simp only [e]

/-- A position in a head is in its first or its second half. -/
theorem half_cases {p : Fin 128 → Prop} (lo : ∀ d : Fin 64, p ⟨d.val, by omega⟩) (hi : ∀ d : Fin 64, p ⟨64 + d.val, by omega⟩) (d : Fin 128) : p d := by
  by_cases h : d.val < 64
  · exact lo ⟨d.val, h⟩
  · have e : d = ⟨64 + (d.val - 64), by omega⟩ := Fin.ext (by show d.val = 64 + (d.val - 64); omega)
    rw [e]
    exact hi ⟨d.val - 64, by omega⟩

/-- An entry of the queries. -/
theorem queries_at (b : Fin 16) (h : Fin 8) (s : Fin 2048) (d : Fin 128) : queries x w cs sn (ix4 b h s d)
    = turned (head x w 0 (by omega) b h s) (fun d => cs (ix2 s d)) (fun d => sn (ix2 s d)) d * scale := rfl

/-- An entry of the keys. -/
theorem keys_at (b : Fin 16) (h : Fin 8) (s : Fin 2048) (d : Fin 128) : keys x w cs sn (ix4 b h s d)
    = turned (head x w 1024 (by omega) b h s) (fun d => cs (ix2 s d)) (fun d => sn (ix2 s d)) d := rfl

/-- The scale is a finite number, not negative. -/
theorem scale_real : ∃ r : ℝ, 0 ≤ r ∧ scale = (r : EReal) := by
  refine ⟨_, ?_, (by unfold scale; simp [Ideal.ofBits, Ideal.ieee]; rfl)⟩
  positivity

/-- The scale, a positive number, distributes over every sum. -/
theorem add_scale (a b : EReal) : (a + b) * scale = a * scale + b * scale := by
  obtain ⟨r, h0, h⟩ := scale_real
  rw [h]
  exact EReal.right_distrib_of_nonneg_of_ne_top (EReal.coe_nonneg.mpr h0) (EReal.coe_ne_top r) a b

/-- The queries' first half, the scale moved into the tables. -/
theorem turned_scale_lo (z : Fin 128 → EReal) (cs sn : Fin 64 → EReal) (d : Fin 64) :
    turned z cs sn ⟨d.val, by omega⟩ * scale = z ⟨d.val, by omega⟩ * (cs d * scale) + z ⟨64 + d.val, by omega⟩ * (-sn d * scale) := by
  rw [turned_lo, sub_eq_add_neg, add_scale, mul_assoc, ← mul_neg, mul_assoc]

/-- Their second half. -/
theorem turned_scale_hi (z : Fin 128 → EReal) (cs sn : Fin 64 → EReal) (d : Fin 64) :
    turned z cs sn ⟨64 + d.val, by omega⟩ * scale = z ⟨64 + d.val, by omega⟩ * (cs d * scale) + z ⟨d.val, by omega⟩ * (sn d * scale) := by
  rw [turned_hi, add_scale, mul_assoc, mul_assoc]

/-- The keys' first half, the sign moved into the table. -/
theorem turned_neg_lo (z : Fin 128 → EReal) (cs sn : Fin 64 → EReal) (d : Fin 64) :
    turned z cs sn ⟨d.val, by omega⟩ = z ⟨d.val, by omega⟩ * cs d + z ⟨64 + d.val, by omega⟩ * -sn d := by
  rw [turned_lo, sub_eq_add_neg, mul_neg]

end Cert.Proof.Proj

end
-- ==== Proof.ProjHost.lean ====
module

public import proofs.«01_k».proof.Proof.ProjTile
public import proofs.«01_k».proof.Proof.ProjSpec
public import Idealize.ShloMosaic.Lib.StableHlo.ReadAt

/-! # What the attention projection's windows show

The host lays the tables of cosines and sines out twice side by side, the sines' first copy negated, and scales the pair of
tables that the queries use. -/

@[expose] public section

noncomputable section

namespace Cert.Proof.Proj

open Idealize.ShloMosaic Idealize.ShloMosaic.TcCoe Cert.Kernel2Ideal Cert.Kernel2Ideal.Gen Idealize.SL.Sem

variable (m : (ℓ : Loc nD τ sig) → Buf (Elt Ideal) ℓ) (c : Dev nD)

/-- The tokens, the weights, and the tables of cosines and sines. -/
def tokens : S32768x1024.Idx → EReal := m ((c : Thread nD τ).loc main_arg0)
@[inherit_doc tokens] def weights : S1024x4096.Idx → EReal := m ((c : Thread nD τ).loc main_arg1)
@[inherit_doc tokens] def cosines : S2048x64.Idx → EReal := m ((c : Thread nD τ).loc main_arg2)
@[inherit_doc tokens] def sines : S2048x64.Idx → EReal := m ((c : Thread nD τ).loc main_arg3)

/-! ## The host's arrays -/

/-- The cosines' table, its first half. -/
theorem host_cos_lo (s : Fin 2048) (d : Fin 64) : V m c main_v0 (ix2 s ⟨d.val, by omega⟩) = cosines m c (ix2 s d) := by
  unfold V
  after_reads_at
  rfl

/-- The cosines' table, its second half. -/
theorem host_cos_hi (s : Fin 2048) (d : Fin 64) : V m c main_v0 (ix2 s ⟨64 + d.val, by omega⟩) = cosines m c (ix2 s d) := by
  unfold V
  after_reads_at
  rfl

/-- The sines' table, its first half. -/
theorem host_sin_lo (s : Fin 2048) (d : Fin 64) : V m c main_v2 (ix2 s ⟨d.val, by omega⟩) = (-sines m c (ix2 s d) : EReal) := by
  unfold V
  after_reads_at
  rfl

/-- The sines' table, its second half. -/
theorem host_sin_hi (s : Fin 2048) (d : Fin 64) : V m c main_v2 (ix2 s ⟨64 + d.val, by omega⟩) = sines m c (ix2 s d) := by
  unfold V
  after_reads_at
  rfl

/-- The scaled cosines' table, its first half. -/
theorem host_qcos_lo (s : Fin 2048) (d : Fin 64) : V m c main_v4 (ix2 s ⟨d.val, by omega⟩) = (cosines m c (ix2 s d) * scale : EReal) := by
  unfold V
  after_reads_at
  after_reads_at
  rfl

/-- The scaled cosines' table, its second half. -/
theorem host_qcos_hi (s : Fin 2048) (d : Fin 64) : V m c main_v4 (ix2 s ⟨64 + d.val, by omega⟩) = (cosines m c (ix2 s d) * scale : EReal) := by
  unfold V
  after_reads_at
  after_reads_at
  rfl

/-- The scaled sines' table, its first half. -/
theorem host_qsin_lo (s : Fin 2048) (d : Fin 64) : V m c main_v6 (ix2 s ⟨d.val, by omega⟩) = (-sines m c (ix2 s d) * scale : EReal) := by
  unfold V
  after_reads_at
  after_reads_at
  rfl

/-- The scaled sines' table, its second half. -/
theorem host_qsin_hi (s : Fin 2048) (d : Fin 64) : V m c main_v6 (ix2 s ⟨64 + d.val, by omega⟩) = (sines m c (ix2 s d) * scale : EReal) := by
  unfold V
  after_reads_at
  after_reads_at
  rfl

/-- The weights, their formats changed. -/
theorem host_w (i : S1024x4096.Idx) : V m c main_v7 i = weights m c i := by
  unfold V
  after_reads_at
  rfl

/-! ## The blocks -/

/-- The tokens' block at a point: the point's number. -/
theorem idx0 (t : Fin cfg0.N) : win0_0.index t 0 = t.val := by decide +revert
/-- The tables' block at a point: the tile's place in its sequence. -/
theorem idx2 (t : Fin cfg0.N) : win0_2.index t 0 = t.val % 4 := by decide +revert

/-- A place in a block that starts its array. -/
theorem at_start (b n : ℕ) : 0 * b + 1 * n = n := by omega

/-- The tokens' window shows 512 rows of the tokens. -/
theorem block_0 (t : Fin cfg0.N) (r : Fin 512) (n : Fin 1024) :
    iblk m c 0 t (ix2 r n) = tokens m c (ix2 ⟨512 * t.val + r.val, by have h : t.val < 64 := N_0 ▸ t.isLt; omega⟩ n) := by
  refine Eq.trans (b := V m c main_arg0 (ix2 ⟨512 * t.val + r.val, by have h : t.val < 64 := N_0 ▸ t.isLt; omega⟩ n)) ?_
    (congrFun (V_main_arg0 m c) _)
  blk_ext [iblk]
  · have h : win0_0.index t 0 = t.val := idx0 t
    rw [h]
    omega
  · show 0 * 1024 + n.val = n.val
    omega

/-- The weights' window shows all of them. -/
theorem block_1 (t : Fin cfg0.N) (i : S1024x4096.Idx) : iblk m c 1 t i = V m c main_v7 i := by
  refine congrArg (V m c main_v7) (funext fun a => Fin.ext ?_)
  fin_cases a <;> exact at_start _ _

/-- A table's window shows the rows of its positions: the sequences are four tiles long. -/
theorem block_2 (t : Fin cfg0.N) (r : Fin 512) (d : Fin 128) :
    iblk m c 2 t (ix2 r d) = V m c main_v4 (ix2 ⟨512 * (t.val % 4) + r.val, by omega⟩ d) := by
  refine congrArg (V m c main_v4) (funext fun a => Fin.ext ?_)
  fin_cases a
  · show win0_2.index t 0 * 512 + 1 * r.val = 512 * (t.val % 4) + r.val
    rw [idx2]
    omega
  · exact at_start _ _

@[inherit_doc block_2] theorem block_3 (t : Fin cfg0.N) (r : Fin 512) (d : Fin 128) :
    iblk m c 3 t (ix2 r d) = V m c main_v6 (ix2 ⟨512 * (t.val % 4) + r.val, by omega⟩ d) := by
  refine congrArg (V m c main_v6) (funext fun a => Fin.ext ?_)
  fin_cases a
  · show win0_2.index t 0 * 512 + 1 * r.val = 512 * (t.val % 4) + r.val
    rw [idx2]
    omega
  · exact at_start _ _

@[inherit_doc block_2] theorem block_4 (t : Fin cfg0.N) (r : Fin 512) (d : Fin 128) :
    iblk m c 4 t (ix2 r d) = V m c main_v0 (ix2 ⟨512 * (t.val % 4) + r.val, by omega⟩ d) := by
  refine congrArg (V m c main_v0) (funext fun a => Fin.ext ?_)
  fin_cases a
  · show win0_2.index t 0 * 512 + 1 * r.val = 512 * (t.val % 4) + r.val
    rw [idx2]
    omega
  · exact at_start _ _

@[inherit_doc block_2] theorem block_5 (t : Fin cfg0.N) (r : Fin 512) (d : Fin 128) :
    iblk m c 5 t (ix2 r d) = V m c main_v2 (ix2 ⟨512 * (t.val % 4) + r.val, by omega⟩ d) := by
  refine congrArg (V m c main_v2) (funext fun a => Fin.ext ?_)
  fin_cases a
  · show win0_2.index t 0 * 512 + 1 * r.val = 512 * (t.val % 4) + r.val
    rw [idx2]
    omega
  · exact at_start _ _

end Cert.Proof.Proj

end
-- ==== Proof.ProjResult.lean ====
module

public import proofs.«01_k».proof.Proof.ProjHost

/-! # The attention projection's arrays after its run -/

@[expose] public section

set_option maxRecDepth 16384
noncomputable section

namespace Cert.Proof.Proj

open Idealize.ShloMosaic Idealize.ShloMosaic.TcCoe Cert.Kernel2Ideal Cert.Kernel2Ideal.Gen Idealize.SL.Sem

variable (m : (ℓ : Loc nD τ sig) → Buf (Elt Ideal) ℓ) (c : Dev nD)

/-- An entry of a tile's projection is one of the whole projection's. -/
theorem tile_projected (t : Fin cfg0.N) (r : Fin 512) (e : Fin 4096) (n : Fin 32768) (hn : n.val = 512 * t.val + r.val) :
    (k0_pay1 (iblk m c 0 t) (iblk m c 1 t) : FVec Ideal S512x4096 .f32) (ix2 r e) = projected (tokens m c) (weights m c) n e := by
  refine (projected_at _ _ r e).trans (Finset.sum_congr rfl fun k _ => ?_)
  rw [block_0, block_1, host_w]
  exact congrArg (fun n => tokens m c (ix2 n k) * weights m c (ix2 k e)) (Fin.ext hn.symm)

/-- The queries' block at a point: the sequence and the tile's place in it. -/
theorem idx6 (t : Fin cfg0.N) : win0_6.index t 0 = t.val / 4 ∧ win0_6.index t 2 = t.val % 4 := by decide +revert
/-- The values' block at a point: the sequence and the tile's place in it. -/
theorem idx8 (t : Fin cfg0.N) : win0_8.index t 0 = t.val / 4 ∧ win0_8.index t 3 = t.val % 4 := by decide +revert
/-- The gates' block at a point: the point's number. -/
theorem idx9 (t : Fin cfg0.N) : win0_9.index t 0 = t.val := by decide +revert

/-- There are 64 points. -/
theorem lt_points (t : Fin cfg0.N) : t.val < 64 := lt_of_lt_of_eq t.isLt N_0

/-- The sequence of a tile. -/
def seqOf (t : Fin cfg0.N) : Fin 16 := ⟨t.val / 4, by have := lt_points t; omega⟩

/-- The position of a tile's row. -/
def posOf (t : Fin cfg0.N) (r : Fin 512) : Fin 2048 := ⟨512 * (t.val % 4) + r.val, by omega⟩

/-- The token of a tile's row. -/
def tokOf (t : Fin cfg0.N) (r : Fin 512) : Fin 32768 := ⟨512 * t.val + r.val, by have := lt_points t; omega⟩

/-- Where a tile of queries lies in their array. -/
theorem emb_6 (t : Fin cfg0.N) (h : Fin 8) (r : Fin 512) (d : Fin 128) :
    (win0_6.blk t).view.emb (ix4 0 h r d) = ix4 (seqOf t) h (posOf t r) d := by
  funext a
  refine Fin.ext ?_
  fin_cases a
  · show win0_6.index t 0 * 1 + 1 * 0 = t.val / 4
    rw [(idx6 t).1]
    omega
  · exact at_start _ _
  · show win0_6.index t 2 * 512 + 1 * r.val = 512 * (t.val % 4) + r.val
    rw [(idx6 t).2]
    omega
  · exact at_start _ _

/-- Where a tile of keys lies in theirs. -/
theorem emb_7 (t : Fin cfg0.N) (h : Fin 8) (r : Fin 512) (d : Fin 128) :
    (win0_7.blk t).view.emb (ix4 0 h r d) = ix4 (seqOf t) h (posOf t r) d := emb_6 t h r d

/-- Where a tile of values lies in theirs. -/
theorem emb_8 (t : Fin cfg0.N) (h : Fin 8) (d : Fin 128) (r : Fin 512) :
    (win0_8.blk t).view.emb (ix4 0 h d r) = ix4 (seqOf t) h d (posOf t r) := by
  funext a
  refine Fin.ext ?_
  fin_cases a
  · show win0_8.index t 0 * 1 + 1 * 0 = t.val / 4
    rw [(idx8 t).1]
    omega
  · exact at_start _ _
  · exact at_start _ _
  · show win0_8.index t 3 * 512 + 1 * r.val = 512 * (t.val % 4) + r.val
    rw [(idx8 t).2]
    omega

/-- Where a tile of gates lies in theirs. -/
theorem emb_9 (t : Fin cfg0.N) (r : Fin 512) (e : Fin 1024) : (win0_9.blk t).view.emb (ix2 r e) = ix2 (tokOf t r) e := by
  funext a
  refine Fin.ext ?_
  fin_cases a
  · show win0_9.index t 0 * 512 + 1 * r.val = 512 * t.val + r.val
    rw [idx9]
    omega
  · exact at_start _ _

/-- A tile's projection, column by column of a head. -/
theorem tile_head (o : ℕ) (ho : o + 1024 ≤ 4096) (t : Fin cfg0.N) (h : Fin 8) (r : Fin 512) (d : Fin 128) :
    (k0_pay1 (iblk m c 0 t) (iblk m c 1 t) : FVec Ideal S512x4096 .f32) (ix2 r ⟨o + 128 * h.val + d.val, by omega⟩)
      = head (tokens m c) (weights m c) o ho (seqOf t) h (posOf t r) d :=
  tile_projected m c t r _ _ (by show 2048 * (t.val / 4) + (512 * (t.val % 4) + r.val) = 512 * t.val + r.val; omega)

/-- An index of a block of one sequence. -/
theorem block_index {n p q : ℕ} (y : (⟨4, ![1, n, p, q]⟩ : Shape).Idx) : ∃ (h : Fin n) (r : Fin p) (d : Fin q), y = ix4 0 h r d := by
  refine ⟨y 1, y 2, y 3, funext fun a => ?_⟩
  fin_cases a
  · exact Subsingleton.elim (α := Fin 1) _ _
  · rfl
  · rfl
  · rfl

/-- The partner of an entry of the first half. -/
theorem across_lo (d : Fin 64) : across ⟨d.val, by omega⟩ = ⟨64 + d.val, by omega⟩ := Fin.ext (by show (d.val + 64) % 128 = 64 + d.val; omega)
/-- The partner of an entry of the second half. -/
theorem across_hi (d : Fin 64) : across ⟨64 + d.val, by omega⟩ = ⟨d.val, by omega⟩ := Fin.ext (by show (64 + d.val + 64) % 128 = d.val; omega)

/-- A tile's heads, over their own columns. -/
theorem heads_at (o : ℕ) (ho : o + 1024 ≤ 4096) (t : Fin cfg0.N) (C S : FVec Ideal S512x128 .f32) (h : Fin 8) (r : Fin 512) (d : Fin 128) :
    headsTile o ho (k0_pay1 (iblk m c 0 t) (iblk m c 1 t)) C S (ix4 0 h r d)
      = (head (tokens m c) (weights m c) o ho (seqOf t) h (posOf t r) d * C (ix2 r d)
        + head (tokens m c) (weights m c) o ho (seqOf t) h (posOf t r) (across d) * S (ix2 r d) : EReal) :=
  congrArg₂ (fun a b => (a * C (ix2 r d) + b * S (ix2 r d) : EReal)) (tile_head m c o ho t h r d) (tile_head m c o ho t h r (across d))

/-- The array of queries after the run. -/
theorem final_queries : (dats m 0 c).arrAt 6 cfg0.N = queries (tokens m c) (weights m c) (cosines m c) (sines m c) := by
  refine (dats m 0 c).arrAt_eq_of_covers 6 _ (by decide +kernel) fun t hf y => ?_
  blk_simp
  rw [after0_6, out_queries]
  obtain ⟨h, r, d, rfl⟩ := block_index (n := 8) (p := 512) (q := 128) y
  refine Eq.trans ?_ (congrArg (queries (tokens m c) (weights m c) (cosines m c) (sines m c)) (emb_6 t h r d)).symm
  refine (heads_at m c 0 (by omega) t _ _ h r d).trans ?_
  rw [block_2, block_3]
  rw [queries_at]
  revert d
  refine half_cases (fun d => ?_) (fun d => ?_)
  · rw [host_qcos_lo, host_qsin_lo, across_lo]
    exact (turned_scale_lo (head (tokens m c) (weights m c) 0 (by omega) (seqOf t) h (posOf t r)) (fun d => cosines m c (ix2 (posOf t r) d))
      (fun d => sines m c (ix2 (posOf t r) d)) d).symm
  · rw [host_qcos_hi, host_qsin_hi, across_hi]
    exact (turned_scale_hi (head (tokens m c) (weights m c) 0 (by omega) (seqOf t) h (posOf t r)) (fun d => cosines m c (ix2 (posOf t r) d))
      (fun d => sines m c (ix2 (posOf t r) d)) d).symm

/-- The array of keys after the run. -/
theorem final_keys : (dats m 0 c).arrAt 7 cfg0.N = keys (tokens m c) (weights m c) (cosines m c) (sines m c) := by
  refine (dats m 0 c).arrAt_eq_of_covers 7 _ (by decide +kernel) fun t hf y => ?_
  blk_simp
  rw [after0_7, out_keys]
  obtain ⟨h, r, d, rfl⟩ := block_index (n := 8) (p := 512) (q := 128) y
  refine Eq.trans ?_ (congrArg (keys (tokens m c) (weights m c) (cosines m c) (sines m c)) (emb_7 t h r d)).symm
  refine (heads_at m c 1024 (by omega) t _ _ h r d).trans ?_
  rw [block_4, block_5]
  rw [keys_at]
  revert d
  refine half_cases (fun d => ?_) (fun d => ?_)
  · rw [host_cos_lo, host_sin_lo, across_lo]
    exact (turned_neg_lo (head (tokens m c) (weights m c) 1024 (by omega) (seqOf t) h (posOf t r)) (fun d => cosines m c (ix2 (posOf t r) d))
      (fun d => sines m c (ix2 (posOf t r) d)) d).symm
  · rw [host_cos_hi, host_sin_hi, across_hi]
    exact (turned_hi (head (tokens m c) (weights m c) 1024 (by omega) (seqOf t) h (posOf t r)) (fun d => cosines m c (ix2 (posOf t r) d))
      (fun d => sines m c (ix2 (posOf t r) d)) d).symm

/-- The array of values after the run. -/
theorem final_values : (dats m 0 c).arrAt 8 cfg0.N = values (tokens m c) (weights m c) := by
  refine (dats m 0 c).arrAt_eq_of_covers 8 _ (by decide +kernel) fun t hf y => ?_
  blk_simp
  rw [after0_8]
  obtain ⟨h, d, r, rfl⟩ := block_index (n := 8) (p := 128) (q := 512) y
  refine Eq.trans ?_ (congrArg (values (tokens m c) (weights m c)) (emb_8 t h d r)).symm
  exact (out_values _ _ _ _ _ _ h d r).trans (tile_head m c 2048 (by omega) t h r d)

/-- The array of gates after the run. -/
theorem final_gates : (dats m 0 c).arrAt 9 cfg0.N = gates (tokens m c) (weights m c) := by
  refine (dats m 0 c).arrAt_eq_of_covers 9 _ (by decide +kernel) fun t hf y => ?_
  blk_simp
  rw [after0_9]
  obtain ⟨r, e, rfl⟩ : ∃ (r : Fin 512) (e : Fin 1024), y = ix2 r e := ⟨y 0, y 1, funext fun a => by fin_cases a <;> rfl⟩
  refine Eq.trans ?_ (congrArg (gates (tokens m c) (weights m c)) (emb_9 t r e)).symm
  refine (out_gates _ _ _ _ _ _ r e).trans ?_
  rw [tile_projected m c t r _ (tokOf t r) rfl]
  rfl

end Cert.Proof.Proj

end
-- ==== Proof.ProjRef.lean ====
module

public import proofs.«01_k».proof.Proof.ProjSpec
public import proofs.«01_k».proof.Proof.Gen.Reference2Ideal.Run
public import Idealize.ShloMosaic.Lib.Pointwise

/-! # The attention projection's reference, entry by entry -/

@[expose] public section

set_option maxRecDepth 16384
noncomputable section

namespace Cert.Proof.Proj

open Idealize.ShloMosaic Idealize.ShloMosaic.TcCoe Cert.Reference2Ideal Cert.Reference2Ideal.Gen Idealize.SL.Sem

variable (x : FVec Ideal S32768x1024 .f32) (w : FVec Ideal S1024x4096 .f32) (cs sn : FVec Ideal S2048x64 .f32)

/-- The reference's projection. -/
def refProj : FVec Ideal S32768x4096 .f32 := Host.dotGeneral dot_S32768x1024_S1024x4096_S32768x4096_1_0_0_1_n_n none x w

/-- An entry of the reference's product. -/
theorem refProj_at (n : Fin 32768) (e : Fin 4096) : refProj x w (ix2 n e) = projected x w n e := by
  unfold refProj projected
  pointwise

/-- A table with the batch's and the heads' axes added. -/
def wide (a : FVec Ideal S2048x64 .f32) : FVec Ideal S16x2048x8x64 .f32 :=
  broadcastInDim S16x2048x8x64 ![0, 1, 2, 3] bcast_S1x2048x1x64_S16x2048x8x64_0_1_2_3 (broadcastInDim S1x2048x1x64 ![1, 2, 3] bcast_S2048x1x64_S1x2048x1x64_1_2_3
    (broadcastInDim S2048x1x64 ![0, 2] bcast_S2048x64_S2048x1x64_0_2 a))

/-- The reference's turned heads, of heads `z`. -/
def refTurned (z : FVec Ideal S16x2048x8x128 .f32) : FVec Ideal S16x2048x8x128 .f32 :=
  concatenate S16x2048x8x128 3 [⟨S16x2048x8x64, subf (mulf (extractStridedSlice S16x2048x8x64 ![0, 0, 0, 0] z slices_S16x2048x8x128_S16x2048x8x64_0_0_0_0) (wide cs))
      (mulf (extractStridedSlice S16x2048x8x64 ![0, 0, 0, 64] z slices_S16x2048x8x128_S16x2048x8x64_0_0_0_64) (wide sn))⟩,
    ⟨S16x2048x8x64, addf (mulf (extractStridedSlice S16x2048x8x64 ![0, 0, 0, 64] z slices_S16x2048x8x128_S16x2048x8x64_0_0_0_64) (wide cs))
      (mulf (extractStridedSlice S16x2048x8x64 ![0, 0, 0, 0] z slices_S16x2048x8x128_S16x2048x8x64_0_0_0_0) (wide sn))⟩]
    concatenates_S16x2048x8x64_S16x2048x8x64_S16x2048x8x128_d3

/-- The first half of the reference's turned heads. -/
theorem refTurned_lo (z : FVec Ideal S16x2048x8x128 .f32) (b : Fin 16) (s : Fin 2048) (h : Fin 8) (d : Fin 64) :
    refTurned cs sn z (ix4 b s h ⟨d.val, by omega⟩) = turned (fun d => z (ix4 b s h d)) (fun d => cs (ix2 s d)) (fun d => sn (ix2 s d)) ⟨d.val, by omega⟩ := by
  rw [turned_lo]
  unfold refTurned wide
  pointwise

/-- The second half of the reference's turned heads. -/
theorem refTurned_hi (z : FVec Ideal S16x2048x8x128 .f32) (b : Fin 16) (s : Fin 2048) (h : Fin 8) (d : Fin 64) :
    refTurned cs sn z (ix4 b s h ⟨64 + d.val, by omega⟩) = turned (fun d => z (ix4 b s h d)) (fun d => cs (ix2 s d)) (fun d => sn (ix2 s d)) ⟨64 + d.val, by omega⟩ := by
  rw [turned_hi]
  unfold refTurned wide
  pointwise

/-- The reference's turned heads, position by position. -/
theorem refTurned_at (z : FVec Ideal S16x2048x8x128 .f32) (b : Fin 16) (s : Fin 2048) (h : Fin 8) (d : Fin 128) :
    refTurned cs sn z (ix4 b s h d) = turned (fun d => z (ix4 b s h d)) (fun d => cs (ix2 s d)) (fun d => sn (ix2 s d)) d :=
  half_cases (p := fun d => refTurned cs sn z (ix4 b s h d) = turned (fun d => z (ix4 b s h d)) (fun d => cs (ix2 s d)) (fun d => sn (ix2 s d)) d)
    (refTurned_lo cs sn z b s h) (refTurned_hi cs sn z b s h) d

/-- The projection's columns from `o` on, head by head. -/
def refHeads (o : ℕ) (hs : S32768x4096.Slices ![0, o] S32768x1024) : FVec Ideal S16x2048x8x128 .f32 :=
  shapeCast S16x2048x8x128 (extractStridedSlice S32768x1024 ![0, o] (refProj x w) hs) shapeCasts_S32768x1024_S16x2048x8x128

/-- An entry of the reference's heads. -/
theorem refHeads_at (o : ℕ) (hs : S32768x4096.Slices ![0, o] S32768x1024) (ho : o + 1024 ≤ 4096) (b : Fin 16) (s : Fin 2048) (h : Fin 8) (d : Fin 128) :
    refHeads x w o hs (ix4 b s h d) = head x w o ho b h s d := by
  refine Eq.trans ?_ (refProj_at x w ⟨2048 * b.val + s.val, by omega⟩ ⟨o + 128 * h.val + d.val, by omega⟩)
  unfold refHeads
  pointwise
  refine congrArg₂ (fun a b => refProj x w (ix2 a b)) (Fin.ext ?_) (Fin.ext ?_)
  · show b.val * 2048 + s.val = 2048 * b.val + s.val
    omega
  · show o + (h.val * 128 + d.val) = o + 128 * h.val + d.val
    omega

/-- Two arrays of rank four are equal when their entries are. -/
theorem ext4 {p q r n : ℕ} {f g : (⟨4, ![p, q, r, n]⟩ : Shape).Idx → EReal} (h : ∀ a b c d, f (ix4 a b c d) = g (ix4 a b c d)) : f = g :=
  funext fun i => by
    rw [ValueIdx.eq_ix4 i]
    exact h _ _ _ _

/-- The reference's queries. -/
theorem ref_queries : truncf .bf16 (transpose S16x8x2048x128 [0, 2, 1, 3] (mulf (refTurned cs sn (refHeads x w 0 slices_S32768x4096_S32768x1024_0_0))
      (broadcastInDim S16x2048x8x128 ![] bcast_S_S16x2048x8x128 (constant S_ .f32 0x3E0293EE#32))) transposes_S16x2048x8x128_S16x8x2048x128_0_2_1_3) bitsLt_bf16_f32
    = queries x w cs sn := by
  refine ext4 fun b h s d => ?_
  pointwise
  rw [refTurned_at]
  simp only [refHeads_at x w 0 _ (by omega)]
  rfl

/-- The reference's keys. -/
theorem ref_keys : truncf .bf16 (transpose S16x8x2048x128 [0, 2, 1, 3] (refTurned cs sn (refHeads x w 1024 slices_S32768x4096_S32768x1024_0_1024))
      transposes_S16x2048x8x128_S16x8x2048x128_0_2_1_3) bitsLt_bf16_f32
    = keys x w cs sn := by
  refine ext4 fun b h s d => ?_
  pointwise
  rw [refTurned_at]
  simp only [refHeads_at x w 1024 _ (by omega)]
  rfl

/-- The reference's values. -/
theorem ref_values : truncf .bf16 (transpose S16x8x128x2048 [0, 2, 3, 1] (refHeads x w 2048 slices_S32768x4096_S32768x1024_0_2048)
      transposes_S16x2048x8x128_S16x8x128x2048_0_2_3_1) bitsLt_bf16_f32
    = values x w := by
  refine ext4 fun b h d s => ?_
  pointwise
  exact refHeads_at x w 2048 _ (by omega) b s h d

/-- The reference's gates. -/
theorem ref_gates : truncf .bf16 (mulf (extractStridedSlice S32768x1024 ![0, 3072] (refProj x w) slices_S32768x4096_S32768x1024_0_3072)
      (Host.divf (broadcastInDim S32768x1024 ![] bcast_S_S32768x1024 (constant S_ .f32 0x3F800000#32))
        (addf (broadcastInDim S32768x1024 ![] bcast_S_S32768x1024 (constant S_ .f32 0x3F800000#32))
          (Host.exp (Host.negf (extractStridedSlice S32768x1024 ![0, 3072] (refProj x w) slices_S32768x4096_S32768x1024_0_3072)))))) bitsLt_bf16_f32
    = gates x w := by
  funext i
  obtain ⟨n, e, rfl⟩ : ∃ (n : Fin 32768) (e : Fin 1024), i = ix2 n e := ⟨i 0, i 1, ValueIdx.eq_ix2 i⟩
  pointwise
  rw [refProj_at]
  rfl

end Cert.Proof.Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.GateRefRun
public import proofs.«01_k».proof.Proof.GateRefValue
public import proofs.«01_k».proof.Proof.GateReal
public import proofs.«01_k».proof.Proof.GateRun
public import proofs.«01_k».proof.Proof.HoldResult
public import proofs.«01_k».proof.Proof.HoldRef
public import proofs.«01_k».proof.Proof.Fold
public import proofs.«01_k».proof.Proof.ProjResult
public import proofs.«01_k».proof.Proof.ProjRef
public import Idealize.ShloMosaic.Lib.Quiescent

/-! # The certificate -/

@[expose] public section

noncomputable section

namespace Cert.Proof

open Idealize.ShloMosaic Idealize.SL.Sem

/-- The sequence of states the reference's loop goes through, from the memory it starts in. -/
def refStates (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal := trips (start m c)

/-- Over exact arithmetic, kernel and reference end with the same result: the specification's, of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Value.G11 m c, Cert.KernelIdeal.Value.run m ρ, ?_⟩
  refine (θ_run _ _ _).mono (fun _ h c => ⟨(h c).1.trans ?_, (h c).2⟩)
    (reference_run m' ρ' (refStates m') (fun _ => rfl) (fun _ _ => rfl))
  obtain ⟨h0, h1, h2, h3, h4, h5, h6, h7, h8, h9, h10, h11, h12, h13⟩ := hag c
  refine Eq.trans ?_ (kernel_result m c).symm
  unfold refStates start
  rw [h0, h1, h2, h3, h4, h5, h6, h7, h8, h9, h10, h11, h12, h13]
  exact reference_result ..

/-- The reference runs to its end and leaves its arguments as they were. -/
theorem reference_frame : Cert.quiescent_ReferenceIdeal (hReferenceIdeal := Cert.ReferenceIdeal.Gen.facts) := by
  intro m ρ _
  exact (θ_run _ _ _).mono (fun r h => ⟨fun c => (h c).2, sem_eq_zero_of_no_sems rfl r.2⟩) (reference_run m ρ (refStates m) (fun _ => rfl) (fun _ _ => rfl))

/-- Over exact arithmetic, the attention layer's projection and its reference end with the same queries, keys, values and
gates. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Proj.queries (Proj.tokens m c) (Proj.weights m c) (Proj.cosines m c) (Proj.sines m c),
    fun c => Proj.keys (Proj.tokens m c) (Proj.weights m c) (Proj.cosines m c) (Proj.sines m c),
    fun c => Proj.values (Proj.tokens m c) (Proj.weights m c), fun c => Proj.gates (Proj.tokens m c) (Proj.weights m c), ?_, ?_⟩
  · exact (θ_run _ _ _).mono (fun _ h c => ⟨(h c).1.trans (Proj.final_queries m c), (h c).2.1.trans (Proj.final_keys m c),
      (h c).2.2.1.trans (Proj.final_values m c), (h c).2.2.2.1.trans (Proj.final_gates m c), (h c).2.2.2.2⟩)
      (Cert.Kernel2Ideal.Value.run_blocks m ρ)
  · refine (θ_run _ _ _).mono (fun _ h c => ?_) (Cert.Reference2Ideal.Value.run m' ρ')
    obtain ⟨q, k, v, g, rest⟩ := h c
    obtain ⟨h0, h1, h2, h3⟩ := hag c
    refine ⟨q.trans ?_, k.trans ?_, v.trans ?_, g.trans ?_, rest⟩
    all_goals rw [h0, h1]
    · rw [h2, h3]
      exact Proj.ref_queries _ _ _ _
    · rw [h2, h3]
      exact Proj.ref_keys _ _ _ _
    · exact Proj.ref_values _ _
    · exact Proj.ref_gates _ _

/-- The projection's reference runs to its end and leaves its arguments as they were. -/
theorem reference2_frame : Cert.quiescent_Reference2Ideal (hReference2Ideal := Cert.Reference2Ideal.Gen.facts) := by
  intro m ρ _
  exact (θ_run _ _ _).mono (fun r h => ⟨fun c => (h c).2.2.2.2, sem_eq_zero_of_no_sems rfl r.2⟩) (Cert.Reference2Ideal.Value.run m ρ)

/-- Over exact arithmetic, the discretization and its reference end with the same diagonal and input map. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Hold.rowsRe (Hold.rateRe m c) (Hold.rateIm m c) (Hold.logStep m c),
    fun c => Hold.rowsIm (Hold.rateRe m c) (Hold.rateIm m c) (Hold.logStep m c),
    fun c => Hold.inRe (Hold.rateRe m c) (Hold.rateIm m c) (Hold.logStep m c) (Hold.givenRe m c) (Hold.givenIm m c),
    fun c => Hold.inIm (Hold.rateRe m c) (Hold.rateIm m c) (Hold.logStep m c) (Hold.givenRe m c) (Hold.givenIm m c), ?_, ?_⟩
  · exact (θ_run _ _ _).mono (fun _ h c => ⟨(h c).1.trans (Hold.final_re m c), (h c).2.1.trans (Hold.final_im m c),
      (h c).2.2.1.trans (Hold.final_inRe m c), (h c).2.2.2.1.trans (Hold.final_inIm m c), (h c).2.2.2.2⟩)
      (Cert.Kernel3Ideal.Value.run_blocks m ρ)
  · refine (θ_run _ _ _).mono (fun _ h c => ?_) (Cert.Reference3Ideal.Value.run m' ρ')
    obtain ⟨r, i, p, q, rest⟩ := h c
    obtain ⟨h0, h1, h2, h3, h4⟩ := hag c
    refine ⟨r.trans ?_, i.trans ?_, p.trans ?_, q.trans ?_, rest⟩
    all_goals rw [h0, h1, h2]
    · exact Hold.ref_re _ _ _
    · exact Hold.ref_im _ _ _
    · rw [h3, h4]
      exact Hold.ref_inRe _ _ _ _ _
    · rw [h3, h4]
      exact Hold.ref_inIm _ _ _ _ _

/-- The discretization's reference runs to its end and leaves its arguments as they were. -/
theorem reference3_frame : Cert.quiescent_Reference3Ideal (hReference3Ideal := Cert.Reference3Ideal.Gen.facts) := by
  intro m ρ _
  exact (θ_run _ _ _).mono (fun r h => ⟨fun c => (h c).2.2.2.2, sem_eq_zero_of_no_sems rfl r.2⟩) (Cert.Reference3Ideal.Value.run m ρ)

/-- The gated recurrence's reference runs to its end and leaves its arguments as they were. -/
theorem reference4_frame : Cert.quiescent_Reference4Ideal (hReference4Ideal := Cert.Reference4Ideal.Gen.facts) := by
  intro m ρ _
  exact (θ_run _ _ _).mono (fun r h => ⟨fun c => (h c).2, sem_eq_zero_of_no_sems rfl r.2⟩)
    (GateRef.reference_run m ρ (GateRef.states m) (fun _ => rfl) (fun _ _ => rfl))

/-- The logarithm of 2 the gated recurrence divides by is the one the named constant says. -/
theorem preserves4 : Cert.preserves_Kernel4_Kernel4Ideal :=
  IdealRules.named_const.statement Cert.Kernel4Ideal.κ "inv_log2" .f32 0x3FB8AA3B#32 (((Real.log 2)⁻¹ : ℝ) : EReal) rfl

/-- On real rows and real first weights the gated recurrence's kernel and its reference end with the same array, the layer's. -/
theorem algebraic4 : Cert.algebraic_Kernel4Ideal_Reference4Ideal_pre_real_inputs (hKernel4Ideal := Cert.Kernel4Ideal.Gen.facts)
    (hReference4Ideal := Cert.Reference4Ideal.Gen.facts) (hPre_real_inputs := Gate.real_facts) := by
  intro m ρ m' ρ' hpre hag
  have hr := Gate.args_real m hpre
  refine ⟨fun c => Gate.result4 (Gate.argLayer m c), ?_, ?_⟩
  · exact (θ_run _ _ _).mono (fun _ h c => ⟨(h c).1.trans (Gate.final4 (hr c)), (h c).2⟩) (Gate.kernel_run m ρ)
  · refine (θ_run _ _ _).mono (fun _ h c => ⟨(h c).1.trans ?_, (h c).2⟩)
      (GateRef.reference_run m' ρ' (GateRef.states m') (fun _ => rfl) (fun _ _ => rfl))
    obtain ⟨h0, h1, h2, h3, h4, h5, -⟩ := hag c
    rw [GateRef.reference_value m' c (by rw [h0, h1]; exact hr c), h0, h1, h2, h3, h4, h5]
    rfl

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Gate.real_facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ,
    fun m ρ _ => Cert.Kernel4Ideal.Gen.frame m ρ, reference4_frame, fun m ρ _ => reference4_frame m ρ trivial,
    trivial, algebraic, trivial, algebraic2, trivial, algebraic3, preserves4, algebraic4⟩

end Cert.Proof

end
